-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_arguments [hPre_finite_arguments : Cert.Pre_finite_arguments.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_arguments [hPre_finite_arguments : Cert.Pre_finite_arguments.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))) = (fun _ => 1#1)

def Pre_Kernel3 [hPre_items_cover : Cert.Pre_items_cover.Facts] (m : (ℓ : Loc Cert.Kernel3.nD Cert.Kernel3.τ Cert.Kernel3.sig) → Buf (Elt Bits) ℓ) : Prop :=
  ∀ c : Dev Cert.Kernel3.nD,
    (Cert.Pre_items_cover.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_items_cover : Cert.Pre_items_cover.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_items_cover.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_items_cover [hPre_items_cover : Cert.Pre_items_cover.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_items_cover.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Kernel2Ideal_pre_finite_arguments [hKernel2Ideal : Cert.Kernel2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_arguments m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Reference2Ideal_pre_finite_arguments [hReference2Ideal : Cert.Reference2Ideal.Facts] [hPre_finite_arguments : Cert.Pre_finite_arguments.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_arguments m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Kernel3 [hKernel3 : Cert.Kernel3.Facts] [hPre_items_cover : Cert.Pre_items_cover.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_items_cover : Cert.Pre_items_cover.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_items_cover [hReference3Ideal : Cert.Reference3Ideal.Facts] [hPre_items_cover : Cert.Pre_items_cover.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_items_cover m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_arguments [hKernel2Ideal : Cert.Kernel2Ideal.Facts] [hReference2Ideal : Cert.Reference2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_arguments m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_v120) = v1 c
          ∧ r.2.mem ((c.tc : Thread Cert.Reference2Ideal.nD Cert.Reference2Ideal.τ).loc Cert.Reference2Ideal.main_v121) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18))

def preserves_Kernel3_Kernel3Ideal : Prop :=
  True

def algebraic_Kernel3Ideal_Reference3Ideal [hKernel3Ideal : Cert.Kernel3Ideal.Facts] [hReference3Ideal : Cert.Reference3Ideal.Facts] [hPre_items_cover : Cert.Pre_items_cover.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_arguments : Cert.Pre_finite_arguments.Facts) (hPre_items_cover : Cert.Pre_items_cover.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_arguments (hKernel2Ideal := hKernel2Ideal) (hPre_finite_arguments := hPre_finite_arguments)
    ∧ quiescent_Reference2Ideal (hReference2Ideal := hReference2Ideal)
    ∧ quiescent_Reference2Ideal_pre_finite_arguments (hReference2Ideal := hReference2Ideal) (hPre_finite_arguments := hPre_finite_arguments)
    ∧ quiescent_Kernel3 (hKernel3 := hKernel3) (hPre_items_cover := hPre_items_cover)
    ∧ quiescent_Kernel3Ideal (hKernel3Ideal := hKernel3Ideal) (hPre_items_cover := hPre_items_cover)
    ∧ quiescent_Reference3Ideal (hReference3Ideal := hReference3Ideal)
    ∧ quiescent_Reference3Ideal_pre_items_cover (hReference3Ideal := hReference3Ideal) (hPre_items_cover := hPre_items_cover)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_arguments (hKernel2Ideal := hKernel2Ideal) (hReference2Ideal := hReference2Ideal) (hPre_finite_arguments := hPre_finite_arguments)
    ∧ preserves_Kernel3_Kernel3Ideal
    ∧ algebraic_Kernel3Ideal_Reference3Ideal (hKernel3Ideal := hKernel3Ideal) (hReference3Ideal := hReference3Ideal) (hPre_items_cover := hPre_items_cover)
-- ==== Pre_finite_arguments.lean ====
abbrev S8x4096x1024 : Shape := ⟨3, ![8, 4096, 1024]⟩
abbrev S8x1024 : Shape := ⟨2, ![8, 1024]⟩
abbrev S8x4096x4x128 : Shape := ⟨4, ![8, 4096, 4, 128]⟩
abbrev S8x4096x512 : Shape := ⟨3, ![8, 4096, 512]⟩
abbrev S1024x6144 : Shape := ⟨2, ![1024, 6144]⟩
abbrev S6144 : Shape := ⟨1, ![6144]⟩
abbrev S128 : Shape := ⟨1, ![128]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x4096x4x128 : S_.BroadcastsInDim S8x4096x4x128 (![] : Fin 0 → Fin S8x4096x4x128.rank)
  reducesTo_S8x4096x4x128_S_d0_1_2_3 : S8x4096x4x128.ReducesTo [0, 1, 2, 3] S_
  bcast_S_S8x4096x512 : S_.BroadcastsInDim S8x4096x512 (![] : Fin 0 → Fin S8x4096x512.rank)
  reducesTo_S8x4096x512_S_d0_1_2 : S8x4096x512.ReducesTo [0, 1, 2] S_
  bcast_S_S1024x6144 : S_.BroadcastsInDim S1024x6144 (![] : Fin 0 → Fin S1024x6144.rank)
  reducesTo_S1024x6144_S_d0_1 : S1024x6144.ReducesTo [0, 1] S_
  bcast_S_S6144 : S_.BroadcastsInDim S6144 (![] : Fin 0 → Fin S6144.rank)
  reducesTo_S6144_S_d0 : S6144.ReducesTo [0] S_
  bcast_S_S128 : S_.BroadcastsInDim S128 (![] : Fin 0 → Fin S128.rank)
  reducesTo_S128_S_d0 : S128.ReducesTo [0] S_
  bcast_S_S4x512x1024 : S_.BroadcastsInDim S4x512x1024 (![] : Fin 0 → Fin S4x512x1024.rank)
  reducesTo_S4x512x1024_S_d0_1_2 : S4x512x1024.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_

variable [Facts]

def fn_part5 {F : FTy → Type} [FloatOps F] (main_v83 : IVec S_ 1) (main_v84 : FVec F S1024x32 .f32) (main_cst_32 : FVec F S_ .f32) : IVec S_ 1 :=
  let main_v85 : FVec F S1024x32 .f32 := broadcastInDim S1024x32 ![] bcast_S_S1024x32 main_cst_32
  let main_v86 : IVec S1024x32 1 := cmpf .olt main_v84 main_v85
  let main_c_33 : IVec S_ 1 := constantI S_ 1 1#1
  let main_v87 : IVec S_ 1 := (fun x v => Host.reduce IntOp.andi x v reducesTo_S1024x32_S_d0_1 h_S_) main_v86 main_c_33
  let main_v88 : IVec S_ 1 := andi main_v83 main_v87
  main_v88

def fn_part4 {F : FTy → Type} [FloatOps F] (main_arg14 : FVec F S1024x1024 .f32) (main_arg15 : FVec F S1024 .f32) (main_arg16 : FVec F S1024 .f32) (main_arg17 : FVec F S1024x32 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x32 .f32 := Host.absf main_arg17
  let main_cst_32 : FVec F S_ .f32 := constant S_ .f32 0x7F800000#32
  fn_part5 (F := F) main_v83 main_v84 main_cst_32

def fn_part3 {F : FTy → Type} [FloatOps F] (main_arg11 : FVec F S4x512x1024 .f32) (main_arg12 : FVec F S1024x4096 .f32) (main_arg13 : FVec F S4096 .f32) (main_arg14 : FVec F S1024x1024 .f32) (main_arg15 : FVec F S1024 .f32) (main_arg16 : FVec F S1024 .f32) (main_arg17 : FVec F S1024x32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S4x512x1024 .f32 := Host.absf main_arg11
  let main_cst_20 : FVec F S_ .f32 := constant S_ .f32 0x7F800000#32
  let main_v55 : FVec F S4x512x1024 .f32 := broadcastInDim S4x512x1024 ![] bcast_S_S4x512x1024 main_cst_20
  let main_v56 : IVec S4x512x1024 1 := cmpf .olt main_v54 main_v55
  let main_c_21 : IVec S_ 1 := constantI S_ 1 1#1
  let main_v57 : IVec S_ 1 := (fun x v => Host.reduce IntOp.andi x v reducesTo_S4x512x1024_S_d0_1_2 h_S_) main_v56 main_c_21
  let main_v58 : IVec S_ 1 := andi main_v53 main_v57
  let main_v59 : FVec F S1024x4096 .f32 := Host.absf main_arg12
  let main_cst_22 : FVec F S_ .f32 := constant S_ .f32 0x7F800000#32
  let main_v60 : FVec F S1024x4096 .f32 := broadcastInDim S1024x4096 ![] bcast_S_S1024x4096 main_cst_22
  let main_v61 : IVec S1024x4096 1 := cmpf .olt main_v59 main_v60
  let main_c_23 : IVec S_ 1 := constantI S_ 1 1#1
  let main_v62 : IVec S_ 1 := (fun x v => Host.reduce IntOp.andi x v reducesTo_S1024x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_arg14 main_arg15 main_arg16 main_arg17 main_v63 main_v67

def fn_part2 {F : FTy → Type} [FloatOps F] (main_arg7 : FVec F S8x4096x512 .f32) (main_arg8 : FVec F S1024x6144 .f32) (main_arg9 : FVec F S6144 .f32) (main_arg10 : FVec F S128 .f32) (main_arg11 : FVec F S4x512x1024 .f32) (main_arg12 : FVec F S1024x4096 .f32) (main_arg13 : FVec F S4096 .f32) (main_arg14 : FVec F S1024x1024 .f32) (main_arg15 : FVec F S1024 .f32) (main_arg16 : FVec F S1024 .f32) (main_arg17 : FVec F S1024x32 .f32) (main_v33 : IVec S_ 1) : IVec S_ 1 :=
  let main_v34 : FVec F S8x4096x512 .f32 := Host.absf main_arg7
  let main_cst_12 : FVec F S_ .f32 := constant S_ .f32 0x7F800000#32
  let main_v35 : FVec F S8x4096x512 .f32 := broadcastInDim S8x4096x512 ![] bcast_S_S8x4096x512 main_cst_12
  let main_v36 : IVec S8x4096x512 1 := cmpf .olt main_v34 main_v35
  let main_c_13 : IVec S_ 1 := constantI S_ 1 1#1
  let main_v37 : IVec S_ 1 := (fun x v => Host.reduce IntOp.andi x v reducesTo_S8x4096x512_S_d0_1_2 h_S_) main_v36 main_c_13
  let main_v38 : IVec S_ 1 := andi main_v33 main_v37
  let main_v39 : FVec F S1024x6144 .f32 := Host.absf main_arg8
  let main_cst_14 : FVec F S_ .f32 := constant S_ .f32 0x7F800000#32
  let main_v40 : FVec F S1024x6144 .f32 := broadcastInDim S1024x6144 ![] bcast_S_S1024x6144 main_cst_14
  let main_v41 : IVec S1024x6144 1 := cmpf .olt main_v39 main_v40
  let main_c_15 : IVec S_ 1 := constantI S_ 1 1#1
  let main_v42 : IVec S_ 1 := (fun x v => Host.reduce IntOp.andi x v reducesTo_S1024x6144_S_d0_1 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S8x4096x512 .f32) (main_arg5 : FVec F S8x4096x512 .f32) (main_arg6 : FVec F S8x4096x512 .f32) (main_arg7 : FVec F S8x4096x512 .f32) (main_arg8 : FVec F S1024x6144 .f32) (main_arg9 : FVec F S6144 .f32) (main_arg10 : FVec F S128 .f32) (main_arg11 : FVec F S4x512x1024 .f32) (main_arg12 : FVec F S1024x4096 .f32) (main_arg13 : FVec F S4096 .f32) (main_arg14 : FVec F S1024x1024 .f32) (main_arg15 : FVec F S1024 .f32) (main_arg16 : FVec F S1024 .f32) (main_arg17 : FVec F S1024x32 .f32) (main_v13 : IVec S_ 1) (main_v16 : IVec S8x4096x4x128 1) : IVec S_ 1 :=
  let main_c_5 : IVec S_ 1 := constantI S_ 1 1#1
  let main_v17 : IVec S_ 1 := (fun x v => Host.reduce IntOp.andi x v reducesTo_S8x4096x4x128_S_d0_1_2_3 h_S_) main_v16 main_c_5
  let main_v18 : IVec S_ 1 := andi main_v13 main_v17
  let main_v19 : FVec F S8x4096x512 .f32 := Host.absf main_arg4
  let main_cst_6 : FVec F S_ .f32 := constant S_ .f32 0x7F800000#32
  let main_v20 : FVec F S8x4096x512 .f32 := broadcastInDim S8x4096x512 ![] bcast_S_S8x4096x512 main_cst_6
  let main_v21 : IVec S8x4096x512 1 := cmpf .olt main_v19 main_v20
  let main_c_7 : IVec S_ 1 := constantI S_ 1 1#1
  let main_v22 : IVec S_ 1 := (fun x v => Host.reduce IntOp.andi x v reducesTo_S8x4096x512_S_d0_1_2 h_S_) main_v21 main_c_7
  let main_v23 : IVec S_ 1 := andi main_v18 main_v22
  let main_v24 : FVec F S8x4096x512 .f32 := Host.absf main_arg5
  let main_cst_8 : FVec F S_ .f32 := constant S_ .f32 0x7F800000#32
  let main_v25 : FVec F S8x4096x512 .f32 := broadcastInDim S8x4096x512 ![] bcast_S_S8x4096x512 main_cst_8
  let main_v26 : IVec S8x4096x512 1 := cmpf .olt main_v24 main_v25
  let main_c_9 : IVec S_ 1 := constantI S_ 1 1#1
  let main_v27 : IVec S_ 1 := (fun x v => Host.reduce IntOp.andi x v reducesTo_S8x4096x512_S_d0_1_2 h_S_) main_v26 main_c_9
  let main_v28 : IVec S_ 1 := andi main_v23 main_v27
  let main_v29 : FVec F S8x4096x512 .f32 := Host.absf main_arg6
  let main_cst_10 : FVec F S_ .f32 := constant S_ .f32 0x7F800000#32
  let main_v30 : FVec F S8x4096x512 .f32 := broadcastInDim S8x4096x512 ![] bcast_S_S8x4096x512 main_cst_10
  let main_v31 : IVec S8x4096x512 1 := cmpf .olt main_v29 main_v30
  let main_c_11 : IVec S_ 1 := constantI S_ 1 1#1
  let main_v32 : IVec S_ 1 := (fun x v => Host.reduce IntOp.andi x v reducesTo_S8x4096x512_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8x4096x1024 .f32) (main_arg1 : FVec F S8x1024 .f32) (main_arg2 : FVec F S8x4096x4x128 .f32) (main_arg3 : FVec F S8x4096x4x128 .f32) (main_arg4 : FVec F S8x4096x512 .f32) (main_arg5 : FVec F S8x4096x512 .f32) (main_arg6 : FVec F S8x4096x512 .f32) (main_arg7 : FVec F S8x4096x512 .f32) (main_arg8 : FVec F S1024x6144 .f32) (main_arg9 : FVec F S6144 .f32) (main_arg10 : FVec F S128 .f32) (main_arg11 : FVec F S4x512x1024 .f32) (main_arg12 : FVec F S1024x4096 .f32) (main_arg13 : FVec F S4096 .f32) (main_arg14 : FVec F S1024x1024 .f32) (main_arg15 : FVec F S1024 .f32) (main_arg16 : FVec F S1024 .f32) (main_arg17 : FVec F S1024x32 .f32) (main_arg18 : FVec F S32 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x4096x4x128 .f32 := Host.absf main_arg2
  let main_cst_2 : FVec F S_ .f32 := constant S_ .f32 0x7F800000#32
  let main_v10 : FVec F S8x4096x4x128 .f32 := broadcastInDim S8x4096x4x128 ![] bcast_S_S8x4096x4x128 main_cst_2
  let main_v11 : IVec S8x4096x4x128 1 := cmpf .olt main_v9 main_v10
  let main_c_3 : IVec S_ 1 := constantI S_ 1 1#1
  let main_v12 : IVec S_ 1 := (fun x v => Host.reduce IntOp.andi x v reducesTo_S8x4096x4x128_S_d0_1_2_3 h_S_) main_v11 main_c_3
  let main_v13 : IVec S_ 1 := andi main_v8 main_v12
  let main_v14 : FVec F S8x4096x4x128 .f32 := Host.absf main_arg3
  let main_cst_4 : FVec F S_ .f32 := constant S_ .f32 0x7F800000#32
  let main_v15 : FVec F S8x4096x4x128 .f32 := broadcastInDim S8x4096x4x128 ![] bcast_S_S8x4096x4x128 main_cst_4
  let main_v16 : IVec S8x4096x4x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Pre_finite_scores.lean ====
abbrev S8x4096x8x64 : Shape := ⟨4, ![8, 4096, 8, 64]⟩
abbrev S8x4352x2x64 : Shape := ⟨4, ![8, 4352, 2, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4352x2x64 : S_.BroadcastsInDim S8x4352x2x64 (![] : Fin 0 → Fin S8x4352x2x64.rank)
  reducesTo_S8x4352x2x64_S_d0_1_2_3 : S8x4352x2x64.ReducesTo [0, 1, 2, 3] S_

variable [Facts]

def fn {F : FTy → Type} [FloatOps F] (main_arg0 : FVec F S8x4096x8x64 .f32) (main_arg1 : FVec F S8x4352x2x64 .f32) (main_arg2 : FVec F S8x4352x2x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4352x2x64 .f32 := Host.absf main_arg1
  let main_cst_0 : FVec F S_ .f32 := constant S_ .f32 0x7F800000#32
  let main_v5 : FVec F S8x4352x2x64 .f32 := broadcastInDim S8x4352x2x64 ![] bcast_S_S8x4352x2x64 main_cst_0
  let main_v6 : IVec S8x4352x2x64 1 := cmpf .olt main_v4 main_v5
  let main_c_1 : IVec S_ 1 := constantI S_ 1 1#1
  let main_v7 : IVec S_ 1 := (fun x v => Host.reduce IntOp.andi x v reducesTo_S8x4352x2x64_S_d0_1_2_3 h_S_) main_v6 main_c_1
  let main_v8 : IVec S_ 1 := andi main_v3 main_v7
  main_v8
-- ==== Pre_items_cover.lean ====
abbrev S131072x512 : Shape := ⟨2, ![131072, 512]⟩
abbrev S287 : Shape := ⟨1, ![287]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1 : Shape := ⟨1, ![1]⟩
abbrev S286 : Shape := ⟨1, ![286]⟩
abbrev S_ : Shape := ⟨0, ![]⟩

class Facts : Prop where
  slices_S287_S286_1 : S287.Slices ![1] S286
  concatenates_S286_S1_S287_d0 : Shape.Concatenates [S286, S1] S287 0
  bcast_S_S287 : S_.BroadcastsInDim S287 (![] : Fin 0 → Fin S287.rank)
  slices_S287_S1_0 : S287.Slices ![0] S1
  bcast_S_S1 : S_.BroadcastsInDim S1 (![] : Fin 0 → Fin S1.rank)
  bcast_S1_S287_0 : S1.BroadcastsInDim S287 (![0] : Fin 1 → Fin S287.rank)

variable [Facts]

def fn_part1 {F : FTy → Type} [FloatOps F] (main_arg1 : IVec S287 32) (main_arg2 : IVec S287 32) (main_arg3 : IVec S287 32) (main_arg4 : IVec S287 32) (main_v3 : IVec S287 32) (main_v17 : IVec S287 1) (main_v18 : IVec S287 1) : IVec S287 1 :=
  let main_v19 : IVec S287 1 := andi main_v17 main_v18
  let main_c_4 : IVec S_ 32 := constantI S_ 32 512#32
  let main_v20 : IVec S287 32 := broadcastInDim S287 ![] bcast_S_S287 main_c_4
  let main_v21 : IVec S287 32 := addi main_v3 main_v20
  let main_v22 : IVec S287 1 := cmpi .slt main_arg3 main_v21
  let main_c_5 : IVec S_ 32 := constantI S_ 32 255#32
  let main_v23 : IVec S287 32 := broadcastInDim S287 ![] bcast_S_S287 main_c_5
  let main_v24 : IVec S287 1 := cmpi .eq main_arg1 main_v23
  let main_v25 : IVec S287 1 := ori main_v22 main_v24
  let main_v26 : IVec S287 1 := andi main_v19 main_v25
  let main_c_6 : IVec S_ 32 := constantI S_ 32 512#32
  let main_v27 : IVec S287 32 := broadcastInDim S287 ![] bcast_S_S287 main_c_6
  let main_v28 : IVec S287 32 := addi main_v3 main_v27
  let main_v29 : IVec S287 1 := cmpi .sle main_arg4 main_v28
  let main_v30 : IVec S287 1 := andi main_v26 main_v29
  let main_c_7 : IVec S_ 32 := constantI S_ 32 0#32
  let main_v31 : IVec S287 32 := broadcastInDim S287 ![] bcast_S_S287 main_c_7
  let main_v32 : IVec S287 1 := cmpi .sge main_arg2 main_v31
  let main_v33 : IVec S287 1 := andi main_v30 main_v32
  let main_c_8 : IVec S_ 32 := constantI S_ 32 32#32
  let main_v34 : IVec S287 32 := broadcastInDim S287 ![] bcast_S_S287 main_c_8
  let main_v35 : IVec S287 1 := cmpi .slt main_arg2 main_v34
  let main_v36 : IVec S287 1 := andi main_v33 main_v35
  main_v36

def fn {F : FTy → Type} [FloatOps F] (main_arg0 : IVec S131072x512 32) (main_arg1 : IVec S287 32) (main_arg2 : IVec S287 32) (main_arg3 : IVec S287 32) (main_arg4 : IVec S287 32) (main_arg5 : FVec F S2x32x1024x2048 .f32) (main_arg6 : FVec F S2x32x2048 .f32) (main_arg7 : FVec F S2x32x1024x1024 .f32) (main_arg8 : FVec F S2x32x1024 .f32) : IVec S287 1 :=
  let main_c : IVec S1 32 := constantI S1 32 131072#32
  let main_v0 : IVec S286 32 := (extractStridedSlice S286 ![1] · slices_S287_S286_1) main_arg3
  let main_v1 : IVec S287 32 := (fun a b => concatenate S287 0 [⟨S286, a⟩, ⟨S1, b⟩] concatenates_S286_S1_S287_d0) main_v0 main_c
  let main_c_0 : IVec S_ 32 := constantI S_ 32 512#32
  let main_v2 : IVec S287 32 := broadcastInDim S287 ![] bcast_S_S287 main_c_0
  let main_v3 : IVec S287 32 := muli main_arg1 main_v2
  let main_v4 : IVec S287 1 := cmpi .eq main_arg4 main_v1
  let main_v5 : IVec S1 32 := (extractStridedSlice S1 ![0] · slices_S287_S1_0) main_arg3
  let main_c_1 : IVec S_ 32 := constantI S_ 32 0#32
  let main_v6 : IVec S1 32 := broadcastInDim S1 ![] bcast_S_S1 main_c_1
  let main_v7 : IVec S1 1 := cmpi .eq main_v5 main_v6
  let main_v8 : IVec S287 1 := broadcastInDim S287 ![0] bcast_S1_S287_0 main_v7
  let main_v9 : IVec S287 1 := andi main_v4 main_v8
  let main_v10 : IVec S287 1 := cmpi .sle main_arg3 main_arg4
  let main_v11 : IVec S287 1 := andi main_v9 main_v10
  let main_c_2 : IVec S_ 32 := constantI S_ 32 0#32
  let main_v12 : IVec S287 32 := broadcastInDim S287 ![] bcast_S_S287 main_c_2
  let main_v13 : IVec S287 1 := cmpi .sge main_arg1 main_v12
  let main_v14 : IVec S287 1 := andi main_v11 main_v13
  let main_c_3 : IVec S_ 32 := constantI S_ 32 255#32
  let main_v15 : IVec S287 32 := broadcastInDim S287 ![] bcast_S_S287 main_c_3
  let main_v16 : IVec S287 1 := cmpi .sle main_arg1 main_v15
  let main_v17 : IVec S287 1 := andi main_v14 main_v16
  let main_v18 : IVec S287 1 := cmpi .sle main_v3 main_arg3
  fn_part1 (F := F) main_arg1 main_arg2 main_arg3 main_arg4 main_v3 main_v17 main_v18
-- ==== Kernel.lean ====
abbrev S8x4096x8x64 : Shape := ⟨4, ![8, 4096, 8, 64]⟩
abbrev S8x4352x2x64 : Shape := ⟨4, ![8, 4352, 2, 64]⟩
abbrev S_ : Shape := ⟨0, ![]⟩
abbrev S8x4096x512 : Shape := ⟨3, ![8, 4096, 512]⟩
abbrev S8x4352x64 : Shape := ⟨3, ![8, 4352, 64]⟩
abbrev S8x4352x1x64 : Shape := ⟨4, ![8, 4352, 1, 64]⟩
abbrev S8x4352x128 : Shape := ⟨3, ![8, 4352, 128]⟩
abbrev S8x1x4352x128 : Shape := ⟨4, ![8, 1, 4352, 128]⟩
abbrev S8x4x4352x128 : Shape := ⟨4, ![8, 4, 4352, 128]⟩
abbrev S8x4x128x4352 : Shape := ⟨4, ![8, 4, 128, 4352]⟩
abbrev S1x512x512 : Shape := ⟨3, ![1, 512, 512]⟩
abbrev S1x4x128x4352 : Shape := ⟨4, ![1, 4, 128, 4352]⟩
abbrev S1x4x4352x128 : Shape := ⟨4, ![1, 4, 4352, 128]⟩
abbrev S1x512x128 : Shape := ⟨3, ![1, 512, 128]⟩
abbrev S512x128 : Shape := ⟨2, ![512, 128]⟩
abbrev S1x1x128x4352 : Shape := ⟨4, ![1, 1, 128, 4352]⟩
abbrev S128x4352 : Shape := ⟨2, ![128, 4352]⟩
abbrev S512x4352 : Shape := ⟨2, ![512, 4352]⟩
abbrev S512 : Shape := ⟨1, ![512]⟩
abbrev S512x1 : Shape := ⟨2, ![512, 1]⟩
abbrev S1x1x4352x128 : Shape := ⟨4, ![1, 1, 4352, 128]⟩
abbrev S4352x128 : Shape := ⟨2, ![4352, 128]⟩

abbrev nBuf : Space → Nat
  | .hbm => 42
  | .vmem => 8
  | .smem => 0
  | _ => 0

abbrev bufTy : (tb : Table) → Fin (tcTables nBuf tb) → BufTy
  | .hbm, ⟨0, _⟩ => ⟨S8x4096x8x64, .f32⟩
  | .hbm, ⟨1, _⟩ => ⟨S8x4352x2x64, .f32⟩
  | .hbm, ⟨2, _⟩ => ⟨S8x4352x2x64, .f32⟩
  | .hbm, ⟨3, _⟩ => ⟨S_, .f32⟩
  | .hbm, ⟨4, _⟩ => ⟨S8x4096x8x64, .f32⟩
  | .hbm, ⟨5, _⟩ => ⟨S8x4096x8x64, .f32⟩
  | .hbm, ⟨6, _⟩ => ⟨S8x4096x512, .f32⟩
  | .hbm, ⟨7, _⟩ => ⟨S8x4096x512, .bf16⟩
  | .hbm, ⟨8, _⟩ => ⟨S_, .f32⟩
  | .hbm, ⟨9, _⟩ => ⟨S8x4352x64, .f32⟩
  | .hbm, ⟨10, _⟩ => ⟨S8x4352x1x64, .f32⟩
  | .hbm, ⟨11, _⟩ => ⟨S8x4352x64, .f32⟩
  | .hbm, ⟨12, _⟩ => ⟨S8x4352x1x64, .f32⟩
  | .hbm, ⟨13, _⟩ => ⟨S8x4352x64, .f32⟩
  | .hbm, ⟨14, _⟩ => ⟨S8x4352x128, .f32⟩
  | .hbm, ⟨15, _⟩ => ⟨S8x4352x128, .f32⟩
  | .hbm, ⟨16, _⟩ => ⟨S8x4352x128, .f32⟩
  | .hbm, ⟨17, _⟩ => ⟨S8x4352x128, .f32⟩
  | .hbm, ⟨18, _⟩ => ⟨S8x1x4352x128, .f32⟩
  | .hbm, ⟨19, _⟩ => ⟨S8x1x4352x128, .f32⟩
  | .hbm, ⟨20, _⟩ => ⟨S8x1x4352x128, .f32⟩
  | .hbm, ⟨21, _⟩ => ⟨S8x1x4352x128, .f32⟩
  | .hbm, ⟨22, _⟩ => ⟨S8x4x4352x128, .f32⟩
  | .hbm, ⟨23, _⟩ => ⟨S8x4x128x4352, .f32⟩
  | .hbm, ⟨24, _⟩ => ⟨S8x4x128x4352, .bf16⟩
  | .hbm, ⟨25, _⟩ => ⟨S_, .f32⟩
  | .hbm, ⟨26, _⟩ => ⟨S8x4352x64, .f32⟩
  | .hbm, ⟨27, _⟩ => ⟨S8x4352x1x64, .f32⟩
  | .hbm, ⟨28, _⟩ => ⟨S8x4352x64, .f32⟩
  | .hbm, ⟨29, _⟩ => ⟨S8x4352x1x64, .f32⟩
  | .hbm, ⟨30, _⟩ => ⟨S8x4352x64, .f32⟩
  | .hbm, ⟨31, _⟩ => ⟨S8x4352x128, .f32⟩
  | .hbm, ⟨32, _⟩ => ⟨S8x4352x128, .f32⟩
  | .hbm, ⟨33, _⟩ => ⟨S8x4352x128, .f32⟩
  | .hbm, ⟨34, _⟩ => ⟨S8x4352x128, .f32⟩
  | .hbm, ⟨35, _⟩ => ⟨S8x1x4352x128, .f32⟩
  | .hbm, ⟨36, _⟩ => ⟨S8x1x4352x128, .f32⟩
  | .hbm, ⟨37, _⟩ => ⟨S8x1x4352x128, .f32⟩
  | .hbm, ⟨38, _⟩ => ⟨S8x1x4352x128, .f32⟩
  | .hbm, ⟨39, _⟩ => ⟨S8x4x4352x128, .f32⟩
  | .hbm, ⟨40, _⟩ => ⟨S8x4x4352x128, .bf16⟩
  | .hbm, ⟨41, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4x128x4352, .bf16⟩
  | .local _ .vmem, ⟨3, _⟩ => ⟨S1x4x128x4352, .bf16⟩
  | .local _ .vmem, ⟨4, _⟩ => ⟨S1x4x4352x128, .bf16⟩
  | .local _ .vmem, ⟨5, _⟩ => ⟨S1x4x4352x128, .bf16⟩
  | .local _ .vmem, ⟨6, _⟩ => ⟨S1x512x512, .bf16⟩
  | .local _ .vmem, ⟨7, _⟩ => ⟨S1x512x512, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x8x64 : Shape := ⟨4, ![8, 4096, 8, 64]⟩
abbrev S8x4352x2x64 : Shape := ⟨4, ![8, 4352, 2, 64]⟩
abbrev S8x4096x2x4x64 : Shape := ⟨5, ![8, 4096, 2, 4, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4352x2x64, .f32⟩
  | .hbm, ⟨2, _⟩ => ⟨S8x4352x2x64, .f32⟩
  | .hbm, ⟨3, _⟩ => ⟨S8x4096x2x4x64, .f32⟩
  | .hbm, ⟨4, _⟩ => ⟨S8x2x4352x4096x4, .f32⟩
  | .hbm, ⟨5, _⟩ => ⟨S8x2x4x4096x4352, .f32⟩
  | .hbm, ⟨6, _⟩ => ⟨S_, .f32⟩
  | .hbm, ⟨7, _⟩ => ⟨S8x2x4x4096x4352, .f32⟩
  | .hbm, ⟨8, _⟩ => ⟨S8x2x4x4096x4352, .f32⟩
  | .hbm, ⟨9, _⟩ => ⟨S_, .f32⟩
  | .hbm, ⟨10, _⟩ => ⟨S8x2x4x4096, .f32⟩
  | .hbm, ⟨11, _⟩ => ⟨S_, .f32⟩
  | .hbm, ⟨12, _⟩ => ⟨S8x2x4x4096, .f32⟩
  | .hbm, ⟨13, _⟩ => ⟨S8x2x4x4096, .f32⟩
  | .hbm, ⟨14, _⟩ => ⟨S8x2x4x4096x1, .f32⟩
  | .hbm, ⟨15, _⟩ => ⟨S8x2x4x4096x4352, .f32⟩
  | .hbm, ⟨16, _⟩ => ⟨S8x2x4x4096x4352, .f32⟩
  | .hbm, ⟨17, _⟩ => ⟨S8x2x4x4096x4352, .f32⟩
  | .hbm, ⟨18, _⟩ => ⟨S_, .f32⟩
  | .hbm, ⟨19, _⟩ => ⟨S8x2x4x4096, .f32⟩
  | .hbm, ⟨20, _⟩ => ⟨S8x2x4x4096x1, .f32⟩
  | .hbm, ⟨21, _⟩ => ⟨S8x2x4x4096x4352, .f32⟩
  | .hbm, ⟨22, _⟩ => ⟨S8x2x4x4096x4352, .f32⟩
  | .hbm, ⟨23, _⟩ => ⟨S8x2x64x4x4096, .f32⟩
  | .hbm, ⟨24, _⟩ => ⟨S8x4096x2x4x64, .f32⟩
  | .hbm, ⟨25, _⟩ => ⟨S8x4096x512, .f32⟩
  | .hbm, ⟨26, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1024 : Shape := ⟨2, ![8, 1024]⟩
abbrev S8x4096x4x128 : Shape := ⟨4, ![8, 4096, 4, 128]⟩
abbrev S8x4096x512 : Shape := ⟨3, ![8, 4096, 512]⟩
abbrev S1024x6144 : Shape := ⟨2, ![1024, 6144]⟩
abbrev S6144 : Shape := ⟨1, ![6144]⟩
abbrev S128 : Shape := ⟨1, ![128]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S8x6144 : Shape := ⟨2, ![8, 6144]⟩
abbrev S1x6144 : Shape := ⟨2, ![1, 6144]⟩
abbrev S8x6x1024 : Shape := ⟨3, ![8, 6, 1024]⟩
abbrev S8x8x1024 : Shape := ⟨3, ![8, 8, 1024]⟩
abbrev S1x128 : Shape := ⟨2, ![1, 128]⟩
abbrev S1x4096 : Shape := ⟨2, ![1, 4096]⟩
abbrev S1x1024 : Shape := ⟨2, ![1, 1024]⟩
abbrev S1024x128 : Shape := ⟨2, ![1024, 128]⟩
abbrev S8x4096x128 : Shape := ⟨3, ![8, 4096, 128]⟩
abbrev S1x512x1024 : Shape := ⟨3, ![1, 512, 1024]⟩
abbrev S1x512x512 : Shape := ⟨3, ![1, 512, 512]⟩
abbrev S1x8x1024 : Shape := ⟨3, ![1, 8, 1024]⟩
abbrev S1x512x128 : Shape := ⟨3, ![1, 512, 128]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 59
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x4096x4x128, .f32⟩
  | .hbm, ⟨3, _⟩ => ⟨S8x4096x4x128, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S8x4096x512, .f32⟩
  | .hbm, ⟨8, _⟩ => ⟨S1024x6144, .f32⟩
  | .hbm, ⟨9, _⟩ => ⟨S6144, .f32⟩
  | .hbm, ⟨10, _⟩ => ⟨S128, .f32⟩
  | .hbm, ⟨11, _⟩ => ⟨S4x512x1024, .f32⟩
  | .hbm, ⟨12, _⟩ => ⟨S1024x4096, .f32⟩
  | .hbm, ⟨13, _⟩ => ⟨S4096, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x32, .f32⟩
  | .hbm, ⟨18, _⟩ => ⟨S32, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x6144, .f32⟩
  | .hbm, ⟨29, _⟩ => ⟨S1x6144, .f32⟩
  | .hbm, ⟨30, _⟩ => ⟨S8x6144, .f32⟩
  | .hbm, ⟨31, _⟩ => ⟨S8x6144, .f32⟩
  | .hbm, ⟨32, _⟩ => ⟨S8x6x1024, .f32⟩
  | .hbm, ⟨33, _⟩ => ⟨S_, .i32⟩
  | .hbm, ⟨34, _⟩ => ⟨S_, .f32⟩
  | .hbm, ⟨35, _⟩ => ⟨S8x8x1024, .f32⟩
  | .hbm, ⟨36, _⟩ => ⟨S1x128, .f32⟩
  | .hbm, ⟨37, _⟩ => ⟨S1024x4096, .bf16⟩
  | .hbm, ⟨38, _⟩ => ⟨S1x4096, .f32⟩
  | .hbm, ⟨39, _⟩ => ⟨S4x512x1024, .bf16⟩
  | .hbm, ⟨40, _⟩ => ⟨S1024x1024, .bf16⟩
  | .hbm, ⟨41, _⟩ => ⟨S1x1024, .f32⟩
  | .hbm, ⟨42, _⟩ => ⟨S1x1024, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S8x4096x512, .f32⟩
  | .hbm, ⟨51, _⟩ => ⟨S8x4096x512, .f32⟩
  | .hbm, ⟨52, _⟩ => ⟨S8x4096x512, .bf16⟩
  | .hbm, ⟨53, _⟩ => ⟨S8x4096x512, .bf16⟩
  | .hbm, ⟨54, _⟩ => ⟨S8x4096x512, .bf16⟩
  | .hbm, ⟨55, _⟩ => ⟨S8x4096x512, .bf16⟩
  | .hbm, ⟨56, _⟩ => ⟨S8x4096x1024, .f32⟩
  | .hbm, ⟨57, _⟩ => ⟨S8x4096x1024, .bf16⟩
  | .hbm, ⟨58, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x8x1024, .f32⟩
  | .local _ .vmem, ⟨15, _⟩ => ⟨S1x8x1024, .f32⟩
  | .local _ .vmem, ⟨16, _⟩ => ⟨S1x128, .f32⟩
  | .local _ .vmem, ⟨17, _⟩ => ⟨S1024x4096, .bf16⟩
  | .local _ .vmem, ⟨18, _⟩ => ⟨S1x4096, .f32⟩
  | .local _ .vmem, ⟨19, _⟩ => ⟨S4x512x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1024x128, .f32⟩
  | .local _ .vmem, ⟨24, _⟩ => ⟨S1x128, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .bf16⟩
  | .local _ .vmem, ⟨28, _⟩ => ⟨S1x512x1024, .bf16⟩
  | .local _ .vmem, ⟨29, _⟩ => ⟨S1x512x128, .f32⟩
  | .local _ .vmem, ⟨30, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c : Ref sig .tc := ⟨.hbm, 33, rfl⟩
abbrev main_call1_v0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_call2_v0 : Ref sig .tc := ⟨.hbm, 44, rfl⟩
abbrev main_v14 : Ref sig .tc := ⟨.hbm, 45, rfl⟩
abbrev main_c_1 : Ref sig .tc := ⟨.hbm, 46, rfl⟩
abbrev main_call3_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23_0 : Ref sig .tc := ⟨.hbm, 56, rfl⟩
abbrev main_v23_1 : Ref sig .tc := ⟨.hbm, 57, rfl⟩
abbrev main_v23_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference2Ideal.lean ====
abbrev S8x4096x1024 : Shape := ⟨3, ![8, 4096, 1024]⟩
abbrev S8x1024 : Shape := ⟨2, ![8, 1024]⟩
abbrev S8x4096x4x128 : Shape := ⟨4, ![8, 4096, 4, 128]⟩
abbrev S8x4096x512 : Shape := ⟨3, ![8, 4096, 512]⟩
abbrev S1024x6144 : Shape := ⟨2, ![1024, 6144]⟩
abbrev S6144 : Shape := ⟨1, ![6144]⟩
abbrev S128 : Shape := ⟨1, ![128]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S8x6144 : Shape := ⟨2, ![8, 6144]⟩
abbrev S1x6144 : Shape := ⟨2, ![1, 6144]⟩
abbrev S8x1x6x1024 : Shape := ⟨4, ![8, 1, 6, 1024]⟩
abbrev S8x1x1x1024 : Shape := ⟨4, ![8, 1, 1, 1024]⟩
abbrev S8x1x1024 : Shape := ⟨3, ![8, 1, 1024]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x4096 : Shape := ⟨3, ![8, 4096, 4096]⟩
abbrev S1x1x4096 : Shape := ⟨3, ![1, 1, 4096]⟩
abbrev S8x4096x4x1024 : Shape := ⟨4, ![8, 4096, 4, 1024]⟩
abbrev S8x4096x1x1024 : Shape := ⟨4, ![8, 4096, 1, 1024]⟩
abbrev S1x512x1024 : Shape := ⟨3, ![1, 512, 1024]⟩
abbrev S512x1024 : Shape := ⟨2, ![512, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x32 : Shape := ⟨3, ![8, 4096, 32]⟩
abbrev S1x1x32 : Shape := ⟨3, ![1, 1, 32]⟩
abbrev S8x4096x128 : Shape := ⟨3, ![8, 4096, 128]⟩

abbrev nBuf : Space → Nat
  | .hbm => 172
  | .vmem => 0
  | .smem => 0
  | _ => 0

abbrev hbmTy0_0 (i : Nat) : BufTy := match i % 128 with
  | 0 => ⟨S8x4096x1024, .f32⟩
  | 1 => ⟨S8x1024, .f32⟩
  | 2 => ⟨S8x4096x4x128, .f32⟩
  | 3 => ⟨S8x4096x4x128, .f32⟩
  | 4 => ⟨S8x4096x512, .f32⟩
  | 5 => ⟨S8x4096x512, .f32⟩
  | 6 => ⟨S8x4096x512, .f32⟩
  | 7 => ⟨S8x4096x512, .f32⟩
  | 8 => ⟨S1024x6144, .f32⟩
  | 9 => ⟨S6144, .f32⟩
  | 10 => ⟨S128, .f32⟩
  | 11 => ⟨S4x512x1024, .f32⟩
  | 12 => ⟨S1024x4096, .f32⟩
  | 13 => ⟨S4096, .f32⟩
  | 14 => ⟨S1024x1024, .f32⟩
  | 15 => ⟨S1024, .f32⟩
  | 16 => ⟨S1024, .f32⟩
  | 17 => ⟨S1024x32, .f32⟩
  | 18 => ⟨S32, .f32⟩
  | 19 => ⟨S8x1024, .f32⟩
  | 20 => ⟨S8x1024, .f32⟩
  | 21 => ⟨S_, .f32⟩
  | 22 => ⟨S8x1024, .f32⟩
  | 23 => ⟨S8x1024, .f32⟩
  | 24 => ⟨S_, .f32⟩
  | 25 => ⟨S8x1024, .f32⟩
  | 26 => ⟨S8x1024, .f32⟩
  | 27 => ⟨S8x1024, .f32⟩
  | 28 => ⟨S8x6144, .f32⟩
  | 29 => ⟨S1x6144, .f32⟩
  | 30 => ⟨S8x6144, .f32⟩
  | 31 => ⟨S8x6144, .f32⟩
  | 32 => ⟨S8x1x6x1024, .f32⟩
  | 33 => ⟨S8x1x1x1024, .f32⟩
  | 34 => ⟨S8x1x1024, .f32⟩
  | 35 => ⟨S8x1x1x1024, .f32⟩
  | 36 => ⟨S8x1x1024, .f32⟩
  | 37 => ⟨S8x1x1x1024, .f32⟩
  | 38 => ⟨S8x1x1024, .f32⟩
  | 39 => ⟨S8x1x1x1024, .f32⟩
  | 40 => ⟨S8x1x1024, .f32⟩
  | 41 => ⟨S8x1x1x1024, .f32⟩
  | 42 => ⟨S8x1x1024, .f32⟩
  | 43 => ⟨S8x1x1x1024, .f32⟩
  | 44 => ⟨S8x1x1024, .f32⟩
  | 45 => ⟨S_, .f32⟩
  | 46 => ⟨S8x1x1024, .f32⟩
  | 47 => ⟨S8x1x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S8x4096x4x128, .f32⟩
  | 53 => ⟨S8x4096x4x128, .f32⟩
  | 54 => ⟨S_, .f32⟩
  | 55 => ⟨S8x4096x4, .f32⟩
  | 56 => ⟨S8x4096x4x1, .f32⟩
  | 57 => ⟨S_, .f32⟩
  | 58 => ⟨S8x4096x4x1, .f32⟩
  | 59 => ⟨S8x4096x4x1, .f32⟩
  | 60 => ⟨S_, .f32⟩
  | 61 => ⟨S8x4096x4x1, .f32⟩
  | 62 => ⟨S8x4096x4x1, .f32⟩
  | 63 => ⟨S8x4096x4x1, .f32⟩
  | 64 => ⟨S8x4096x4x128, .f32⟩
  | 65 => ⟨S8x4096x4x128, .f32⟩
  | 66 => ⟨S1x1x1x128, .f32⟩
  | 67 => ⟨S8x4096x4x128, .f32⟩
  | 68 => ⟨S8x4096x4x128, .f32⟩
  | 69 => ⟨S8x4096x4x128, .f32⟩
  | 70 => ⟨S8x4096x4x128, .f32⟩
  | 71 => ⟨S8x4096x4x128, .f32⟩
  | 72 => ⟨S_, .f32⟩
  | 73 => ⟨S8x4096x4x128, .f32⟩
  | 74 => ⟨S8x4096x4x128, .f32⟩
  | 75 => ⟨S_, .f32⟩
  | 76 => ⟨S8x4096x4x128, .f32⟩
  | 77 => ⟨S8x4096x4x128, .f32⟩
  | 78 => ⟨S8x4096x4x128, .f32⟩
  | 79 => ⟨S8x4096x4x128, .f32⟩
  | 80 => ⟨S8x4096x512, .f32⟩
  | 81 => ⟨S8x4096x4096, .f32⟩
  | 82 => ⟨S1x1x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S_, .f32⟩
  | 88 => ⟨S8x4096x4096, .f32⟩
  | 89 => ⟨S8x4096x4096, .f32⟩
  | 90 => ⟨S_, .f32⟩
  | 91 => ⟨S8x4096x4096, .f32⟩
  | 92 => ⟨S8x4096x4096, .f32⟩
  | 93 => ⟨S8x4096x4x1024, .f32⟩
  | 94 => ⟨S8x4096x1x1024, .f32⟩
  | 95 => ⟨S8x4096x1024, .f32⟩
  | 96 => ⟨S1x512x1024, .f32⟩
  | 97 => ⟨S512x1024, .f32⟩
  | 98 => ⟨S8x4096x1024, .f32⟩
  | 99 => ⟨S8x4096x1024, .f32⟩
  | 100 => ⟨S8x4096x1x1024, .f32⟩
  | 101 => ⟨S8x4096x1024, .f32⟩
  | 102 => ⟨S1x512x1024, .f32⟩
  | 103 => ⟨S512x1024, .f32⟩
  | 104 => ⟨S8x4096x1024, .f32⟩
  | 105 => ⟨S8x4096x1024, .f32⟩
  | 106 => ⟨S8x4096x1024, .f32⟩
  | 107 => ⟨S8x4096x1x1024, .f32⟩
  | 108 => ⟨S8x4096x1024, .f32⟩
  | 109 => ⟨S1x512x1024, .f32⟩
  | 110 => ⟨S512x1024, .f32⟩
  | 111 => ⟨S8x4096x1024, .f32⟩
  | 112 => ⟨S8x4096x1024, .f32⟩
  | 113 => ⟨S8x4096x1024, .f32⟩
  | 114 => ⟨S8x4096x1x1024, .f32⟩
  | 115 => ⟨S8x4096x1024, .f32⟩
  | 116 => ⟨S1x512x1024, .f32⟩
  | 117 => ⟨S512x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S_, .f32⟩
  | 123 => ⟨S8x4096x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S_, .f32⟩
  | 1 => ⟨S8x4096, .f32⟩
  | 2 => ⟨S8x4096x1, .f32⟩
  | 3 => ⟨S_, .f32⟩
  | 4 => ⟨S8x4096x1, .f32⟩
  | 5 => ⟨S8x4096x1, .f32⟩
  | 6 => ⟨S8x4096x1024, .f32⟩
  | 7 => ⟨S8x4096x1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S8x4096x1024, .f32⟩
  | 16 => ⟨S8x4096x1024, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S_, .f32⟩
  | 30 => ⟨S8x1x1024, .f32⟩
  | 31 => ⟨S8x1x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S8x4096x32, .f32⟩
  | 37 => ⟨S1x1x32, .f32⟩
  | 38 => ⟨S8x4096x32, .f32⟩
  | 39 => ⟨S8x4096x32, .f32⟩
  | 40 => ⟨S8x4096x1024, .bf16⟩
  | 41 => ⟨S_, .i32⟩
  | 42 => ⟨S_, .f32⟩
  | 43 => ⟨S8x4096x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_0 : Ref sig .tc := ⟨.hbm, 54, rfl⟩
abbrev main_v26 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_3 : Ref sig .tc := ⟨.hbm, 87, rfl⟩
abbrev main_v48 : Ref sig .tc := ⟨.hbm, 88, rfl⟩
abbrev main_v49 : Ref sig .tc := ⟨.hbm, 89, rfl⟩
abbrev main_cst_4 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_5 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_6 : Ref sig .tc := ⟨.hbm, 128, rfl⟩
abbrev main_v86 : Ref sig .tc := ⟨.hbm, 129, rfl⟩
abbrev main_v87 : Ref sig .tc := ⟨.hbm, 130, rfl⟩
abbrev main_cst_7 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_8 : Ref sig .tc := ⟨.hbm, 137, rfl⟩
abbrev main_v93 : Ref sig .tc := ⟨.hbm, 138, rfl⟩
abbrev main_v94 : Ref sig .tc := ⟨.hbm, 139, rfl⟩
abbrev main_cst_9 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_10 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_11 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c : Ref sig .tc := ⟨.hbm, 169, rfl⟩
abbrev main_call2_v0 : Ref sig .tc := ⟨.hbm, 170, rfl⟩
abbrev main_v121 : Ref sig .tc := ⟨.hbm, 171, rfl⟩

abbrev nD : Nat := 1
abbrev τ : Topo := Topo.v7x

variable {F : FTy → Type} [FloatOps F]
-- ==== Kernel3.lean ====
abbrev S131072x512 : Shape := ⟨2, ![131072, 512]⟩
abbrev S287 : Shape := ⟨1, ![287]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S131072x1024 : Shape := ⟨2, ![131072, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩
abbrev S512x1 : Shape := ⟨2, ![512, 1]⟩

abbrev nBuf : Space → Nat
  | .hbm => 8
  | .vmem => 14
  | .smem => 4
  | _ => 0

abbrev bufTy : (tb : Table) → Fin (tcTables nBuf tb) → BufTy
  | .hbm, ⟨0, _⟩ => ⟨S131072x512, .i32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S2x32x1x2048, .f32⟩
  | .hbm, ⟨6, _⟩ => ⟨S2x32x1x1024, .f32⟩
  | .hbm, ⟨7, _⟩ => ⟨S131072x1024, .f32⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S287, .i32⟩
  | .local _ .smem, ⟨1, _⟩ => ⟨S287, .i32⟩
  | .local _ .smem, ⟨2, _⟩ => ⟨S287, .i32⟩
  | .local _ .smem, ⟨3, _⟩ => ⟨S287, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![287], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (v7 : BitVec 32) (v9 : BitVec 32) (v11 : BitVec 32) : BitVec 1 :=
  let c512_i32 : BitVec 32 := 512#32
  let v12 : BitVec 32 := Scalar.muli v11 c512_i32
  let v22 : BitVec 1 := Scalar.cmpi .eq v7 v12
  let v18 : BitVec 1 := Scalar.cmpi .eq v7 v12
  let c512_i32_2 : BitVec 32 := 512#32
  let v19 : BitVec 32 := Scalar.addi v12 c512_i32_2
  let v20 : BitVec 1 := Scalar.cmpi .eq v9 v19
  let v21 : BitVec 1 := Scalar.andi v18 v20
  let v_true : BitVec 1 := 1#1
  let v23 : BitVec 1 := Scalar.xori v21 v_true
  let v24 : BitVec 1 := Scalar.andi v22 v23
  let v25 : BitVec 32 := Scalar.extui v24
  let c0_i32_3 : BitVec 32 := 0#32
  let v26 : BitVec 1 := Scalar.cmpi .ne v25 c0_i32_3
  v26

def k0_cond3 (v7 : BitVec 32) (v9 : BitVec 32) : BitVec 1 :=
  let v27 : BitVec 1 := Scalar.cmpi .sgt v9 v7
  let v28 : BitVec 32 := Scalar.extui v27
  let c0_i32_4 : BitVec 32 := 0#32
  let v29 : BitVec 1 := Scalar.cmpi .ne v28 c0_i32_4
  v29

def k0_cond4 (v7 : BitVec 32) (v9 : BitVec 32) (v11 : BitVec 32) : BitVec 1 :=
  let c512_i32 : BitVec 32 := 512#32
  let v12 : BitVec 32 := Scalar.muli v11 c512_i32
  let v18 : BitVec 1 := Scalar.cmpi .eq v7 v12
  let c512_i32_2 : BitVec 32 := 512#32
  let v19 : BitVec 32 := Scalar.addi v12 c512_i32_2
  let v20 : BitVec 1 := Scalar.cmpi .eq v9 v19
  let v21 : BitVec 1 := Scalar.andi v18 v20
  let v67 : BitVec 32 := Scalar.extui v21
  let c0_i32_24 : BitVec 32 := 0#32
  let v68 : BitVec 1 := Scalar.cmpi .ne v67 c0_i32_24
  v68

def k0_cond5 (v7 : BitVec 32) (v9 : BitVec 32) (v11 : BitVec 32) : BitVec 1 :=
  let c512_i32 : BitVec 32 := 512#32
  let v12 : BitVec 32 := Scalar.muli v11 c512_i32
  let v18 : BitVec 1 := Scalar.cmpi .eq v7 v12
  let c512_i32_2 : BitVec 32 := 512#32
  let v19 : BitVec 32 := Scalar.addi v12 c512_i32_2
  let v20 : BitVec 1 := Scalar.cmpi .eq v9 v19
  let v21 : BitVec 1 := Scalar.andi v18 v20
  let true_25 : BitVec 1 := 1#1
  let v69 : BitVec 1 := Scalar.xori v21 true_25
  let v70 : BitVec 32 := Scalar.extui v69
  let c0_i32_26 : BitVec 32 := 0#32
  let v71 : BitVec 1 := Scalar.cmpi .ne v70 c0_i32_26
  v71

def cc0_transform_0 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S131072x512 : Shape := ⟨2, ![131072, 512]⟩
abbrev S287 : Shape := ⟨1, ![287]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S131072x512x2 : Shape := ⟨3, ![131072, 512, 2]⟩
abbrev S131072x2x512 : Shape := ⟨3, ![131072, 2, 512]⟩
abbrev S131072x1024 : Shape := ⟨2, ![131072, 1024]⟩
abbrev S131072 : Shape := ⟨1, ![131072]⟩
abbrev S131072x1 : Shape := ⟨2, ![131072, 1]⟩
abbrev S1x287 : Shape := ⟨2, ![1, 287]⟩
abbrev S131072x287 : Shape := ⟨2, ![131072, 287]⟩
abbrev S1x32x1024x2048 : Shape := ⟨4, ![1, 32, 1024, 2048]⟩
abbrev S32x1024x2048 : Shape := ⟨3, ![32, 1024, 2048]⟩
abbrev S32x2048x131072 : Shape := ⟨3, ![32, 2048, 131072]⟩
abbrev S32x131072x2048 : Shape := ⟨3, ![32, 131072, 2048]⟩
abbrev S1x32x2048 : Shape := ⟨3, ![1, 32, 2048]⟩
abbrev S32x2048 : Shape := ⟨2, ![32, 2048]⟩
abbrev S32x1x2048 : Shape := ⟨3, ![32, 1, 2048]⟩
abbrev S32x131072x1024 : Shape := ⟨3, ![32, 131072, 1024]⟩
abbrev S_ : Shape := ⟨0, ![]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S32x1x1024 : Shape := ⟨3, ![32, 1, 1024]⟩
abbrev S32 : Shape := ⟨1, ![32]⟩
abbrev S32x1x1 : Shape := ⟨3, ![32, 1, 1]⟩
abbrev S1x131072x287 : Shape := ⟨3, ![1, 131072, 287]⟩
abbrev S1x1x287 : Shape := ⟨3, ![1, 1, 287]⟩
abbrev S32x1x287 : Shape := ⟨3, ![32, 1, 287]⟩
abbrev S32x131072x287 : Shape := ⟨3, ![32, 131072, 287]⟩
abbrev S32x131072 : Shape := ⟨2, ![32, 131072]⟩
abbrev S32x131072x1 : Shape := ⟨3, ![32, 131072, 1]⟩

abbrev nBuf : Space → Nat
  | .hbm => 88
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S287, .i32⟩
  | .hbm, ⟨2, _⟩ => ⟨S287, .i32⟩
  | .hbm, ⟨3, _⟩ => ⟨S287, .i32⟩
  | .hbm, ⟨4, _⟩ => ⟨S287, .i32⟩
  | .hbm, ⟨5, _⟩ => ⟨S2x32x1024x2048, .f32⟩
  | .hbm, ⟨6, _⟩ => ⟨S2x32x2048, .f32⟩
  | .hbm, ⟨7, _⟩ => ⟨S2x32x1024x1024, .f32⟩
  | .hbm, ⟨8, _⟩ => ⟨S2x32x1024, .f32⟩
  | .hbm, ⟨9, _⟩ => ⟨S131072x512x2, .bf16⟩
  | .hbm, ⟨10, _⟩ => ⟨S131072x2x512, .bf16⟩
  | .hbm, ⟨11, _⟩ => ⟨S131072x1024, .bf16⟩
  | .hbm, ⟨12, _⟩ => ⟨S131072x1024, .f32⟩
  | .hbm, ⟨13, _⟩ => ⟨S131072, .i32⟩
  | .hbm, ⟨14, _⟩ => ⟨S131072x1, .i32⟩
  | .hbm, ⟨15, _⟩ => ⟨S1x287, .i32⟩
  | .hbm, ⟨16, _⟩ => ⟨S131072x287, .i32⟩
  | .hbm, ⟨17, _⟩ => ⟨S131072x287, .i32⟩
  | .hbm, ⟨18, _⟩ => ⟨S131072x287, .i1⟩
  | .hbm, ⟨19, _⟩ => ⟨S1x287, .i32⟩
  | .hbm, ⟨20, _⟩ => ⟨S131072x287, .i32⟩
  | .hbm, ⟨21, _⟩ => ⟨S131072x287, .i32⟩
  | .hbm, ⟨22, _⟩ => ⟨S131072x287, .i1⟩
  | .hbm, ⟨23, _⟩ => ⟨S131072x287, .i1⟩
  | .hbm, ⟨24, _⟩ => ⟨S1x32x1024x2048, .f32⟩
  | .hbm, ⟨25, _⟩ => ⟨S32x1024x2048, .f32⟩
  | .hbm, ⟨26, _⟩ => ⟨S32x2048x131072, .f32⟩
  | .hbm, ⟨27, _⟩ => ⟨S32x131072x2048, .f32⟩
  | .hbm, ⟨28, _⟩ => ⟨S1x32x2048, .f32⟩
  | .hbm, ⟨29, _⟩ => ⟨S32x2048, .f32⟩
  | .hbm, ⟨30, _⟩ => ⟨S32x1x2048, .f32⟩
  | .hbm, ⟨31, _⟩ => ⟨S32x131072x2048, .f32⟩
  | .hbm, ⟨32, _⟩ => ⟨S32x131072x2048, .f32⟩
  | .hbm, ⟨33, _⟩ => ⟨S32x131072x1024, .f32⟩
  | .hbm, ⟨34, _⟩ => ⟨S_, .f32⟩
  | .hbm, ⟨35, _⟩ => ⟨S32x131072x1024, .f32⟩
  | .hbm, ⟨36, _⟩ => ⟨S32x131072x1024, .f32⟩
  | .hbm, ⟨37, _⟩ => ⟨S32x131072x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x131072x1024, .f32⟩
  | .hbm, ⟨42, _⟩ => ⟨S32x131072x1024, .f32⟩
  | .hbm, ⟨43, _⟩ => ⟨S_, .f32⟩
  | .hbm, ⟨44, _⟩ => ⟨S32x131072x1024, .f32⟩
  | .hbm, ⟨45, _⟩ => ⟨S32x131072x1024, .f32⟩
  | .hbm, ⟨46, _⟩ => ⟨S_, .f32⟩
  | .hbm, ⟨47, _⟩ => ⟨S32x131072x1024, .f32⟩
  | .hbm, ⟨48, _⟩ => ⟨S32x131072x1024, .f32⟩
  | .hbm, ⟨49, _⟩ => ⟨S32x131072x1024, .f32⟩
  | .hbm, ⟨50, _⟩ => ⟨S_, .f32⟩
  | .hbm, ⟨51, _⟩ => ⟨S32x131072x1024, .f32⟩
  | .hbm, ⟨52, _⟩ => ⟨S32x131072x1024, .f32⟩
  | .hbm, ⟨53, _⟩ => ⟨S32x131072x1024, .f32⟩
  | .hbm, ⟨54, _⟩ => ⟨S32x131072x1024, .f32⟩
  | .hbm, ⟨55, _⟩ => ⟨S_, .f32⟩
  | .hbm, ⟨56, _⟩ => ⟨S32x131072x1024, .f32⟩
  | .hbm, ⟨57, _⟩ => ⟨S32x131072x1024, .f32⟩
  | .hbm, ⟨58, _⟩ => ⟨S_, .f32⟩
  | .hbm, ⟨59, _⟩ => ⟨S32x131072x1024, .f32⟩
  | .hbm, ⟨60, _⟩ => ⟨S32x131072x1024, .f32⟩
  | .hbm, ⟨61, _⟩ => ⟨S32x131072x1024, .f32⟩
  | .hbm, ⟨62, _⟩ => ⟨S1x32x1024x1024, .f32⟩
  | .hbm, ⟨63, _⟩ => ⟨S32x1024x1024, .f32⟩
  | .hbm, ⟨64, _⟩ => ⟨S32x131072x1024, .f32⟩
  | .hbm, ⟨65, _⟩ => ⟨S1x32x1024, .f32⟩
  | .hbm, ⟨66, _⟩ => ⟨S32x1024, .f32⟩
  | .hbm, ⟨67, _⟩ => ⟨S32x1x1024, .f32⟩
  | .hbm, ⟨68, _⟩ => ⟨S32x131072x1024, .f32⟩
  | .hbm, ⟨69, _⟩ => ⟨S32x131072x1024, .f32⟩
  | .hbm, ⟨70, _⟩ => ⟨S32, .i32⟩
  | .hbm, ⟨71, _⟩ => ⟨S32x1x1, .i32⟩
  | .hbm, ⟨72, _⟩ => ⟨S1x131072x287, .i1⟩
  | .hbm, ⟨73, _⟩ => ⟨S1x1x287, .i32⟩
  | .hbm, ⟨74, _⟩ => ⟨S32x1x287, .i32⟩
  | .hbm, ⟨75, _⟩ => ⟨S32x1x287, .i32⟩
  | .hbm, ⟨76, _⟩ => ⟨S32x1x287, .i1⟩
  | .hbm, ⟨77, _⟩ => ⟨S32x131072x287, .i1⟩
  | .hbm, ⟨78, _⟩ => ⟨S32x131072x287, .i1⟩
  | .hbm, ⟨79, _⟩ => ⟨S32x131072x287, .i1⟩
  | .hbm, ⟨80, _⟩ => ⟨S32x131072x287, .f32⟩
  | .hbm, ⟨81, _⟩ => ⟨S_, .f32⟩
  | .hbm, ⟨82, _⟩ => ⟨S32x131072, .f32⟩
  | .hbm, ⟨83, _⟩ => ⟨S32x131072x1, .f32⟩
  | .hbm, ⟨84, _⟩ => ⟨S32x131072x1024, .f32⟩
  | .hbm, ⟨85, _⟩ => ⟨S32x131072x1024, .f32⟩
  | .hbm, ⟨86, _⟩ => ⟨S_, .f32⟩
  | .hbm, ⟨87, _⟩ => ⟨S131072x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Proof.AttMath.lean ====
/- Row attention over the extended reals: scores, their largest, the weighted mean of values. -/
module

public import Idealize.ShloMosaic.Lib.IdealHost
public import Idealize.ShloMosaic.Lib.Pointwise

@[expose] public section

noncomputable section

namespace Cert.Att

open Idealize.ShloMosaic

variable {n : ℕ}

/-- A value that is neither infinity. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.sum {ι : Type} (s : Finset ι) {f : ι → EReal} (hf : ∀ i, Real' (f i)) : Real' (∑ i ∈ s, f i) :=
  Finset.sum_induction f Real' (fun x y hx hy => by
    obtain ⟨a, rfl⟩ := hx; obtain ⟨b, rfl⟩ := hy; exact ⟨a + b, (EReal.coe_add a b).symm⟩) ⟨0, rfl⟩ fun i _ => hf i

/-- A finite real factor that is not negative goes through a sum of any extended reals. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, mul_comm, EReal.left_distrib_of_nonneg_of_ne_top (EReal.coe_nonneg.2 hc) (EReal.coe_ne_top c),
      mul_comm (c : EReal), mul_comm (c : EReal), ih]

/-- The largest of a row of scores. -/
def top (s : Fin n → EReal) : EReal := Finset.univ.fold max (Ideal.ofBits .f32 0xFF800000#32) s

/-- One query's attention to `n` keys with scores `s`, of the values `w`: the weighted sum over the sum of weights. -/
def att (s w : Fin n → EReal) : EReal :=
  Ideal.div (∑ x, Ideal.exp (s x - top s) * w x) (∑ x, Ideal.exp (s x - top s))

theorem att_congr {s s' w w' : Fin n → EReal} (hs : ∀ x, s x = s' x) (hw : ∀ x, w x = w' x) : att s w = att s' w' := by
  rw [funext hs, funext hw]

theorem negInf : Ideal.ofBits .f32 0xFF800000#32 = ⊥ := by
  simp [Ideal.ofBits, Ideal.ieee]

theorem top_eq (s : Fin n → EReal) : top s = Finset.univ.sup s := by
  rw [top, negInf]; rfl

theorem top_real [NeZero n] {s : Fin n → EReal} (hs : ∀ x, Real' (s x)) : Real' (top s) := by
  obtain ⟨i, -, hi⟩ := Finset.exists_mem_eq_sup Finset.univ ⟨0, Finset.mem_univ _⟩ s
  rw [top_eq, hi]
  exact hs i

theorem weight_pos [NeZero n] {s : Fin n → EReal} (hs : ∀ x, Real' (s x)) (x : Fin n) : ∃ r : ℝ, 0 < r ∧ Ideal.exp (s x - top s) = (r : EReal) := by
  obtain ⟨a, ha⟩ := hs x
  obtain ⟨b, hb⟩ := top_real hs
  exact ⟨Real.exp (a - b), Real.exp_pos _, by rw [ha, hb, ← EReal.coe_sub, Ideal.exp_coe]⟩

theorem total_pos [NeZero n] {s : Fin n → EReal} (hs : ∀ x, Real' (s x)) : ∃ r : ℝ, 0 < r ∧ ∑ x, Ideal.exp (s x - top s) = (r : EReal) :=
  Finset.sum_induction_nonempty (fun x => Ideal.exp (s x - top s)) (fun e => ∃ r : ℝ, 0 < r ∧ e = (r : EReal))
    (fun _ _ ⟨a, ha, hx⟩ ⟨b, hb, hy⟩ => ⟨a + b, add_pos ha hb, by rw [hx, hy, EReal.coe_add]⟩)
    ⟨0, Finset.mem_univ _⟩ fun x _ => weight_pos hs x

/-- Attention to values that are zero is zero. -/
theorem att_zero [NeZero n] {s : Fin n → EReal} (hs : ∀ x, Real' (s x)) : att s (fun _ => 0) = 0 := by
  obtain ⟨r, hr, h⟩ := total_pos hs
  rw [att, h, Ideal.div_coe hr.ne']
  simp

/-- Dividing the weighted sum by the sum of the weights is weighing by the divided weights, taken on either side of the values. -/
theorem att_eq [NeZero n] {s : Fin n → EReal} (w : Fin n → EReal) (hs : ∀ x, Real' (s x)) :
    att s w = ∑ x, w x * Ideal.div (Ideal.exp (s x - max (Ideal.ofBits .f32 0xFF800000#32) (top s)))
      (∑ z, Ideal.exp (s z - max (Ideal.ofBits .f32 0xFF800000#32) (top s))) := by
  rw [negInf, max_eq_right bot_le]
  obtain ⟨r, hr, h⟩ := total_pos hs
  rw [att, h, Ideal.div_coe hr.ne', sum_mul_coe _ _ (one_div_nonneg.2 hr.le)]
  refine Finset.sum_congr rfl fun x _ => ?_
  rw [Ideal.div_coe hr.ne', mul_right_comm, mul_comm]

/-- A dot product over 128 lanes with a vector placed in the low 64. -/
theorem dot_lo (a : Fin 128 → EReal) (b : Fin 64 → EReal) (p : Fin 128 → EReal)
    (hl : ∀ x : Fin 64, p (Fin.castAdd 64 x) = b x) (hh : ∀ x : Fin 64, p (Fin.natAdd 64 x) = 0) :
    ∑ x, a x * p x = ∑ x : Fin 64, a (Fin.castAdd 64 x) * b x := by
  rw [Fin.sum_univ_add (a := 64) (b := 64) fun x => a x * p x]
  simp only [hl, hh, mul_zero, Finset.sum_const_zero, add_zero, zero_add]

/-- A dot product over 128 lanes with a vector placed in the high 64. -/
theorem dot_hi (a : Fin 128 → EReal) (b : Fin 64 → EReal) (p : Fin 128 → EReal)
    (hl : ∀ x : Fin 64, p (Fin.castAdd 64 x) = 0) (hh : ∀ x : Fin 64, p (Fin.natAdd 64 x) = b x) :
    ∑ x, a x * p x = ∑ x : Fin 64, a (Fin.natAdd 64 x) * b x := by
  rw [Fin.sum_univ_add (a := 64) (b := 64) fun x => a x * p x]
  simp only [hl, hh, mul_zero, Finset.sum_const_zero, add_zero, zero_add]

end Cert.Att

end
-- ==== Proof.AttBlock.lean ====
module

public import proofs.«01_k».proof.Proof.AttMath
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Att

open Idealize.ShloMosaic Cert.KernelIdeal Cert.KernelIdeal.Gen

def blk (x0 : Vec Ideal S1x512x512 .bf16) (x1 : Vec Ideal S1x4x128x4352 .bf16) (x2 : Vec Ideal S1x4x4352x128 .bf16)
    (r c : Fin 512) (j : Fin 4) : EReal :=
  att (fun s : Fin 4352 => ∑ x : Fin 128, x0 (ix3 0 r ⟨c.val / 128 * 128 + x.val, by omega⟩) * x1 (ix4 0 j x s))
    (fun s => x2 (ix4 0 j s ⟨c.val % 128, by omega⟩))

/-- One store's value: two heads' attentions, each over its placed keys and values, added lane by lane. -/
theorem pair_apply (y : Vec Ideal S1x512x128 .bf16) (ka kb : Vec Ideal S1x1x128x4352 .bf16) (va vb : Vec Ideal S1x1x4352x128 .bf16)
    (r : Fin 512) (d : Fin 128) :
    k0_pay8 (k0_pay3 y ka va) (k0_pay5 y kb) (k0_pay6 y kb) (k0_pay7 vb) (constant S512x128 .f32 0x00000000#32) (ix3 0 r d) =
      att (fun s : Fin 4352 => ∑ x : Fin 128, y (ix3 0 r x) * ka (ix4 0 0 x s)) (fun s => va (ix4 0 0 s d))
      + att (fun s : Fin 4352 => ∑ x : Fin 128, y (ix3 0 r x) * kb (ix4 0 0 x s)) (fun s => vb (ix4 0 0 s d)) := by
  pointwise [k0_pay8, k0_pay3, k0_pay5, k0_pay4, k0_pay6, k0_pay7, k0_pay2]
  rfl

theorem pay12_eq (y : Vec Ideal S1x512x128 .bf16) (ka kb : Vec Ideal S1x1x128x4352 .bf16) (va vb : Vec Ideal S1x1x4352x128 .bf16) :
    k0_pay12 (k0_pay10 y ka va) (k0_pay11 y kb) vb =
      k0_pay8 (k0_pay3 y ka va) (k0_pay5 y kb) (k0_pay6 y kb) (k0_pay7 vb) (constant S512x128 .f32 0x00000000#32) := rfl

theorem pay15_eq (y : Vec Ideal S1x512x128 .bf16) (ka kb : Vec Ideal S1x1x128x4352 .bf16) (va vb : Vec Ideal S1x1x4352x128 .bf16) :
    k0_pay15 (k0_pay13 y) (k0_pay14 y ka va) kb vb =
      k0_pay8 (k0_pay3 y ka va) (k0_pay5 y kb) (k0_pay6 y kb) (k0_pay7 vb) (constant S512x128 .f32 0x00000000#32) := rfl

theorem pay1_eq (y : Vec Ideal S1x512x128 .bf16) (ka kb : Vec Ideal S1x1x128x4352 .bf16) (va vb : Vec Ideal S1x1x4352x128 .bf16) :
    k0_pay1 (k0_pay16 y) (k0_pay18 y ka) (k0_pay19 y ka) va kb vb =
      k0_pay8 (k0_pay3 y ka va) (k0_pay5 y kb) (k0_pay6 y kb) (k0_pay7 vb) (constant S512x128 .f32 0x00000000#32) := rfl

theorem pair_idx (y : Vec Ideal S1x512x128 .bf16) (ka kb : Vec Ideal S1x1x128x4352 .bf16) (va vb : Vec Ideal S1x1x4352x128 .bf16)
    (x : S1x512x128.Idx) (r : Fin 512) (d : Fin 128) (hr : (x 1).val = r.val) (hd : (x 2).val = d.val) :
    k0_pay8 (k0_pay3 y ka va) (k0_pay5 y kb) (k0_pay6 y kb) (k0_pay7 vb) (constant S512x128 .f32 0x00000000#32) x =
      att (fun s : Fin 4352 => ∑ x : Fin 128, y (ix3 0 r x) * ka (ix4 0 0 x s)) (fun s => va (ix4 0 0 s d))
      + att (fun s : Fin 4352 => ∑ x : Fin 128, y (ix3 0 r x) * kb (ix4 0 0 x s)) (fun s => vb (ix4 0 0 s d)) := by
  rw [← pair_apply]
  congr 1
  idx_vars x
  have h0 := x0.isLt
  rw [ix3_inj]
  exact ⟨by omega, Fin.ext hr, Fin.ext hd⟩

theorem out_apply (x0 : Vec Ideal S1x512x512 .bf16) (x1 : Vec Ideal S1x4x128x4352 .bf16) (x2 : Vec Ideal S1x4x4352x128 .bf16) (y : S1x512x512.Idx) (r c : Fin 512)
   (hr : (y 1).val = r.val) (hc : (y 2).val = c.val) :
   out0_3 x0 x1 x2 y = blk x0 x1 x2 r c ⟨c.val / 256 * 2, by omega⟩
     + blk x0 x1 x2 r c ⟨c.val / 256 * 2 + 1, by omega⟩ := by
  unfold out0_3
  rw [pay12_eq, pay15_eq, pay1_eq]
  canon_tiles x h
  all_goals
    rw [pair_idx _ _ _ _ _ x r ⟨c.val % 128, by omega⟩ (by omega) (by dsimp only; omega)]
    refine congrArg₂ (· + ·) (att_congr (fun s => Finset.sum_congr rfl fun z _ => congrArg₂ (· * ·) ?_ ?_) fun s => ?_)
      (att_congr (fun s => Finset.sum_congr rfl fun z _ => congrArg₂ (· * ·) ?_ ?_) fun s => ?_)
    all_goals
      refine View.ld_unit_apply_of _ _ _ _ _ _ (fun a => ?_)
      fin_cases a <;> simp <;> omega

end Cert.Att

end
-- ==== Proof.AttKernel.lean ====
/- The kernel's result array at an index. -/
module

public import proofs.«01_k».proof.Proof.AttBlock

@[expose] public section

set_option maxRecDepth 16384

noncomputable section

namespace Cert.Att

open Idealize.ShloMosaic Idealize.ShloMosaic.TcCoe Cert.KernelIdeal Cert.KernelIdeal.Gen

variable (m : (ℓ : Loc nD τ sig) → Buf (Elt Ideal) ℓ) (c : Dev nD)

theorem idx : ∀ t : Fin cfg0.N, win0_0.index t = ![t.val / 8, t.val % 8, 0] ∧ win0_1.index t = ![t.val / 8, 0, 0, 0] ∧
    win0_2.index t = ![t.val / 8, 0, 0, 0] ∧ win0_3.index t = ![t.val / 8, t.val % 8, 0] :=
  (by decide +kernel : ∀ t : Fin grid0.N, _)

abbrev q0 : FVec Ideal S8x4096x8x64 .f32 := m ((c : Thread nD τ).loc main_arg0)
abbrev k0 : FVec Ideal S8x4352x2x64 .f32 := m ((c : Thread nD τ).loc main_arg1)
abbrev v0 : FVec Ideal S8x4352x2x64 .f32 := m ((c : Thread nD τ).loc main_arg2)

theorem bt (t : Fin cfg0.N) : t.val / 8 < 8 := by have : t.val < 64 := t.isLt; omega

theorem blk0 (t : Fin cfg0.N) (r x : Fin 512) :
    iblk m c 0 t (ix3 0 r x) = V m c main_v3 (ix3 (n0 := 8) (n1 := 4096) (n2 := 512) ⟨t.val / 8, bt t⟩ ⟨t.val % 8 * 512 + r.val, by omega⟩ x) := by
  blk_ext [iblk, idx t]

theorem blk1 (t : Fin cfg0.N) (j : Fin 4) (x : Fin 128) (s : Fin 4352) :
    iblk m c 1 t (ix4 0 j x s) = V m c main_v19 (ix4 (n0 := 8) (n1 := 4) (n2 := 128) (n3 := 4352) ⟨t.val / 8, bt t⟩ j x s) := by
  blk_ext [iblk, idx t]

theorem blk2 (t : Fin cfg0.N) (j : Fin 4) (x : Fin 128) (s : Fin 4352) :
    iblk m c 2 t (ix4 0 j s x) = V m c main_v34 (ix4 (n0 := 8) (n1 := 4) (n2 := 4352) (n3 := 128) ⟨t.val / 8, bt t⟩ j s x) := by
  blk_ext [iblk, idx t]

/-- The queries as the launch finds them: each head's 64 lanes side by side, scaled. -/
theorem e0 (b : Fin 8) (l : Fin 4096) (x : Fin 512) :
    (V m c main_v3 : FVec Ideal S8x4096x512 .bf16) (ix3 b l x) =
      q0 m c (ix4 b l ⟨x.val / 64, by omega⟩ ⟨x.val % 64, by omega⟩) * Ideal.ofBits .f32 0x3E000000#32 := by
  entry_read
  pointwise

/-- A key (or value) array placed: each of its two heads in the low and in the high 64 of 128 lanes. -/
def placed (x : FVec Ideal S8x4352x2x64 .f32) : FVec Ideal S8x4x4352x128 .f32 :=
  let z : FVec Ideal S8x4352x64 .f32 := broadcastInDim S8x4352x64 ![] bcast_S_S8x4352x64 (constant S_ .f32 0x00000000#32)
  let x0 : FVec Ideal S8x4352x64 .f32 := shapeCast S8x4352x64 (extractStridedSlice S8x4352x1x64 ![0, 0, 0, 0] x slices_S8x4352x2x64_S8x4352x1x64_0_0_0_0) shapeCasts_S8x4352x1x64_S8x4352x64
  let x1 : FVec Ideal S8x4352x64 .f32 := shapeCast S8x4352x64 (extractStridedSlice S8x4352x1x64 ![0, 0, 1, 0] x slices_S8x4352x2x64_S8x4352x1x64_0_0_1_0) shapeCasts_S8x4352x1x64_S8x4352x64
  let cat (a b : FVec Ideal S8x4352x64 .f32) : FVec Ideal S8x1x4352x128 .f32 := broadcastInDim S8x1x4352x128 ![0, 2, 3] bcast_S8x4352x128_S8x1x4352x128_0_2_3 (concatenate S8x4352x128 2 [⟨S8x4352x64, a⟩, ⟨S8x4352x64, b⟩] concatenates_S8x4352x64_S8x4352x64_S8x4352x128_d2)
  concatenate S8x4x4352x128 1 [⟨S8x1x4352x128, cat x0 z⟩, ⟨S8x1x4352x128, cat z x0⟩, ⟨S8x1x4352x128, cat x1 z⟩, ⟨S8x1x4352x128, cat z x1⟩] concatenates_S8x1x4352x128_S8x1x4352x128_S8x1x4352x128_S8x1x4352x128_S8x4x4352x128_d1

/-- The placed array in a low half: the head's own lanes, then zeros. -/
theorem placed_even (x : FVec Ideal S8x4352x2x64 .f32) (b : Fin 8) (j : Fin 4) (s : Fin 4352) (l : Fin 128) (hj : j.val % 2 = 0) :
    placed x (ix4 b j s l) = if h : l.val < 64 then x (ix4 b s ⟨j.val / 2, by omega⟩ ⟨l.val, h⟩) else 0 := by
  pointwise [placed]
  fin_cases j <;> simp at hj ⊢

/-- The placed array in a high half: zeros, then the head's own lanes. -/
theorem placed_odd (x : FVec Ideal S8x4352x2x64 .f32) (b : Fin 8) (j : Fin 4) (s : Fin 4352) (l : Fin 128) (hj : j.val % 2 = 1) :
    placed x (ix4 b j s l) = if h : l.val < 64 then 0 else x (ix4 b s ⟨j.val / 2, by omega⟩ ⟨l.val - 64, by omega⟩) := by
  pointwise [placed]
  fin_cases j <;> simp at hj ⊢

set_option maxHeartbeats 4000000 in
theorem e1 : (V m c main_v19 : FVec Ideal S8x4x128x4352 .bf16) = truncf .bf16 (transpose S8x4x128x4352 [0, 1, 3, 2] (placed (k0 m c)) transposes_S8x4x4352x128_S8x4x128x4352_0_1_3_2) bitsLt_bf16_f32 := by
  show StableHlo.after hostOps0 _ _ = _
  unfold hostOps0
  after_results <;> rfl

set_option maxHeartbeats 4000000 in
theorem e2 : (V m c main_v34 : FVec Ideal S8x4x4352x128 .bf16) = truncf .bf16 (placed (v0 m c)) bitsLt_bf16_f32 := by
  show StableHlo.after hostOps0 _ _ = _
  unfold hostOps0
  after_results <;> rfl

/-- The launch's result at batch `b`, query `l`, lane `d`: the two attentions of the lane's pair of heads, added. -/
def half (q : FVec Ideal S8x4096x8x64 .f32) (k v : FVec Ideal S8x4352x2x64 .f32) (b : Fin 8) (l : Fin 4096) (d : Fin 512) (j : Fin 4) : EReal :=
  att (fun s : Fin 4352 => ∑ x : Fin 128,
      q (ix4 b l ⟨(d.val / 128 * 128 + x.val) / 64, by omega⟩ ⟨(d.val / 128 * 128 + x.val) % 64, by omega⟩) * Ideal.ofBits .f32 0x3E000000#32 * placed k (ix4 b j s x))
    (fun s => placed v (ix4 b j s ⟨d.val % 128, by omega⟩))

theorem half_eq (t : Fin cfg0.N) (r d : Fin 512) (j : Fin 4) :
    blk (iblk m c 0 t) (iblk m c 1 t) (iblk m c 2 t) r d j =
      half (q0 m c) (k0 m c) (v0 m c) ⟨t.val / 8, bt t⟩ ⟨t.val % 8 * 512 + r.val, by omega⟩ d j := by
  refine att_congr (fun s => Finset.sum_congr rfl fun x _ => congrArg₂ (· * ·) ?_ ?_) fun s => ?_
  · exact (blk0 m c t r _).trans (e0 m c _ _ _)
  · refine (blk1 m c t j x s).trans ?_
    rw [e1]
    pointwise
  · refine (blk2 m c t j _ s).trans ?_
    rw [e2]
    pointwise

/-- The launch's result array, from the queries, keys and values. -/
def KOUT (q : FVec Ideal S8x4096x8x64 .f32) (k v : FVec Ideal S8x4352x2x64 .f32) : FVec Ideal S8x4096x512 .bf16 := fun i =>
  half q k v (i 0) (i 1) (i 2) ⟨(i 2).val / 256 * 2, by have : (i 2).val < 512 := (i 2).isLt; omega⟩ +
    half q k v (i 0) (i 1) (i 2) ⟨(i 2).val / 256 * 2 + 1, by have : (i 2).val < 512 := (i 2).isLt; omega⟩

/-- The launch leaves that array. -/
theorem final : (dats m 0 c).arrAt 3 cfg0.N = KOUT (q0 m c) (k0 m c) (v0 m c) := by
  refine (dats m 0 c).arrAt_eq_of_covers 3 _ (by decide +kernel) fun t _ y => ?_
  blk_simp
  rw [after0_3]
  have hy : (win0_3.blk t).view.emb y = ix3 (n0 := 8) (n1 := 4096) (n2 := 512) ⟨t.val / 8, bt t⟩ ⟨t.val % 8 * 512 + (y 1).val, by
      have : (y 1).val < 512 := (y 1).isLt; omega⟩ (y 2) := by
    blk_ext [idx t]
  rw [hy]
  exact (out_apply _ _ _ y (y 1) (y 2) rfl rfl).trans (congrArg₂ (· + ·) (half_eq m c t (y 1) (y 2) _) (half_eq m c t (y 1) (y 2) _))

end Cert.Att

end
-- ==== Proof.AttRef.lean ====
module

public import proofs.«01_k».proof.Proof.AttMath
public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Att

open Idealize.ShloMosaic Cert.ReferenceIdeal Cert.ReferenceIdeal.Gen

/-- Each row's largest score. -/
def MX (Q : FVec Ideal S8x2x4x4096x4352 .f32) : FVec Ideal S8x2x4x4096 .f32 :=
  Host.reduce FloatOps.maximumf Q (constant S_ .f32 0xFF800000#32) reducesTo_S8x2x4x4096x4352_S8x2x4x4096_d4 h_S_

/-- The weights: exponentials of the scores less their row's largest. -/
def WT (Q : FVec Ideal S8x2x4x4096x4352 .f32) (M : FVec Ideal S8x2x4x4096 .f32) : FVec Ideal S8x2x4x4096x4352 .f32 :=
  Host.exp (subf Q (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) M))))

/-- The weights, each over its row's sum. -/
def PR (W : FVec Ideal S8x2x4x4096x4352 .f32) : FVec Ideal S8x2x4x4096x4352 .f32 :=
  Host.divf W (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 (Host.reduceAdd W (constant S_ .f32 0x00000000#32) reducesTo_S8x2x4x4096x4352_S8x2x4x4096_d4 h_S_)))

def OUT (P : FVec Ideal S8x2x4x4096x4352 .f32) (v : FVec Ideal S8x4352x2x64 .f32) : FVec Ideal S8x4096x512 .bf16 :=
  truncf .bf16 (shapeCast _ (transpose S8x4096x2x4x64 [0, 4, 1, 3, 2] (Host.dotGeneral dot_S8x4352x2x64_S8x2x4x4096x4352_S8x2x64x4x4096_1_4_3_23_02_01 none v P) transposes_S8x2x64x4x4096_S8x4096x2x4x64_0_4_1_3_2) shapeCasts_S8x4096x2x4x64_S8x4096x512) bitsLt_bf16_f32

def DOT (q : FVec Ideal S8x4096x2x4x64 .f32) (k : FVec Ideal S8x4352x2x64 .f32) : FVec Ideal S8x2x4352x4096x4 .f32 :=
  Host.dotGeneral dot_S8x4352x2x64_S8x4096x2x4x64_S8x2x4352x4096x4_3_4_1_13_02_02 none k q

def SCD (D : FVec Ideal S8x2x4352x4096x4 .f32) : FVec Ideal S8x2x4x4096x4352 .f32 :=
  mulf (transpose S8x2x4x4096x4352 [0, 1, 4, 3, 2] D transposes_S8x2x4352x4096x4_S8x2x4x4096x4352_0_1_4_3_2) (broadcastInDim S8x2x4x4096x4352 ![] bcast_S_S8x2x4x4096x4352 (constant S_ .f32 0x3E000000#32))

theorem cast_apply (q : FVec Ideal S8x4096x8x64 .f32) (b : Fin 8) (g : Fin 2) (h : Fin 4) (l : Fin 4096) (x : Fin 64) :
   (shapeCast S8x4096x2x4x64 q shapeCasts_S8x4096x8x64_S8x4096x2x4x64 : FVec Ideal S8x4096x2x4x64 .f32) (ix5 b l g h x) = q (ix4 b l ⟨g.val * 4 + h.val, by omega⟩ x) := by
  pointwise

theorem scd_apply (D : FVec Ideal S8x2x4352x4096x4 .f32) (b : Fin 8) (g : Fin 2) (h : Fin 4) (l : Fin 4096) (s : Fin 4352) :
   SCD D (ix5 b g h l s) = D (ix5 b g s l h) * Ideal.ofBits FTy.f32 0x3E000000#32 := by
  pointwise [SCD]

theorem dot_apply (q : FVec Ideal S8x4096x2x4x64 .f32) (k : FVec Ideal S8x4352x2x64 .f32) (b : Fin 8) (g : Fin 2) (h : Fin 4) (l : Fin 4096) (s : Fin 4352) :
   DOT q k (ix5 b g s l h) = (∑ x : Fin 64, k (ix4 b s g x) * q (ix5 b l g h x)) := by
  pointwise [DOT]

/-- The scores: keys by queries, scaled. -/
def SC (q : FVec Ideal S8x4096x8x64 .f32) (k : FVec Ideal S8x4352x2x64 .f32) : FVec Ideal S8x2x4x4096x4352 .f32 :=
  SCD (DOT (shapeCast S8x4096x2x4x64 q shapeCasts_S8x4096x8x64_S8x4096x2x4x64) k)

theorem scores_apply (q : FVec Ideal S8x4096x8x64 .f32) (k : FVec Ideal S8x4352x2x64 .f32) (b : Fin 8) (g : Fin 2) (h : Fin 4) (l : Fin 4096) (s : Fin 4352) :
   SC q k (ix5 b g h l s) = (∑ x : Fin 64, k (ix4 b s g x) * q (ix4 b l ⟨g.val * 4 + h.val, by omega⟩ x)) * Ideal.ofBits FTy.f32 0x3E000000#32 := by
  rw [SC, scd_apply, dot_apply]
  simp only [cast_apply]

theorem mx_apply (Q : FVec Ideal S8x2x4x4096x4352 .f32) (b : Fin 8) (g : Fin 2) (h : Fin 4) (l : Fin 4096) :
    MX Q (ix4 b g h l) = Finset.univ.fold max (Ideal.ofBits .f32 0xFF800000#32) fun x : Fin 4352 => Q (ix5 b g h l x) := by
  pointwise [MX]

theorem wt_apply (Q : FVec Ideal S8x2x4x4096x4352 .f32) (M : FVec Ideal S8x2x4x4096 .f32) (b : Fin 8) (g : Fin 2) (h : Fin 4) (l : Fin 4096) (s : Fin 4352) :
    WT Q M (ix5 b g h l s) = Ideal.exp (Q (ix5 b g h l s) - max (Ideal.ofBits .f32 0xFF800000#32) (M (ix4 b g h l))) := by
  pointwise [WT]

theorem pr_apply (Q : FVec Ideal S8x2x4x4096x4352 .f32) (b : Fin 8) (g : Fin 2) (h : Fin 4) (l : Fin 4096) (s : Fin 4352) :
    PR Q (ix5 b g h l s) = Ideal.div (Q (ix5 b g h l s)) (∑ x : Fin 4352, Q (ix5 b g h l x)) := by
  pointwise [PR]

theorem outr_apply (P : FVec Ideal S8x2x4x4096x4352 .f32) (v : FVec Ideal S8x4352x2x64 .f32) (b : Fin 8) (l : Fin 4096) (c : Fin 512) :
    OUT P v (ix3 b l c) = ∑ s : Fin 4352, v (ix4 b s ⟨c.val / 256, by omega⟩ ⟨c.val % 64, by omega⟩) * P (ix5 b ⟨c.val / 256, by omega⟩ ⟨c.val / 64 % 4, by omega⟩ l s) := by
  pointwise [OUT]

/-- The reference at an index. -/
theorem ref_apply (q : FVec Ideal S8x4096x8x64 .f32) (k v : FVec Ideal S8x4352x2x64 .f32) (b : Fin 8) (l : Fin 4096) (c : Fin 512)
    (s : Fin 4352 → EReal) (hs : ∀ x, Real' (s x))
    (hsc : ∀ x : Fin 4352, SC q k (ix5 b ⟨c.val / 256, by omega⟩ ⟨c.val / 64 % 4, by omega⟩ l x) = s x) :
    OUT (PR (WT (SC q k) (MX (SC q k)))) v (ix3 b l c) = att s fun x => v (ix4 b x ⟨c.val / 256, by omega⟩ ⟨c.val % 64, by omega⟩) := by
  rw [outr_apply, att_eq _ hs]
  refine Finset.sum_congr rfl fun x _ => congrArg _ ?_
  rw [pr_apply]
  generalize SC q k = Q at hsc
  refine congrArg₂ Ideal.div ?_ (Finset.sum_congr rfl fun z _ => ?_)
  · rw [wt_apply, mx_apply, hsc, funext hsc, top]
  · rw [wt_apply, mx_apply, hsc, funext hsc, top]

theorem ref_eq (q : FVec Ideal S8x4096x8x64 .f32) (k v : FVec Ideal S8x4352x2x64 .f32) :
  truncf .bf16 (shapeCast S8x4096x512 (transpose S8x4096x2x4x64 [0, 4, 1, 3, 2] (Host.dotGeneral dot_S8x4352x2x64_S8x2x4x4096x4352_S8x2x64x4x4096_1_4_3_23_02_01 none v (Host.divf (Host.exp (subf (mulf (transpose S8x2x4x4096x4352 [0, 1, 4, 3, 2] (Host.dotGeneral dot_S8x4352x2x64_S8x4096x2x4x64_S8x2x4352x4096x4_3_4_1_13_02_02 none k (shapeCast S8x4096x2x4x64 q shapeCasts_S8x4096x8x64_S8x4096x2x4x64)) transposes_S8x2x4352x4096x4_S8x2x4x4096x4352_0_1_4_3_2) (broadcastInDim S8x2x4x4096x4352 ![] bcast_S_S8x2x4x4096x4352 (constant S_ .f32 0x3E000000#32))) (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) (Host.reduce FloatOps.maximumf (mulf (transpose S8x2x4x4096x4352 [0, 1, 4, 3, 2] (Host.dotGeneral dot_S8x4352x2x64_S8x4096x2x4x64_S8x2x4352x4096x4_3_4_1_13_02_02 none k (shapeCast S8x4096x2x4x64 q shapeCasts_S8x4096x8x64_S8x4096x2x4x64)) transposes_S8x2x4352x4096x4_S8x2x4x4096x4352_0_1_4_3_2) (broadcastInDim S8x2x4x4096x4352 ![] bcast_S_S8x2x4x4096x4352 (constant S_ .f32 0x3E000000#32))) (constant S_ .f32 0xFF800000#32) reducesTo_S8x2x4x4096x4352_S8x2x4x4096_d4 h_S_)))))) (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 (Host.reduceAdd (Host.exp (subf (mulf (transpose S8x2x4x4096x4352 [0, 1, 4, 3, 2] (Host.dotGeneral dot_S8x4352x2x64_S8x4096x2x4x64_S8x2x4352x4096x4_3_4_1_13_02_02 none k (shapeCast S8x4096x2x4x64 q shapeCasts_S8x4096x8x64_S8x4096x2x4x64)) transposes_S8x2x4352x4096x4_S8x2x4x4096x4352_0_1_4_3_2) (broadcastInDim S8x2x4x4096x4352 ![] bcast_S_S8x2x4x4096x4352 (constant S_ .f32 0x3E000000#32))) (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) (Host.reduce FloatOps.maximumf (mulf (transpose S8x2x4x4096x4352 [0, 1, 4, 3, 2] (Host.dotGeneral dot_S8x4352x2x64_S8x4096x2x4x64_S8x2x4352x4096x4_3_4_1_13_02_02 none k (shapeCast S8x4096x2x4x64 q shapeCasts_S8x4096x8x64_S8x4096x2x4x64)) transposes_S8x2x4352x4096x4_S8x2x4x4096x4352_0_1_4_3_2) (broadcastInDim S8x2x4x4096x4352 ![] bcast_S_S8x2x4x4096x4352 (constant S_ .f32 0x3E000000#32))) (constant S_ .f32 0xFF800000#32) reducesTo_S8x2x4x4096x4352_S8x2x4x4096_d4 h_S_)))))) (constant S_ .f32 0x00000000#32) reducesTo_S8x2x4x4096x4352_S8x2x4x4096_d4 h_S_))))) transposes_S8x2x64x4x4096_S8x4096x2x4x64_0_4_1_3_2) shapeCasts_S8x4096x2x4x64_S8x4096x512) bitsLt_bf16_f32
    = OUT (PR (WT (SC q k) (MX (SC q k)))) v := rfl

end Cert.Att

end
-- ==== Proof.AttValue.lean ====
/- The kernel's array is the reference's, for finite queries and keys. -/
module

public import proofs.«01_k».proof.Proof.AttKernel
public import proofs.«01_k».proof.Proof.AttRef

@[expose] public section

set_option maxRecDepth 16384

noncomputable section

namespace Cert.Att

open Idealize.ShloMosaic Cert.KernelIdeal

/-- The scale of the scores is an eighth. -/
theorem eighth : Ideal.ofBits .f32 0x3E000000#32 = ((1 / 8 : ℝ) : EReal) := by
  simp [Ideal.ofBits, Ideal.ieee]
  rw [← EReal.coe_mul]
  norm_num

variable (q : FVec Ideal S8x4096x8x64 .f32) (k v : FVec Ideal S8x4352x2x64 .f32)

/-- The reference's scores of one head, for one query. -/
def score (b : Fin 8) (l : Fin 4096) (d : Fin 512) (s : Fin 4352) : EReal :=
  (∑ x : Fin 64, k (ix4 b s ⟨d.val / 256, by omega⟩ x) * q (ix4 b l ⟨d.val / 256 * 4 + d.val / 64 % 4, by omega⟩ x)) * Ideal.ofBits .f32 0x3E000000#32

variable {q k}

theorem score_real (hq : ∀ i, Real' (q i)) (hk : ∀ i, Real' (k i)) (b : Fin 8) (l : Fin 4096) (d : Fin 512) (s : Fin 4352) :
    Real' (score q k b l d s) :=
  (Real'.sum _ fun _ => (hk _).mul (hq _)).mul ⟨_, eighth⟩

theorem placed_real (hk : ∀ i, Real' (k i)) (b : Fin 8) (j : Fin 4) (s : Fin 4352) (l : Fin 128) : Real' (placed k (ix4 b j s l)) := by
  rcases Nat.mod_two_eq_zero_or_one j.val with h | h
  · rw [placed_even _ _ _ _ _ h]; split
    · exact hk _
    · exact ⟨0, rfl⟩
  · rw [placed_odd _ _ _ _ _ h]; split
    · exact ⟨0, rfl⟩
    · exact hk _

/-- Scaling the queries or the scores is the same. -/
theorem scaled (b : Fin 8) (l : Fin 4096) (d : Fin 512) (s : Fin 4352) :
    ∑ x : Fin 64, q (ix4 b l ⟨d.val / 64, by omega⟩ x) * Ideal.ofBits .f32 0x3E000000#32 * k (ix4 b s ⟨d.val / 256, by omega⟩ x) = score q k b l d s := by
  rw [score, eighth, sum_mul_coe _ _ (by norm_num)]
  refine Finset.sum_congr rfl fun x _ => ?_
  rw [mul_right_comm, mul_comm (q _)]
  congr 5
  omega

/-- The half of a pair that holds the lane's own head is that head's attention. -/
theorem half_own (b : Fin 8) (l : Fin 4096) (d : Fin 512) (j : Fin 4) (hj : j.val = d.val / 256 * 2 + d.val / 64 % 2) :
    half q k v b l d j = att (score q k b l d) fun s => v (ix4 b s ⟨d.val / 256, by omega⟩ ⟨d.val % 64, by omega⟩) := by
  have hg : (⟨j.val / 2, by omega⟩ : Fin 2) = ⟨d.val / 256, by omega⟩ := Fin.ext (by dsimp only; omega)
  refine att_congr (fun s => ?_) fun s => ?_
  · rw [← scaled]
    rcases Nat.mod_two_eq_zero_or_one (d.val / 64) with h | h
    · refine (dot_lo _ (fun x => k (ix4 b s ⟨d.val / 256, by omega⟩ x)) _ (fun x => ?_) fun x => ?_).trans (Finset.sum_congr rfl fun x _ => ?_)
      · rw [placed_even _ _ _ _ _ (by omega), dif_pos (by simp), hg]; congr 2
      · rw [placed_even _ _ _ _ _ (by omega), dif_neg (by simp)]
      · refine congrArg (fun e => q e * _ * _) (ix4_inj .. |>.2 ⟨rfl, rfl, Fin.ext ?_, Fin.ext ?_⟩) <;> simp <;> omega
    · refine (dot_hi _ (fun x => k (ix4 b s ⟨d.val / 256, by omega⟩ x)) _ (fun x => ?_) fun x => ?_).trans (Finset.sum_congr rfl fun x _ => ?_)
      · rw [placed_odd _ _ _ _ _ (by omega), dif_pos (by simp)]
      · rw [placed_odd _ _ _ _ _ (by omega), dif_neg (by simp), hg]
        congr 2; exact Fin.ext (by simp)
      · refine congrArg (fun e => q e * _ * _) (ix4_inj .. |>.2 ⟨rfl, rfl, Fin.ext ?_, Fin.ext ?_⟩) <;> simp <;> omega
  · rcases Nat.mod_two_eq_zero_or_one (d.val / 64) with h | h
    · rw [placed_even _ _ _ _ _ (by omega), dif_pos (by dsimp only; omega), hg]
      congr 2; exact Fin.ext (by dsimp only; omega)
    · rw [placed_odd _ _ _ _ _ (by omega), dif_neg (by dsimp only; omega), hg]
      congr 2; exact Fin.ext (by dsimp only; omega)

/-- The other half of the pair weighs zeros. -/
theorem half_other (hq : ∀ i, Real' (q i)) (hk : ∀ i, Real' (k i)) (b : Fin 8) (l : Fin 4096) (d : Fin 512) (j : Fin 4)
    (hj : j.val % 2 ≠ d.val / 64 % 2) : half q k v b l d j = 0 := by
  refine (att_congr (fun _ => rfl) fun s => ?_).trans (att_zero fun s => Real'.sum _ fun x => ((hq _).mul ⟨_, eighth⟩).mul (placed_real hk _ _ _ _))
  rcases Nat.mod_two_eq_zero_or_one (d.val / 64) with h | h
  · rw [placed_odd _ _ _ _ _ (by omega), dif_pos (by dsimp only; omega)]
  · rw [placed_even _ _ _ _ _ (by omega), dif_neg (by dsimp only; omega)]

/-- The kernel's array is the reference's. -/
theorem value (hq : ∀ i, Real' (q i)) (hk : ∀ i, Real' (k i)) : KOUT q k v = OUT (PR (WT (SC q k) (MX (SC q k)))) v := by
  funext i
  idx_vars i
  rw [ref_apply q k v i0 i1 i2 (score q k i0 i1 i2) (fun s => score_real hq hk _ _ _ s) fun s => scores_apply _ _ _ _ _ _ _]
  show half q k v i0 i1 i2 ⟨i2.val / 256 * 2, _⟩ + half q k v i0 i1 i2 ⟨i2.val / 256 * 2 + 1, _⟩ = _
  rcases Nat.mod_two_eq_zero_or_one (i2.val / 64) with h | h
  · rw [half_own _ _ _ _ _ (by dsimp only; omega), half_other _ hq hk _ _ _ _ (by dsimp only; omega), add_zero]
  · rw [half_other _ hq hk _ _ _ _ (by dsimp only; omega), half_own _ _ _ _ _ (by dsimp only; omega), zero_add]

end Cert.Att

end
-- ==== Proof.AttPre.lean ====
/- The precondition read back: finite queries and keys. -/
module

public import proofs.«01_k».proof.Proof.AttMath
public import proofs.«01_k».proof.Pre_finite_scores
public import Idealize.ShloMosaic.Lib.ReduceAll
public import Idealize.ShloMosaic.Lib.Pointwise

@[expose] public section

set_option maxRecDepth 16384

noncomputable section

namespace Cert.Att

open Idealize.ShloMosaic Cert.Pre_finite_scores Cert.Pre_finite_scores.Facts

/-- The word for plus infinity. -/
theorem posInf : Ideal.ofBits .f32 0x7F800000#32 = ⊤ := by
  simp [Ideal.ofBits, Ideal.ieee]

/-- A value whose magnitude compares below infinity is neither infinity. -/
theorem real_of_abs_lt {x : EReal} (h : BitVec.ofBool (decide (max x (-x) < Ideal.ofBits .f32 0x7F800000#32)) = 1#1) : Real' x := by
  rw [posInf] at h
  have h' : max x (-x) < ⊤ := by
    by_contra hn
    rw [decide_eq_false hn] at h
    exact absurd h (by decide)
  induction x with
  | bot => simp at h'
  | top => simp at h'
  | coe r => exact ⟨r, rfl⟩

variable [Cert.Pre_finite_scores.Facts]

/-- The precondition makes every query element finite. -/
theorem pre_q {q : FVec Ideal S8x4096x8x64 .f32} {k v : FVec Ideal S8x4352x2x64 .f32} (h : fn (F := Ideal) q k v = fun _ => 1#1) (i : S8x4096x8x64.Idx) :
    Real' (q i) := by
  obtain ⟨h1, -⟩ := IntOp.andi_eq_one.1 (congrFun h (Shape.Idx.first h_S_))
  exact real_of_abs_lt (Host.reduce_andi_all _ _ _ _ _ h1 i)

/-- The precondition makes every key element finite. -/
theorem pre_k {q : FVec Ideal S8x4096x8x64 .f32} {k v : FVec Ideal S8x4352x2x64 .f32} (h : fn (F := Ideal) q k v = fun _ => 1#1) (i : S8x4352x2x64.Idx) :
    Real' (k i) := by
  obtain ⟨-, h1⟩ := IntOp.andi_eq_one.1 (congrFun h (Shape.Idx.first h_S_))
  exact real_of_abs_lt (Host.reduce_andi_all _ _ _ _ _ h1 i)

end Cert.Att

namespace Cert.Att

open Idealize.ShloMosaic Cert.Pre_finite_scores

/-- The side conditions of the precondition's operations. -/
theorem preFacts : Cert.Pre_finite_scores.Facts where
  bcast_S_S8x4096x8x64 := by decide
  reducesTo_S8x4096x8x64_S_d0_1_2_3 := by decide
  h_S_ := by decide
  bcast_S_S8x4352x2x64 := by decide
  reducesTo_S8x4352x2x64_S_d0_1_2_3 := by decide

end Cert.Att

end
-- ==== Proof.MrgSpec.lean ====
/- One row of the merge over the extended reals: the modulated row, the recurrence's normalised and gated output,
   the gated sum of the branches, the output projection, the layer norm, the second modulation, the router's logits. -/
module

public import proofs.«01_k».proof.Proof.AttMath

@[expose] public section

noncomputable section

namespace Cert.Mrg

open Idealize.ShloMosaic Cert.Att

/-- The data one row of the merge reads: its row of the stream, its batch's modulation vectors, the two scans'
    outputs added, the output gate, the three other branches, and the weights. -/
@[ext] structure Row where
  x : Fin 1024 → EReal
  sh1 : Fin 1024 → EReal
  sc1 : Fin 1024 → EReal
  g1 : Fin 1024 → EReal
  sh2 : Fin 1024 → EReal
  sc2 : Fin 1024 → EReal
  o : Fin 4 → Fin 128 → EReal
  z : Fin 512 → EReal
  ya : Fin 512 → EReal
  yc : Fin 512 → EReal
  yf : Fin 512 → EReal
  nw : Fin 128 → EReal
  wg : Fin 1024 → Fin 4096 → EReal
  bg : Fin 4096 → EReal
  wb : Fin 4 → Fin 512 → Fin 1024 → EReal
  wo : Fin 1024 → Fin 1024 → EReal
  lw : Fin 1024 → EReal
  lb : Fin 1024 → EReal
  rw : Fin 1024 → Fin 128 → EReal
  rb : Fin 128 → EReal

/-- A modulated entry: scaled by one plus the scale, then shifted. -/
def mods (x sc sh : EReal) : EReal := x * (1 + sc) + sh

/-- The mean over `c` entries. -/
def mean {n : ℕ} (c : EReal) (x : Fin n → EReal) : EReal := Ideal.div (∑ k, x k) c

/-- One over the root of a mean of squares plus the small constant of the norms. -/
def unit {n : ℕ} (c : EReal) (x : Fin n → EReal) : EReal := Ideal.rsqrt (mean c (fun k => x k * x k) + Ideal.ofBits .f32 0x358637BD#32)

/-- A row less its mean, over its standard deviation. -/
def normed (p : Fin 1024 → EReal) (d : Fin 1024) : EReal :=
  (p d - mean (Ideal.ofBits .f32 0x44800000#32) p) *
    unit (Ideal.ofBits .f32 0x44800000#32) (fun k => p k - mean (Ideal.ofBits .f32 0x44800000#32) p)

/-- One branch's part of the gated sum: its gate, times its projection. -/
def branch (j : Fin 4) (h : Fin 1024 → EReal) (y : Fin 512 → EReal) (wg : Fin 1024 → Fin 4096 → EReal) (bg : Fin 4096 → EReal)
    (wb : Fin 4 → Fin 512 → Fin 1024 → EReal) (d : Fin 1024) : EReal :=
  Ideal.logistic ((∑ k, h k * wg k ⟨j.val * 1024 + d.val, by omega⟩) + bg ⟨j.val * 1024 + d.val, by omega⟩) * ∑ k, y k * wb j k d

namespace Row

variable (R : Row)

/-- The modulated row. -/
def h (d : Fin 1024) : EReal := mods (R.x d) (R.sc1 d) (R.sh1 d)

/-- The recurrence's branch: each head's output over its root mean square, weighted, gated by `z`. -/
def ydn (d : Fin 512) : EReal :=
  R.o ⟨d.val / 128, by omega⟩ ⟨d.val % 128, by omega⟩ * unit (Ideal.ofBits .f32 0x43000000#32) (R.o ⟨d.val / 128, by omega⟩)
    * R.nw ⟨d.val % 128, by omega⟩ * (R.z d * Ideal.logistic (R.z d))

/-- The gated sum of the four branches. -/
def m (d : Fin 1024) : EReal :=
  branch 0 R.h R.ydn R.wg R.bg R.wb d + branch 1 R.h R.ya R.wg R.bg R.wb d
    + branch 2 R.h R.yc R.wg R.bg R.wb d + branch 3 R.h R.yf R.wg R.bg R.wb d

/-- The residual row: the scaled stream plus the gated projection of the sum of branches. -/
def pre (d : Fin 1024) : EReal :=
  Ideal.ofBits .f32 0x3FB504F3#32 * R.x d + R.g1 d * ∑ k, R.m k * R.wo k d

/-- The new row of the stream. -/
def x1 (d : Fin 1024) : EReal := normed R.pre d * R.lw d + R.lb d

/-- The row the channel mixer takes. -/
def h2 (d : Fin 1024) : EReal := mods (R.x1 d) (R.sc2 d) (R.sh2 d)

/-- The router's logits. -/
def lg (e : Fin 128) : EReal := (∑ d, R.h2 d * R.rw d e) + R.rb e

/-- The router's logits as the sum of three products: of the rows, of the weights' remainder, of the rows' remainder. -/
def lg3 (e : Fin 128) : EReal :=
  (∑ d, R.h2 d * R.rw d e) + (∑ d, R.h2 d * (R.rw d e - R.rw d e)) + (∑ d, (R.h2 d - R.h2 d) * R.rw d e) + R.rb e

end Row

end Cert.Mrg

end
-- ==== Proof.MrgBlock.lean ====
/- What the merge's body leaves in its three result blocks, row by row. -/
module

public import proofs.«01_k».proof.Proof.MrgSpec
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Mrg

open Idealize.ShloMosaic Cert.Kernel2Ideal Cert.Kernel2Ideal.Gen

/-- The body's modulated row. -/
theorem pay6_apply (x : Vec Ideal S1x512x1024 .f32) (sh sc : Vec Ideal S1x1x1024 .f32) (r : Fin 512) (d : Fin 1024) :
    k0_pay6 x sh sc (ix2 r d) = mods (x (ix3 0 r d)) (sc (ix3 0 0 d)) (sh (ix3 0 0 d)) := by
  pointwise [k0_pay6, k0_pay2]
  rfl

theorem pay7_apply (a b : Vec Ideal S1x512x512 .f32) (r d : Fin 512) :
    k0_pay7 a b (ix2 r d) = a (ix3 0 r d) + b (ix3 0 r d) := by
  pointwise [k0_pay7]

theorem pay8_apply (a : Vec Ideal S1x512x512 .bf16) (r d : Fin 512) :
    k0_pay8 a (ix2 r d) = a (ix3 0 r d) := by
  pointwise [k0_pay8]

/-- The four heads side by side, each normalised, weighted and gated. -/
theorem pay14_apply (a b : Vec Ideal S1x512x512 .f32) (z : FVec Ideal S512x512 .f32) (nw : Vec Ideal S1x128 .f32) (r d : Fin 512) :
    k0_pay14 (k0_pay7 a b) z (k0_pay11 z (k0_pay9 a b) (k0_pay10 a b) nw) (k0_pay12 (k0_pay7 a b) z nw) (k0_pay13 (k0_pay7 a b)) nw nw (ix2 r d) =
      k0_pay7 a b (ix2 r d) * unit (Ideal.ofBits .f32 0x43000000#32) (fun k : Fin 128 => k0_pay7 a b (ix2 r ⟨d.val / 128 * 128 + k.val, by omega⟩))
        * nw (ix2 0 ⟨d.val % 128, by omega⟩) * (z (ix2 r d) * Ideal.logistic (z (ix2 r d))) := by
  rw [show k0_pay10 a b = mulf (k0_pay9 a b) (k0_pay9 a b) from rfl, show k0_pay9 a b = extractStridedSlice S512x128 ![0, 0] (k0_pay7 a b) slices_S512x512_o0_0_S512x128 from rfl]
  generalize k0_pay7 a b = o
  pointwise [k0_pay14, k0_pay11, k0_pay12, k0_pay13]
  have hd := d.isLt
  simp only [unit, mean]
  by_cases h1 : d.val < 128
  · simp only [dif_pos h1, show d.val / 128 = 0 by omega, show d.val % 128 = d.val by omega, Nat.zero_mul, Nat.zero_add]
  by_cases h2 : d.val - 128 < 128
  · simp only [dif_neg h1, dif_pos h2, show d.val / 128 = 1 by omega, show d.val % 128 = d.val - 128 by omega, Nat.one_mul, show 128 + (d.val - 128) = d.val by omega]
  by_cases h3 : d.val - 128 - 128 < 128
  · simp only [dif_neg h1, dif_neg h2, dif_pos h3, show d.val / 128 = 2 by omega, show d.val % 128 = d.val - 128 - 128 by omega, Nat.reduceMul,
      show 256 + (d.val - 128 - 128) = d.val by omega]
  · simp only [dif_neg h1, dif_neg h2, dif_neg h3, show d.val / 128 = 3 by omega, show d.val % 128 = d.val - 128 - 128 - 128 by omega, Nat.reduceMul,
      show 384 + (d.val - 128 - 128 - 128) = d.val by omega]

/-- Three branches, gated and added. -/
theorem pay20_apply (h : FVec Ideal S512x1024 .bf16) (y0 y1 y2 : FVec Ideal S512x512 .bf16) (g0 g1 g2 : Vec Ideal S1024x1024 .bf16)
    (b0 b1 b2 : Vec Ideal S1x1024 .f32) (w0 w1 w2 : Vec Ideal S1x512x1024 .bf16) (r : Fin 512) (d : Fin 1024) :
    k0_pay20 h y0 y1 y2 (k0_pay18 h g0) (k0_pay19 b0) w0 g1 b1 w1 g2 b2 w2 (ix2 r d) =
      Ideal.logistic ((∑ k : Fin 1024, h (ix2 r k) * g0 (ix2 k d)) + b0 (ix2 0 d)) * ∑ k : Fin 512, y0 (ix2 r k) * w0 (ix3 0 k d)
      + Ideal.logistic ((∑ k : Fin 1024, h (ix2 r k) * g1 (ix2 k d)) + b1 (ix2 0 d)) * ∑ k : Fin 512, y1 (ix2 r k) * w1 (ix3 0 k d)
      + Ideal.logistic ((∑ k : Fin 1024, h (ix2 r k) * g2 (ix2 k d)) + b2 (ix2 0 d)) * ∑ k : Fin 512, y2 (ix2 r k) * w2 (ix3 0 k d) := by
  pointwise [k0_pay20, k0_pay18, k0_pay19]

/-- The residual rows before their norm. -/
def preV (x : FVec Ideal S512x1024 .f32) (g1 : FVec Ideal S1x1024 .f32) (h : FVec Ideal S512x1024 .bf16) (y : FVec Ideal S512x512 .bf16)
    (acc : FVec Ideal S512x1024 .f32) (g : FVec Ideal S1024x1024 .bf16) (b : FVec Ideal S1x1024 .f32) (w : FVec Ideal S1x512x1024 .bf16)
    (wo : FVec Ideal S1024x1024 .bf16) : FVec Ideal S512x1024 .f32 :=
  addf (mulf (broadcast S512x1024 (Scalar.ofBits .f32 0x3FB504F3#32)) x)
    (mulf (broadcastTo S512x1024 g1 broadcasts_S1x1024_S512x1024)
      (matmul dot_S512x1024_S1024x1024_S512x1024_1_0_0_1_n_n none
        (truncf .bf16 (addf acc (mulf
          (logistic (addf (matmul dot_S512x1024_S1024x1024_S512x1024_1_0_0_1_n_n none h g (constant S512x1024 .f32 0x00000000#32))
            (broadcastTo S512x1024 (shapeCast S1x1024 b shapeCasts_S1x1024_S1x1024) broadcasts_S1x1024_S512x1024)))
          (matmul dot_S512x512_S512x1024_S512x1024_1_0_0_1_n_n none y (shapeCast S512x1024 w shapeCasts_S1x512x1024_S512x1024) (constant S512x1024 .f32 0x00000000#32)))) bitsLt_bf16_f32)
        (shapeCast S1024x1024 wo shapeCasts_S1024x1024_S1024x1024) (constant S512x1024 .f32 0x00000000#32)))

/-- Rows less their means. -/
def cenV (p : FVec Ideal S512x1024 .f32) : FVec Ideal S512x1024 .f32 :=
  subf p (broadcastTo S512x1024 (divf (shapeCast S512x1 (multiReduction .add [1] S512 p 0x00000000#32 reduces_S512x1024_S512 (.inl rfl) rfl) shapeCasts_S512_S512x1)
    (broadcast S512x1 (Scalar.ofBits .f32 0x44800000#32))) broadcasts_S512x1_S512x1024)

/-- Rows over their root mean squares. -/
def nrmV (p : FVec Ideal S512x1024 .f32) : FVec Ideal S512x1024 .f32 :=
  mulf p (broadcastTo S512x1024 (rsqrt (addf (divf (shapeCast S512x1 (multiReduction .add [1] S512 (mulf p p) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The residual row at an index. -/
theorem preV_apply (x : FVec Ideal S512x1024 .f32) (g1 : FVec Ideal S1x1024 .f32) (h : FVec Ideal S512x1024 .bf16) (y : FVec Ideal S512x512 .bf16)
    (acc : FVec Ideal S512x1024 .f32) (g : FVec Ideal S1024x1024 .bf16) (b : Vec Ideal S1x1024 .f32) (w : Vec Ideal S1x512x1024 .bf16)
    (wo : Vec Ideal S1024x1024 .bf16) (r : Fin 512) (d : Fin 1024) :
    preV x g1 h y acc g b w wo (ix2 r d) = Ideal.ofBits .f32 0x3FB504F3#32 * x (ix2 r d) + g1 (ix2 0 d) * ∑ e : Fin 1024,
      (acc (ix2 r e) + Ideal.logistic ((∑ k : Fin 1024, h (ix2 r k) * g (ix2 k e)) + b (ix2 0 e)) * ∑ k : Fin 512, y (ix2 r k) * w (ix3 0 k e)) * wo (ix2 e d) := by
  pointwise [preV]

theorem cenV_apply (p : FVec Ideal S512x1024 .f32) (r : Fin 512) (d : Fin 1024) :
    cenV p (ix2 r d) = p (ix2 r d) - mean (Ideal.ofBits .f32 0x44800000#32) (fun k => p (ix2 r k)) := by
  pointwise [cenV]
  rfl

theorem nrmV_apply (p : FVec Ideal S512x1024 .f32) (r : Fin 512) (d : Fin 1024) :
    nrmV p (ix2 r d) = p (ix2 r d) * unit (Ideal.ofBits .f32 0x44800000#32) (fun k => p (ix2 r k)) := by
  pointwise [nrmV]
  rfl

/-- The normalised residual rows. -/
theorem pay23_apply (x : FVec Ideal S512x1024 .f32) (g1 : FVec Ideal S1x1024 .f32) (h : FVec Ideal S512x1024 .bf16) (y : FVec Ideal S512x512 .bf16)
    (acc : FVec Ideal S512x1024 .f32) (g : FVec Ideal S1024x1024 .bf16) (b : Vec Ideal S1x1024 .f32) (w : Vec Ideal S1x512x1024 .bf16)
    (wo : Vec Ideal S1024x1024 .bf16) (r : Fin 512) (d : Fin 1024) :
    k0_pay23 x g1 h y acc g (constant S512x1024 .f32 0x00000000#32) b w wo (ix2 r d) = normed (fun d => preV x g1 h y acc g b w wo (ix2 r d)) d := by
  rw [show k0_pay23 x g1 h y acc g (constant S512x1024 .f32 0x00000000#32) b w wo = nrmV (cenV (preV x g1 h y acc g b w wo)) from rfl, nrmV_apply]
  simp only [cenV_apply]
  rfl

/-- The new stream's rows. -/
theorem pay25_apply (lb : FVec Ideal S1x1024 .f32) (n : FVec Ideal S512x1024 .f32) (lw : Vec Ideal S1x1024 .f32) (r : Fin 512) (d : Fin 1024) :
    k0_pay25 lb n (k0_pay24 lw) (ix2 r d) = n (ix2 r d) * lw (ix2 0 d) + lb (ix2 0 d) := by
  pointwise [k0_pay25, k0_pay24]

theorem pay26_apply (lb : FVec Ideal S1x1024 .f32) (n : FVec Ideal S512x1024 .f32) (lw : FVec Ideal S512x1024 .f32) (r : Fin 512) (d : Fin 1024) :
    k0_pay26 lb n lw (ix3 0 r d) = k0_pay25 lb n lw (ix2 r d) := by
  pointwise [k0_pay26]

/-- The second modulation. -/
theorem pay27_apply (sh sc lb : FVec Ideal S1x1024 .f32) (n : FVec Ideal S512x1024 .f32) (lw : FVec Ideal S512x1024 .f32) (r : Fin 512) (d : Fin 1024) :
    k0_pay27 sh sc lb n lw (ix2 r d) = mods (k0_pay25 lb n lw (ix2 r d)) (sc (ix2 0 d)) (sh (ix2 0 d)) := by
  pointwise [k0_pay27]
  rfl

theorem pay28_apply (sh sc lb : FVec Ideal S1x1024 .f32) (n : FVec Ideal S512x1024 .f32) (lw : FVec Ideal S512x1024 .f32) (r : Fin 512) (d : Fin 1024) :
    k0_pay28 sh sc lb n lw (ix3 0 r d) = k0_pay27 sh sc lb n lw (ix2 r d) := by
  pointwise [k0_pay28]

/-- The logits, as three products. -/
theorem pay29_apply (sh sc lb : FVec Ideal S1x1024 .f32) (n : FVec Ideal S512x1024 .f32) (lw : FVec Ideal S512x1024 .f32)
    (w : Vec Ideal S1024x128 .f32) (b : Vec Ideal S1x128 .f32) (r : Fin 512) (e : Fin 128) :
    k0_pay29 sh sc lb n lw w b (ix2 r e) = (∑ d : Fin 1024, k0_pay27 sh sc lb n lw (ix2 r d) * w (ix2 d e))
      + (∑ d : Fin 1024, k0_pay27 sh sc lb n lw (ix2 r d) * (w (ix2 d e) - w (ix2 d e)))
      + (∑ d : Fin 1024, (k0_pay27 sh sc lb n lw (ix2 r d) - k0_pay27 sh sc lb n lw (ix2 r d)) * w (ix2 d e)) + b (ix2 0 e) := by
  pointwise [k0_pay29]

theorem pay1_apply (v : FVec Ideal S512x128 .f32) (r : Fin 512) (e : Fin 128) : k0_pay1 v (ix3 0 r e) = v (ix2 r e) := by
  pointwise [k0_pay1]

/-! ## The body's loads at an index -/

theorem ld0 (r : Fin 512) (d : Fin 1024) : (r0_0.idx (ix3 0 r d : S1x512x1024.Idx) : S1x512x1024.Idx) = ix3 0 r d :=
  funext fun a => Fin.ext ((Rect.idx_unit_val _ _ _ _ _).trans (by fin_cases a <;> simp))
theorem ld1 (d : Fin 1024) : (r0_1.idx (ix3 0 0 d : S1x1x1024.Idx) : S1x8x1024.Idx) = ix3 0 0 d :=
  funext fun a => Fin.ext ((Rect.idx_unit_val _ _ _ _ _).trans (by fin_cases a <;> simp))
theorem ld2 (d : Fin 1024) : (r0_2.idx (ix3 0 0 d : S1x1x1024.Idx) : S1x8x1024.Idx) = ix3 0 1 d :=
  funext fun a => Fin.ext ((Rect.idx_unit_val _ _ _ _ _).trans (by fin_cases a <;> simp))
theorem ld3 (d : Fin 1024) : (r0_3.idx (ix3 0 0 d : S1x1x1024.Idx) : S1x8x1024.Idx) = ix3 0 2 d :=
  funext fun a => Fin.ext ((Rect.idx_unit_val _ _ _ _ _).trans (by fin_cases a <;> simp))
theorem ld4 (d : Fin 1024) : (r0_4.idx (ix3 0 0 d : S1x1x1024.Idx) : S1x8x1024.Idx) = ix3 0 3 d :=
  funext fun a => Fin.ext ((Rect.idx_unit_val _ _ _ _ _).trans (by fin_cases a <;> simp))
theorem ld5 (d : Fin 1024) : (r0_5.idx (ix3 0 0 d : S1x1x1024.Idx) : S1x8x1024.Idx) = ix3 0 4 d :=
  funext fun a => Fin.ext ((Rect.idx_unit_val _ _ _ _ _).trans (by fin_cases a <;> simp))
theorem ld6 (r d : Fin 512) : (r0_6.idx (ix3 0 r d : S1x512x512.Idx) : S1x512x512.Idx) = ix3 0 r d :=
  funext fun a => Fin.ext ((Rect.idx_unit_val _ _ _ _ _).trans (by fin_cases a <;> simp))
theorem ld7 (d : Fin 128) : (r0_7.idx (ix2 0 d : S1x128.Idx) : S1x128.Idx) = ix2 0 d :=
  funext fun a => Fin.ext ((Rect.idx_unit_val _ _ _ _ _).trans (by fin_cases a <;> simp))
theorem ld8 (k d : Fin 1024) : (r0_8.idx (ix2 k d : S1024x1024.Idx) : S1024x4096.Idx) = ix2 k ⟨0 * 1024 + d.val, by omega⟩ :=
  funext fun a => Fin.ext ((Rect.idx_unit_val _ _ _ _ _).trans (by fin_cases a <;> simp))
theorem ld9 (d : Fin 1024) : (r0_9.idx (ix2 0 d : S1x1024.Idx) : S1x4096.Idx) = ix2 0 ⟨0 * 1024 + d.val, by omega⟩ :=
  funext fun a => Fin.ext ((Rect.idx_unit_val _ _ _ _ _).trans (by fin_cases a <;> simp))
theorem ld10 (k : Fin 512) (d : Fin 1024) : (r0_10.idx (ix3 0 k d : S1x512x1024.Idx) : S4x512x1024.Idx) = ix3 0 k d :=
  funext fun a => Fin.ext ((Rect.idx_unit_val _ _ _ _ _).trans (by fin_cases a <;> simp))
theorem ld11 (k d : Fin 1024) : (r0_11.idx (ix2 k d : S1024x1024.Idx) : S1024x4096.Idx) = ix2 k ⟨1 * 1024 + d.val, by omega⟩ :=
  funext fun a => Fin.ext ((Rect.idx_unit_val _ _ _ _ _).trans (by fin_cases a <;> simp))
theorem ld12 (d : Fin 1024) : (r0_12.idx (ix2 0 d : S1x1024.Idx) : S1x4096.Idx) = ix2 0 ⟨1 * 1024 + d.val, by omega⟩ :=
  funext fun a => Fin.ext ((Rect.idx_unit_val _ _ _ _ _).trans (by fin_cases a <;> simp))
theorem ld13 (k : Fin 512) (d : Fin 1024) : (r0_13.idx (ix3 0 k d : S1x512x1024.Idx) : S4x512x1024.Idx) = ix3 1 k d :=
  funext fun a => Fin.ext ((Rect.idx_unit_val _ _ _ _ _).trans (by fin_cases a <;> simp))
theorem ld14 (k d : Fin 1024) : (r0_14.idx (ix2 k d : S1024x1024.Idx) : S1024x4096.Idx) = ix2 k ⟨2 * 1024 + d.val, by omega⟩ :=
  funext fun a => Fin.ext ((Rect.idx_unit_val _ _ _ _ _).trans (by fin_cases a <;> simp))
theorem ld15 (d : Fin 1024) : (r0_15.idx (ix2 0 d : S1x1024.Idx) : S1x4096.Idx) = ix2 0 ⟨2 * 1024 + d.val, by omega⟩ :=
  funext fun a => Fin.ext ((Rect.idx_unit_val _ _ _ _ _).trans (by fin_cases a <;> simp))
theorem ld16 (k : Fin 512) (d : Fin 1024) : (r0_16.idx (ix3 0 k d : S1x512x1024.Idx) : S4x512x1024.Idx) = ix3 2 k d :=
  funext fun a => Fin.ext ((Rect.idx_unit_val _ _ _ _ _).trans (by fin_cases a <;> simp))
theorem ld17 (k d : Fin 1024) : (r0_17.idx (ix2 k d : S1024x1024.Idx) : S1024x4096.Idx) = ix2 k ⟨3 * 1024 + d.val, by omega⟩ :=
  funext fun a => Fin.ext ((Rect.idx_unit_val _ _ _ _ _).trans (by fin_cases a <;> simp))
theorem ld18 (d : Fin 1024) : (r0_18.idx (ix2 0 d : S1x1024.Idx) : S1x4096.Idx) = ix2 0 ⟨3 * 1024 + d.val, by omega⟩ :=
  funext fun a => Fin.ext ((Rect.idx_unit_val _ _ _ _ _).trans (by fin_cases a <;> simp))
theorem ld19 (k : Fin 512) (d : Fin 1024) : (r0_19.idx (ix3 0 k d : S1x512x1024.Idx) : S4x512x1024.Idx) = ix3 3 k d :=
  funext fun a => Fin.ext ((Rect.idx_unit_val _ _ _ _ _).trans (by fin_cases a <;> simp))
theorem ld20 (k d : Fin 1024) : (r0_20.idx (ix2 k d : S1024x1024.Idx) : S1024x1024.Idx) = ix2 k d :=
  funext fun a => Fin.ext ((Rect.idx_unit_val _ _ _ _ _).trans (by fin_cases a <;> simp))
theorem ld21 (d : Fin 1024) : (r0_21.idx (ix2 0 d : S1x1024.Idx) : S1x1024.Idx) = ix2 0 d :=
  funext fun a => Fin.ext ((Rect.idx_unit_val _ _ _ _ _).trans (by fin_cases a <;> simp))
theorem ld22 (k : Fin 1024) (d : Fin 128) : (r0_22.idx (ix2 k d : S1024x128.Idx) : S1024x128.Idx) = ix2 k d :=
  funext fun a => Fin.ext ((Rect.idx_unit_val _ _ _ _ _).trans (by fin_cases a <;> simp))

theorem pay2_apply (a : Vec Ideal S1x512x1024 .f32) (r : Fin 512) (d : Fin 1024) : k0_pay2 a (ix2 r d) = a (ix3 0 r d) := by
  pointwise [k0_pay2]
theorem pay3_apply (a : Vec Ideal S1x1x1024 .f32) (d : Fin 1024) : k0_pay3 a (ix2 0 d) = a (ix3 0 0 d) := by
  pointwise [k0_pay3]
theorem pay4_apply (a : Vec Ideal S1x1x1024 .f32) (d : Fin 1024) : k0_pay4 a (ix2 0 d) = a (ix3 0 0 d) := by
  pointwise [k0_pay4]
theorem pay5_apply (a : Vec Ideal S1x1x1024 .f32) (d : Fin 1024) : k0_pay5 a (ix2 0 d) = a (ix3 0 0 d) := by
  pointwise [k0_pay5]
theorem pay15_apply (a : Vec Ideal S1x512x512 .bf16) (r d : Fin 512) : k0_pay15 a (ix2 r d) = a (ix3 0 r d) := by
  pointwise [k0_pay15]
theorem pay16_apply (a : Vec Ideal S1x512x512 .bf16) (r d : Fin 512) : k0_pay16 a (ix2 r d) = a (ix3 0 r d) := by
  pointwise [k0_pay16]
theorem pay17_apply (a : Vec Ideal S1x512x512 .bf16) (r d : Fin 512) : k0_pay17 a (ix2 r d) = a (ix3 0 r d) := by
  pointwise [k0_pay17]
theorem pay21_apply (a : Vec Ideal S1024x1024 .bf16) (r d : Fin 1024) : k0_pay21 a (ix2 r d) = a (ix2 r d) := by
  pointwise [k0_pay21]
theorem pay22_apply (a : Vec Ideal S1x1024 .f32) (d : Fin 1024) : k0_pay22 a (ix2 0 d) = a (ix2 0 d) := by
  pointwise [k0_pay22]

/-! ## A row of the results -/

variable (x0 : Vec Ideal S1x512x1024 .f32) (x1 : Vec Ideal S1x512x512 .f32) (x2 : Vec Ideal S1x512x512 .f32) (x3 : Vec Ideal S1x512x512 .bf16) (x4 : Vec Ideal S1x512x512 .bf16) (x5 : Vec Ideal S1x512x512 .bf16) (x6 : Vec Ideal S1x512x512 .bf16) (x7 : Vec Ideal S1x8x1024 .f32) (x8 : Vec Ideal S1x128 .f32) (x9 : Vec Ideal S1024x4096 .bf16) (x10 : Vec Ideal S1x4096 .f32) (x11 : Vec Ideal S4x512x1024 .bf16) (x12 : Vec Ideal S1024x1024 .bf16) (x13 : Vec Ideal S1x1024 .f32) (x14 : Vec Ideal S1x1024 .f32) (x15 : Vec Ideal S1024x128 .f32) (x16 : Vec Ideal S1x128 .f32)

/-- The data row `r` of a step's blocks reads. -/
def blkRow (r : Fin 512) : Row where
  x d := x0 (ix3 0 r d)
  sh1 d := x7 (ix3 0 0 d)
  sc1 d := x7 (ix3 0 1 d)
  g1 d := x7 (ix3 0 2 d)
  sh2 d := x7 (ix3 0 3 d)
  sc2 d := x7 (ix3 0 4 d)
  o k e := x1 (ix3 0 r ⟨k.val * 128 + e.val, by omega⟩) + x2 (ix3 0 r ⟨k.val * 128 + e.val, by omega⟩)
  z d := x3 (ix3 0 r d)
  ya d := x4 (ix3 0 r d)
  yc d := x5 (ix3 0 r d)
  yf d := x6 (ix3 0 r d)
  nw d := x8 (ix2 0 d)
  wg k j := x9 (ix2 k j)
  bg j := x10 (ix2 0 j)
  wb j k d := x11 (ix3 j k d)
  wo k d := x12 (ix2 k d)
  lw d := x13 (ix2 0 d)
  lb d := x14 (ix2 0 d)
  rw d e := x15 (ix2 d e)
  rb e := x16 (ix2 0 e)

theorem ydnB (r d : Fin 512) :
    k0_pay14 (k0_pay7 (View.ld (Val := Elt Ideal) (e' := .f32) x1 r0_6) (View.ld (Val := Elt Ideal) (e' := .f32) x2 r0_6)) (k0_pay8 (View.ld (Val := Elt Ideal) (e' := .bf16) x3 r0_6))
      (k0_pay11 (k0_pay8 (View.ld (Val := Elt Ideal) (e' := .bf16) x3 r0_6)) (k0_pay9 (View.ld (Val := Elt Ideal) (e' := .f32) x1 r0_6) (View.ld (Val := Elt Ideal) (e' := .f32) x2 r0_6)) (k0_pay10 (View.ld (Val := Elt Ideal) (e' := .f32) x1 r0_6) (View.ld (Val := Elt Ideal) (e' := .f32) x2 r0_6)) (View.ld (Val := Elt Ideal) (e' := .f32) x8 r0_7))
      (k0_pay12 (k0_pay7 (View.ld (Val := Elt Ideal) (e' := .f32) x1 r0_6) (View.ld (Val := Elt Ideal) (e' := .f32) x2 r0_6)) (k0_pay8 (View.ld (Val := Elt Ideal) (e' := .bf16) x3 r0_6)) (View.ld (Val := Elt Ideal) (e' := .f32) x8 r0_7))
      (k0_pay13 (k0_pay7 (View.ld (Val := Elt Ideal) (e' := .f32) x1 r0_6) (View.ld (Val := Elt Ideal) (e' := .f32) x2 r0_6))) (View.ld (Val := Elt Ideal) (e' := .f32) x8 r0_7) (View.ld (Val := Elt Ideal) (e' := .f32) x8 r0_7) (ix2 r d) =
      (blkRow x0 x1 x2 x3 x4 x5 x6 x7 x8 x9 x10 x11 x12 x13 x14 x15 x16 r).ydn d := by
  have hd : (⟨d.val / 128 * 128 + d.val % 128, by omega⟩ : Fin 512) = d := Fin.ext (by dsimp only; omega)
  rw [pay14_apply]
  simp only [pay7_apply, pay8_apply, View.ld, ld0, ld1, ld2, ld3, ld4, ld5, ld6, ld7, ld8, ld9, ld10, ld11, ld12, ld13, ld14, ld15, ld16, ld17, ld18, ld19, ld20, ld21, ld22, Row.ydn, blkRow, hd]

/-- The body's modulated row is the row's. -/
theorem hB (r : Fin 512) (d : Fin 1024) : k0_pay32 x0 x1 x2 x3 x4 x5 x6 x7 x8 x9 x10 x11 x12 x13 x14 x15 x16 (ix2 r d) = (blkRow x0 x1 x2 x3 x4 x5 x6 x7 x8 x9 x10 x11 x12 x13 x14 x15 x16 r).h d := by
  unfold k0_pay32
  simp only [pay6_apply, View.ld, ld0, ld1, ld2, ld3, ld4, ld5, ld6, ld7, ld8, ld9, ld10, ld11, ld12, ld13, ld14, ld15, ld16, ld17, ld18, ld19, ld20, ld21, ld22]
  rfl

/-- The body's normalised row is the row's. -/
theorem nrmB (r : Fin 512) (d : Fin 1024) : k0_pay36 x0 x1 x2 x3 x4 x5 x6 x7 x8 x9 x10 x11 x12 x13 x14 x15 x16 (ix2 r d) = normed (blkRow x0 x1 x2 x3 x4 x5 x6 x7 x8 x9 x10 x11 x12 x13 x14 x15 x16 r).pre d := by
  unfold k0_pay36
  rw [pay23_apply]
  refine congrFun (congrArg normed (funext fun d => ?_)) d
  unfold k0_pay33 k0_pay34
  simp only [preV_apply, pay2_apply, pay3_apply, pay15_apply, pay16_apply, pay17_apply, pay20_apply, pay21_apply, hB x0 x1 x2 x3 x4 x5 x6 x7 x8 x9 x10 x11 x12 x13 x14 x15 x16, ydnB x0 x1 x2 x3 x4 x5 x6 x7 x8 x9 x10 x11 x12 x13 x14 x15 x16,
    View.ld, ld0, ld1, ld2, ld3, ld4, ld5, ld6, ld7, ld8, ld9, ld10, ld11, ld12, ld13, ld14, ld15, ld16, ld17, ld18, ld19, ld20, ld21, ld22]
  rfl

/-- The body's new stream's row is the row's. -/
theorem x1B (r : Fin 512) (d : Fin 1024) :
    k0_pay25 (k0_pay35 x0 x1 x2 x3 x4 x5 x6 x7 x8 x9 x10 x11 x12 x13 x14 x15 x16) (k0_pay36 x0 x1 x2 x3 x4 x5 x6 x7 x8 x9 x10 x11 x12 x13 x14 x15 x16) (k0_pay37 x0 x1 x2 x3 x4 x5 x6 x7 x8 x9 x10 x11 x12 x13 x14 x15 x16) (ix2 r d) =
      (blkRow x0 x1 x2 x3 x4 x5 x6 x7 x8 x9 x10 x11 x12 x13 x14 x15 x16 r).x1 d := by
  unfold k0_pay35 k0_pay37
  simp only [pay25_apply, nrmB, pay22_apply, View.ld, ld0, ld1, ld2, ld3, ld4, ld5, ld6, ld7, ld8, ld9, ld10, ld11, ld12, ld13, ld14, ld15, ld16, ld17, ld18, ld19, ld20, ld21, ld22]
  rfl

/-- The body's row for the channel mixer is the row's. -/
theorem h2B (r : Fin 512) (d : Fin 1024) :
    k0_pay27 (k0_pay30 x0 x1 x2 x3 x4 x5 x6 x7 x8 x9 x10 x11 x12 x13 x14 x15 x16) (k0_pay31 x0 x1 x2 x3 x4 x5 x6 x7 x8 x9 x10 x11 x12 x13 x14 x15 x16)
      (k0_pay35 x0 x1 x2 x3 x4 x5 x6 x7 x8 x9 x10 x11 x12 x13 x14 x15 x16) (k0_pay36 x0 x1 x2 x3 x4 x5 x6 x7 x8 x9 x10 x11 x12 x13 x14 x15 x16) (k0_pay37 x0 x1 x2 x3 x4 x5 x6 x7 x8 x9 x10 x11 x12 x13 x14 x15 x16) (ix2 r d) =
      (blkRow x0 x1 x2 x3 x4 x5 x6 x7 x8 x9 x10 x11 x12 x13 x14 x15 x16 r).h2 d := by
  rw [pay27_apply, x1B]
  unfold k0_pay30 k0_pay31
  simp only [pay4_apply, pay5_apply, View.ld, ld0, ld1, ld2, ld3, ld4, ld5, ld6, ld7, ld8, ld9, ld10, ld11, ld12, ld13, ld14, ld15, ld16, ld17, ld18, ld19, ld20, ld21, ld22]
  rfl

/-- The body's logits are the row's, as three products. -/
theorem lgB (r : Fin 512) (e : Fin 128) :
    k0_pay29 (k0_pay30 x0 x1 x2 x3 x4 x5 x6 x7 x8 x9 x10 x11 x12 x13 x14 x15 x16) (k0_pay31 x0 x1 x2 x3 x4 x5 x6 x7 x8 x9 x10 x11 x12 x13 x14 x15 x16)
      (k0_pay35 x0 x1 x2 x3 x4 x5 x6 x7 x8 x9 x10 x11 x12 x13 x14 x15 x16) (k0_pay36 x0 x1 x2 x3 x4 x5 x6 x7 x8 x9 x10 x11 x12 x13 x14 x15 x16) (k0_pay37 x0 x1 x2 x3 x4 x5 x6 x7 x8 x9 x10 x11 x12 x13 x14 x15 x16)
      (View.ld (Val := Elt Ideal) (e' := .f32) x15 r0_22) (View.ld (Val := Elt Ideal) (e' := .f32) x16 r0_7) (ix2 r e) =
      (blkRow x0 x1 x2 x3 x4 x5 x6 x7 x8 x9 x10 x11 x12 x13 x14 x15 x16 r).lg3 e := by
  rw [pay29_apply]
  simp only [h2B, View.ld, ld0, ld1, ld2, ld3, ld4, ld5, ld6, ld7, ld8, ld9, ld10, ld11, ld12, ld13, ld14, ld15, ld16, ld17, ld18, ld19, ld20, ld21, ld22]
  rfl

/-- The first result block, row by row. -/
theorem out17 (y : S1x512x1024.Idx) (r : Fin 512) (d : Fin 1024) (hr : (y 1).val = r.val) (hd : (y 2).val = d.val) :
    out0_17 x0 x1 x2 x3 x4 x5 x6 x7 x8 x9 x10 x11 x12 x13 x14 x15 x16 y = (blkRow x0 x1 x2 x3 x4 x5 x6 x7 x8 x9 x10 x11 x12 x13 x14 x15 x16 r).x1 d := by
  unfold out0_17
  canon_tiles x h
  have hx : x = ix3 0 r d := by
    idx_vars x
    rw [ix3_inj]
    exact ⟨by omega, Fin.ext (by simpa using h1.symm.trans hr), Fin.ext (by simpa using h2.symm.trans hd)⟩
  rw [hx]
  exact (pay26_apply _ _ _ _ _).trans (x1B x0 x1 x2 x3 x4 x5 x6 x7 x8 x9 x10 x11 x12 x13 x14 x15 x16 _ _)

/-- The second result block, row by row. -/
theorem out18 (y : S1x512x1024.Idx) (r : Fin 512) (d : Fin 1024) (hr : (y 1).val = r.val) (hd : (y 2).val = d.val) :
    out0_18 x0 x1 x2 x3 x4 x5 x6 x7 x8 x9 x10 x11 x12 x13 x14 x15 x16 y = (blkRow x0 x1 x2 x3 x4 x5 x6 x7 x8 x9 x10 x11 x12 x13 x14 x15 x16 r).h2 d := by
  unfold out0_18
  canon_tiles x h
  have hx : x = ix3 0 r d := by
    idx_vars x
    rw [ix3_inj]
    exact ⟨by omega, Fin.ext (by simpa using h1.symm.trans hr), Fin.ext (by simpa using h2.symm.trans hd)⟩
  rw [hx]
  exact (pay28_apply _ _ _ _ _ _ _).trans (h2B x0 x1 x2 x3 x4 x5 x6 x7 x8 x9 x10 x11 x12 x13 x14 x15 x16 _ _)

/-- The third result block, row by row. -/
theorem out19 (y : S1x512x128.Idx) (r : Fin 512) (e : Fin 128) (hr : (y 1).val = r.val) (hd : (y 2).val = e.val) :
    out0_19 x0 x1 x2 x3 x4 x5 x6 x7 x8 x9 x10 x11 x12 x13 x14 x15 x16 y = (blkRow x0 x1 x2 x3 x4 x5 x6 x7 x8 x9 x10 x11 x12 x13 x14 x15 x16 r).lg3 e := by
  unfold out0_19
  canon_tiles x h
  have hx : x = ix3 0 r e := by
    idx_vars x
    rw [ix3_inj]
    exact ⟨by omega, Fin.ext (by simpa using h1.symm.trans hr), Fin.ext (by simpa using h2.symm.trans hd)⟩
  rw [hx]
  exact (pay1_apply _ _ _).trans (lgB x0 x1 x2 x3 x4 x5 x6 x7 x8 x9 x10 x11 x12 x13 x14 x15 x16 _ _)

end Cert.Mrg

end
-- ==== Proof.MrgArgs.lean ====
/- The merge's nineteen argument arrays, and the row of data each token's row of results reads from them. -/
module

public import proofs.«01_k».proof.Proof.MrgSpec
public import proofs.«01_k».proof.Reference2Ideal

@[expose] public section

set_option maxRecDepth 16384

noncomputable section

namespace Cert.Mrg

open Idealize.ShloMosaic Cert.Reference2Ideal

/-- The arrays both programs take, in their order. -/
structure Args where
  x : FVec Ideal S8x4096x1024 .f32
  c : FVec Ideal S8x1024 .f32
  of : FVec Ideal S8x4096x4x128 .f32
  ob : FVec Ideal S8x4096x4x128 .f32
  z : FVec Ideal S8x4096x512 .f32
  ya : FVec Ideal S8x4096x512 .f32
  yc : FVec Ideal S8x4096x512 .f32
  yf : FVec Ideal S8x4096x512 .f32
  wa : FVec Ideal S1024x6144 .f32
  ba : FVec Ideal S6144 .f32
  nw : FVec Ideal S128 .f32
  wb : FVec Ideal S4x512x1024 .f32
  wg : FVec Ideal S1024x4096 .f32
  bg : FVec Ideal S4096 .f32
  wo : FVec Ideal S1024x1024 .f32
  lw : FVec Ideal S1024 .f32
  lb : FVec Ideal S1024 .f32
  rw : FVec Ideal S1024x32 .f32
  rb : FVec Ideal S32 .f32

namespace Args

variable (A : Args)

/-- The batch's modulation vectors side by side: the gated condition through a linear layer. -/
def ada (b : Fin 8) (j : Fin 6144) : EReal :=
  (∑ k : Fin 1024, A.c (ix2 b k) * Ideal.logistic (A.c (ix2 b k)) * A.wa (ix2 k j)) + A.ba (ix1 j)

/-- The data token `l` of batch `b` reads. -/
def row (b : Fin 8) (l : Fin 4096) : Row where
  x d := A.x (ix3 b l d)
  sh1 d := A.ada b ⟨0 * 1024 + d.val, by omega⟩
  sc1 d := A.ada b ⟨1 * 1024 + d.val, by omega⟩
  g1 d := A.ada b ⟨2 * 1024 + d.val, by omega⟩
  sh2 d := A.ada b ⟨3 * 1024 + d.val, by omega⟩
  sc2 d := A.ada b ⟨4 * 1024 + d.val, by omega⟩
  o k e := A.of (ix4 b l k e) + A.ob (ix4 b l k e)
  z d := A.z (ix3 b l d)
  ya d := A.ya (ix3 b l d)
  yc d := A.yc (ix3 b l d)
  yf d := A.yf (ix3 b l d)
  nw d := A.nw (ix1 d)
  wg k j := A.wg (ix2 k j)
  bg j := A.bg (ix1 j)
  wb j k d := A.wb (ix3 j k d)
  wo k d := A.wo (ix2 k d)
  lw d := A.lw (ix1 d)
  lb d := A.lb (ix1 d)
  rw d e := if h : e.val < 32 then A.rw (ix2 d ⟨e.val, h⟩) else 0
  rb e := if h : e.val < 32 then A.rb (ix1 ⟨e.val, h⟩) else 0

end Args

end Cert.Mrg

end
-- ==== Proof.MrgEntry.lean ====
/- What each step of the merge kernel's launch reads, from the arguments. -/
module

public import proofs.«01_k».proof.Proof.MrgBlock
public import proofs.«01_k».proof.Proof.MrgArgs

@[expose] public section

set_option maxRecDepth 16384

noncomputable section

namespace Cert.Mrg

open Idealize.ShloMosaic Idealize.ShloMosaic.TcCoe Cert.Kernel2Ideal Cert.Kernel2Ideal.Gen

variable (m : (ℓ : Loc nD τ sig) → Buf (Elt Ideal) ℓ) (c : Dev nD)

/-- The block each window's step reads or writes. -/
theorem idx : ∀ t : Fin cfg0.N, win0_0.index t = ![t.val / 8, t.val % 8, 0] ∧
    win0_1.index t = ![t.val / 8, t.val % 8, 0] ∧
    win0_2.index t = ![t.val / 8, t.val % 8, 0] ∧
    win0_3.index t = ![t.val / 8, t.val % 8, 0] ∧
    win0_4.index t = ![t.val / 8, t.val % 8, 0] ∧
    win0_5.index t = ![t.val / 8, t.val % 8, 0] ∧
    win0_6.index t = ![t.val / 8, t.val % 8, 0] ∧
    win0_7.index t = ![t.val / 8, 0, 0] ∧
    win0_8.index t = ![0, 0] ∧
    win0_9.index t = ![0, 0] ∧
    win0_10.index t = ![0, 0] ∧
    win0_11.index t = ![0, 0, 0] ∧
    win0_12.index t = ![0, 0] ∧
    win0_13.index t = ![0, 0] ∧
    win0_14.index t = ![0, 0] ∧
    win0_15.index t = ![0, 0] ∧
    win0_16.index t = ![0, 0] ∧
    win0_17.index t = ![t.val / 8, t.val % 8, 0] ∧
    win0_18.index t = ![t.val / 8, t.val % 8, 0] ∧
    win0_19.index t = ![t.val / 8, t.val % 8, 0] :=
  (by decide +kernel : ∀ t : Fin grid0.N, _)

theorem bt (t : Fin cfg0.N) : t.val / 8 < 8 := by have : t.val < 64 := t.isLt; omega

/-- The kernel's argument arrays in a memory. -/
def argsK : Args where
  x := m ((c : Thread nD τ).loc main_arg0)
  c := m ((c : Thread nD τ).loc main_arg1)
  of := m ((c : Thread nD τ).loc main_arg2)
  ob := m ((c : Thread nD τ).loc main_arg3)
  z := m ((c : Thread nD τ).loc main_arg4)
  ya := m ((c : Thread nD τ).loc main_arg5)
  yc := m ((c : Thread nD τ).loc main_arg6)
  yf := m ((c : Thread nD τ).loc main_arg7)
  wa := m ((c : Thread nD τ).loc main_arg8)
  ba := m ((c : Thread nD τ).loc main_arg9)
  nw := m ((c : Thread nD τ).loc main_arg10)
  wb := m ((c : Thread nD τ).loc main_arg11)
  wg := m ((c : Thread nD τ).loc main_arg12)
  bg := m ((c : Thread nD τ).loc main_arg13)
  wo := m ((c : Thread nD τ).loc main_arg14)
  lw := m ((c : Thread nD τ).loc main_arg15)
  lb := m ((c : Thread nD τ).loc main_arg16)
  rw := m ((c : Thread nD τ).loc main_arg17)
  rb := m ((c : Thread nD τ).loc main_arg18)

/-! ## A step's blocks are rows of the launch's arrays -/

theorem blk0 (t : Fin cfg0.N) (r : Fin 512) (d : Fin 1024) :
    iblk m c 0 t (ix3 0 r d) = V m c main_arg0 (ix3 (n0 := 8) (n1 := 4096) (n2 := 1024) ⟨t.val / 8, bt t⟩ ⟨t.val % 8 * 512 + r.val, by omega⟩ d) := by
  blk_ext [iblk, idx t]
theorem blk1 (t : Fin cfg0.N) (r : Fin 512) (d : Fin 512) :
    iblk m c 1 t (ix3 0 r d) = V m c main_v17 (ix3 (n0 := 8) (n1 := 4096) (n2 := 512) ⟨t.val / 8, bt t⟩ ⟨t.val % 8 * 512 + r.val, by omega⟩ d) := by
  blk_ext [iblk, idx t]
theorem blk2 (t : Fin cfg0.N) (r : Fin 512) (d : Fin 512) :
    iblk m c 2 t (ix3 0 r d) = V m c main_v18 (ix3 (n0 := 8) (n1 := 4096) (n2 := 512) ⟨t.val / 8, bt t⟩ ⟨t.val % 8 * 512 + r.val, by omega⟩ d) := by
  blk_ext [iblk, idx t]
theorem blk3 (t : Fin cfg0.N) (r : Fin 512) (d : Fin 512) :
    iblk m c 3 t (ix3 0 r d) = V m c main_v19 (ix3 (n0 := 8) (n1 := 4096) (n2 := 512) ⟨t.val / 8, bt t⟩ ⟨t.val % 8 * 512 + r.val, by omega⟩ d) := by
  blk_ext [iblk, idx t]
theorem blk4 (t : Fin cfg0.N) (r : Fin 512) (d : Fin 512) :
    iblk m c 4 t (ix3 0 r d) = V m c main_v20 (ix3 (n0 := 8) (n1 := 4096) (n2 := 512) ⟨t.val / 8, bt t⟩ ⟨t.val % 8 * 512 + r.val, by omega⟩ d) := by
  blk_ext [iblk, idx t]
theorem blk5 (t : Fin cfg0.N) (r : Fin 512) (d : Fin 512) :
    iblk m c 5 t (ix3 0 r d) = V m c main_v21 (ix3 (n0 := 8) (n1 := 4096) (n2 := 512) ⟨t.val / 8, bt t⟩ ⟨t.val % 8 * 512 + r.val, by omega⟩ d) := by
  blk_ext [iblk, idx t]
theorem blk6 (t : Fin cfg0.N) (r : Fin 512) (d : Fin 512) :
    iblk m c 6 t (ix3 0 r d) = V m c main_v22 (ix3 (n0 := 8) (n1 := 4096) (n2 := 512) ⟨t.val / 8, bt t⟩ ⟨t.val % 8 * 512 + r.val, by omega⟩ d) := by
  blk_ext [iblk, idx t]
theorem blk7 (t : Fin cfg0.N) (j : Fin 8) (d : Fin 1024) :
    iblk m c 7 t (ix3 0 j d) = V m c main_v6 (ix3 (n0 := 8) (n1 := 8) (n2 := 1024) ⟨t.val / 8, bt t⟩ j d) := by
  blk_ext [iblk, idx t]
theorem blk11 (t : Fin cfg0.N) (j : Fin 4) (k : Fin 512) (d : Fin 1024) :
    iblk m c 11 t (ix3 j k d) = V m c main_v10 (ix3 (n0 := 4) (n1 := 512) (n2 := 1024) j k d) := by
  blk_ext [iblk, idx t]
theorem blk8 (t : Fin cfg0.N) (k : Fin 1) (d : Fin 128) :
    iblk m c 8 t (ix2 k d) = V m c main_v7 (ix2 (n0 := 1) (n1 := 128) k d) := by
  blk_ext [iblk, idx t]
theorem blk9 (t : Fin cfg0.N) (k : Fin 1024) (d : Fin 4096) :
    iblk m c 9 t (ix2 k d) = V m c main_v8 (ix2 (n0 := 1024) (n1 := 4096) k d) := by
  blk_ext [iblk, idx t]
theorem blk10 (t : Fin cfg0.N) (k : Fin 1) (d : Fin 4096) :
    iblk m c 10 t (ix2 k d) = V m c main_v9 (ix2 (n0 := 1) (n1 := 4096) k d) := by
  blk_ext [iblk, idx t]
theorem blk12 (t : Fin cfg0.N) (k : Fin 1024) (d : Fin 1024) :
    iblk m c 12 t (ix2 k d) = V m c main_v11 (ix2 (n0 := 1024) (n1 := 1024) k d) := by
  blk_ext [iblk, idx t]
theorem blk13 (t : Fin cfg0.N) (k : Fin 1) (d : Fin 1024) :
    iblk m c 13 t (ix2 k d) = V m c main_v12 (ix2 (n0 := 1) (n1 := 1024) k d) := by
  blk_ext [iblk, idx t]
theorem blk14 (t : Fin cfg0.N) (k : Fin 1) (d : Fin 1024) :
    iblk m c 14 t (ix2 k d) = V m c main_v13 (ix2 (n0 := 1) (n1 := 1024) k d) := by
  blk_ext [iblk, idx t]
theorem blk15 (t : Fin cfg0.N) (k : Fin 1024) (d : Fin 128) :
    iblk m c 15 t (ix2 k d) = V m c main_v14 (ix2 (n0 := 1024) (n1 := 128) k d) := by
  blk_ext [iblk, idx t]
theorem blk16 (t : Fin cfg0.N) (k : Fin 1) (d : Fin 128) :
    iblk m c 16 t (ix2 k d) = V m c main_v16 (ix2 (n0 := 1) (n1 := 128) k d) := by
  blk_ext [iblk, idx t]

/-! ## The launch's arrays, from the arguments -/

theorem e1 (b : Fin 8) (l : Fin 4096) (d : Fin 512) :
    (V m c main_v17 : FVec Ideal S8x4096x512 .f32) (ix3 b l d) = (argsK m c).of (ix4 b l ⟨d.val / 128, by omega⟩ ⟨d.val % 128, by omega⟩) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e2 (b : Fin 8) (l : Fin 4096) (d : Fin 512) :
    (V m c main_v18 : FVec Ideal S8x4096x512 .f32) (ix3 b l d) = (argsK m c).ob (ix4 b l ⟨d.val / 128, by omega⟩ ⟨d.val % 128, by omega⟩) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e3 (b : Fin 8) (l : Fin 4096) (d : Fin 512) :
    (V m c main_v19 : FVec Ideal S8x4096x512 .bf16) (ix3 b l d) = (argsK m c).z (ix3 b l d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e4 (b : Fin 8) (l : Fin 4096) (d : Fin 512) :
    (V m c main_v20 : FVec Ideal S8x4096x512 .bf16) (ix3 b l d) = (argsK m c).ya (ix3 b l d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e5 (b : Fin 8) (l : Fin 4096) (d : Fin 512) :
    (V m c main_v21 : FVec Ideal S8x4096x512 .bf16) (ix3 b l d) = (argsK m c).yc (ix3 b l d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e6 (b : Fin 8) (l : Fin 4096) (d : Fin 512) :
    (V m c main_v22 : FVec Ideal S8x4096x512 .bf16) (ix3 b l d) = (argsK m c).yf (ix3 b l d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
/-- The six modulation vectors of a batch, and two rows of zeros. -/
theorem e7 (b : Fin 8) (j : Fin 8) (d : Fin 1024) (hj : j.val < 5) :
    (V m c main_v6 : FVec Ideal S8x8x1024 .f32) (ix3 b j d) = (argsK m c).ada b ⟨j.val * 1024 + d.val, by omega⟩ := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rw [dif_pos (show j.val < 6 by omega)]
  rfl
theorem e8 (d : Fin 128) : (V m c main_v7 : FVec Ideal S1x128 .f32) (ix2 0 d) = (argsK m c).nw (ix1 d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e9 (k : Fin 1024) (d : Fin 4096) : (V m c main_v8 : FVec Ideal S1024x4096 .bf16) (ix2 k d) = (argsK m c).wg (ix2 k d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e10 (d : Fin 4096) : (V m c main_v9 : FVec Ideal S1x4096 .f32) (ix2 0 d) = (argsK m c).bg (ix1 d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e11 (j : Fin 4) (k : Fin 512) (d : Fin 1024) : (V m c main_v10 : FVec Ideal S4x512x1024 .bf16) (ix3 j k d) = (argsK m c).wb (ix3 j k d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e12 (k d : Fin 1024) : (V m c main_v11 : FVec Ideal S1024x1024 .bf16) (ix2 k d) = (argsK m c).wo (ix2 k d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e13 (d : Fin 1024) : (V m c main_v12 : FVec Ideal S1x1024 .f32) (ix2 0 d) = (argsK m c).lw (ix1 d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl
theorem e14 (d : Fin 1024) : (V m c main_v13 : FVec Ideal S1x1024 .f32) (ix2 0 d) = (argsK m c).lb (ix1 d) := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl

theorem zero_i : (FloatOps.sitofp .f32 0#32 : Ideal .f32) = 0 := by simp [FloatOps.sitofp]

theorem e15 (k : Fin 1024) (e : Fin 128) :
    (V m c main_v14 : FVec Ideal S1024x128 .f32) (ix2 k e) = if h : e.val < 32 then (argsK m c).rw (ix2 k ⟨e.val, h⟩) else 0 := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  by_cases h : e.val < 32
  · rw [dif_pos h, dif_pos h]
    rfl
  · rw [dif_neg h, dif_neg h]
    exact zero_i
theorem e16 (e : Fin 128) :
    (V m c main_v16 : FVec Ideal S1x128 .f32) (ix2 0 e) = if h : e.val < 32 then (argsK m c).rb (ix1 ⟨e.val, h⟩) else 0 := by
  unfold V
  simp only [hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  by_cases h : e.val < 32
  · rw [dif_pos h, dif_pos h]
    rfl
  · rw [dif_neg h, dif_neg h]
    exact zero_i

end Cert.Mrg

end
-- ==== Proof.MrgKernel.lean ====
/- The merge kernel's three result arrays, row by row. -/
module

public import proofs.«01_k».proof.Proof.MrgEntry

@[expose] public section

set_option maxRecDepth 16384

noncomputable section

namespace Cert.Mrg

open Idealize.ShloMosaic Idealize.ShloMosaic.TcCoe Cert.Kernel2Ideal Cert.Kernel2Ideal.Gen

variable (m : (ℓ : Loc nD τ sig) → Buf (Elt Ideal) ℓ) (c : Dev nD)

/-- Head `k`'s lane `e` of the forward scan's block. -/
theorem o1 (t : Fin cfg0.N) (r : Fin 512) (k : Fin 4) (e : Fin 128) :
    iblk m c 1 t (ix3 0 r ⟨k.val * 128 + e.val, by omega⟩) = (argsK m c).of (ix4 ⟨t.val / 8, bt t⟩ ⟨t.val % 8 * 512 + r.val, by omega⟩ k e) := by
  rw [blk1]
  refine (e1 m c _ _ _).trans ?_
  have hk : (⟨(k.val * 128 + e.val) / 128, by omega⟩ : Fin 4) = k := Fin.ext (by dsimp only; omega)
  have he : (⟨(k.val * 128 + e.val) % 128, by omega⟩ : Fin 128) = e := Fin.ext (by dsimp only; omega)
  rw [hk, he]

/-- Head `k`'s lane `e` of the backward scan's block. -/
theorem o2 (t : Fin cfg0.N) (r : Fin 512) (k : Fin 4) (e : Fin 128) :
    iblk m c 2 t (ix3 0 r ⟨k.val * 128 + e.val, by omega⟩) = (argsK m c).ob (ix4 ⟨t.val / 8, bt t⟩ ⟨t.val % 8 * 512 + r.val, by omega⟩ k e) := by
  rw [blk2]
  refine (e2 m c _ _ _).trans ?_
  have hk : (⟨(k.val * 128 + e.val) / 128, by omega⟩ : Fin 4) = k := Fin.ext (by dsimp only; omega)
  have he : (⟨(k.val * 128 + e.val) % 128, by omega⟩ : Fin 128) = e := Fin.ext (by dsimp only; omega)
  rw [hk, he]

theorem b0 (t : Fin cfg0.N) (r : Fin 512) (d : Fin 1024) :
    iblk m c 0 t (ix3 0 r d) = (argsK m c).x (ix3 ⟨t.val / 8, bt t⟩ ⟨t.val % 8 * 512 + r.val, by omega⟩ d) := by
  rw [blk0]
  exact congrFun (V_main_arg0 m c) _
theorem b3 (t : Fin cfg0.N) (r : Fin 512) (d : Fin 512) :
    iblk m c 3 t (ix3 0 r d) = (argsK m c).z (ix3 ⟨t.val / 8, bt t⟩ ⟨t.val % 8 * 512 + r.val, by omega⟩ d) := by
  rw [blk3]
  exact e3 m c _ _ d
theorem b4 (t : Fin cfg0.N) (r : Fin 512) (d : Fin 512) :
    iblk m c 4 t (ix3 0 r d) = (argsK m c).ya (ix3 ⟨t.val / 8, bt t⟩ ⟨t.val % 8 * 512 + r.val, by omega⟩ d) := by
  rw [blk4]
  exact e4 m c _ _ d
theorem b5 (t : Fin cfg0.N) (r : Fin 512) (d : Fin 512) :
    iblk m c 5 t (ix3 0 r d) = (argsK m c).yc (ix3 ⟨t.val / 8, bt t⟩ ⟨t.val % 8 * 512 + r.val, by omega⟩ d) := by
  rw [blk5]
  exact e5 m c _ _ d
theorem b6 (t : Fin cfg0.N) (r : Fin 512) (d : Fin 512) :
    iblk m c 6 t (ix3 0 r d) = (argsK m c).yf (ix3 ⟨t.val / 8, bt t⟩ ⟨t.val % 8 * 512 + r.val, by omega⟩ d) := by
  rw [blk6]
  exact e6 m c _ _ d
theorem b7 (t : Fin cfg0.N) (j : Fin 8) (d : Fin 1024) (hj : j.val < 5) :
    iblk m c 7 t (ix3 0 j d) = (argsK m c).ada ⟨t.val / 8, bt t⟩ ⟨j.val * 1024 + d.val, by omega⟩ := by
  rw [blk7]
  exact e7 m c _ j d hj
theorem b8 (t : Fin cfg0.N) (d : Fin 128) : iblk m c 8 t (ix2 0 d) = (argsK m c).nw (ix1 d) := by
  rw [blk8]
  exact e8 m c d
theorem b10 (t : Fin cfg0.N) (d : Fin 4096) : iblk m c 10 t (ix2 0 d) = (argsK m c).bg (ix1 d) := by
  rw [blk10]
  exact e10 m c d
theorem b13 (t : Fin cfg0.N) (d : Fin 1024) : iblk m c 13 t (ix2 0 d) = (argsK m c).lw (ix1 d) := by
  rw [blk13]
  exact e13 m c d
theorem b14 (t : Fin cfg0.N) (d : Fin 1024) : iblk m c 14 t (ix2 0 d) = (argsK m c).lb (ix1 d) := by
  rw [blk14]
  exact e14 m c d
theorem b9 (t : Fin cfg0.N) (k : Fin 1024) (d : Fin 4096) : iblk m c 9 t (ix2 k d) = (argsK m c).wg (ix2 k d) := by
  rw [blk9]
  exact e9 m c k d
theorem b12 (t : Fin cfg0.N) (k : Fin 1024) (d : Fin 1024) : iblk m c 12 t (ix2 k d) = (argsK m c).wo (ix2 k d) := by
  rw [blk12]
  exact e12 m c k d
theorem b11 (t : Fin cfg0.N) (j : Fin 4) (k : Fin 512) (d : Fin 1024) : iblk m c 11 t (ix3 j k d) = (argsK m c).wb (ix3 j k d) := by
  rw [blk11]
  exact e11 m c j k d
theorem b15 (t : Fin cfg0.N) (k : Fin 1024) (e : Fin 128) :
    iblk m c 15 t (ix2 k e) = if h : e.val < 32 then (argsK m c).rw (ix2 k ⟨e.val, h⟩) else (0 : EReal) := by
  rw [blk15]
  exact e15 m c k e
theorem b16 (t : Fin cfg0.N) (e : Fin 128) :
    iblk m c 16 t (ix2 0 e) = if h : e.val < 32 then (argsK m c).rb (ix1 ⟨e.val, h⟩) else (0 : EReal) := by
  rw [blk16]
  exact e16 m c e

set_option maxHeartbeats 2000000 in
/-- The data a row of a step's blocks reads is its token's. -/
theorem row_eq (t : Fin cfg0.N) (r : Fin 512) :
    blkRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r =
      (argsK m c).row ⟨t.val / 8, bt t⟩ ⟨t.val % 8 * 512 + r.val, by omega⟩ := by
  apply Row.ext
  · funext d; exact b0 m c t r d
  · funext d; exact b7 m c t 0 d (by decide)
  · funext d; exact b7 m c t 1 d (by decide)
  · funext d; exact b7 m c t 2 d (by decide)
  · funext d; exact b7 m c t 3 d (by decide)
  · funext d; exact b7 m c t 4 d (by decide)
  · funext k e; exact congrArg₂ (· + ·) (o1 m c t r k e) (o2 m c t r k e)
  · funext d; exact b3 m c t r d
  · funext d; exact b4 m c t r d
  · funext d; exact b5 m c t r d
  · funext d; exact b6 m c t r d
  · funext d; exact b8 m c t d
  · funext k d; exact b9 m c t k d
  · funext d; exact b10 m c t d
  · funext j k d; exact b11 m c t j k d
  · funext k d; exact b12 m c t k d
  · funext d; exact b13 m c t d
  · funext d; exact b14 m c t d
  · funext k d; exact b15 m c t k d
  · funext d; exact b16 m c t d

/-- The new stream, from the arguments. -/
def K1 (A : Args) : FVec Ideal S8x4096x1024 .f32 := fun i => (A.row (i 0) (i 1)).x1 (i 2)
/-- The channel mixer's rows, from the arguments. -/
def K2 (A : Args) : FVec Ideal S8x4096x1024 .bf16 := fun i => (A.row (i 0) (i 1)).h2 (i 2)
/-- The router's logits as three products, from the arguments. -/
def K3 (A : Args) : FVec Ideal S8x4096x128 .f32 := fun i => (A.row (i 0) (i 1)).lg3 (i 2)

/-- The launch leaves that array in window 17. -/
theorem final17 : (dats m 0 c).arrAt 17 cfg0.N = K1 (argsK m c) := by
  refine (dats m 0 c).arrAt_eq_of_covers 17 _ (by decide +kernel) fun t _ y => ?_
  blk_simp
  rw [after0_17]
  have hy : (win0_17.blk t).view.emb y = ix3 (n0 := 8) (n1 := 4096) (n2 := 1024) ⟨t.val / 8, bt t⟩ ⟨t.val % 8 * 512 + (y 1).val, by
      have : (y 1).val < 512 := (y 1).isLt; omega⟩ (y 2) := by
    blk_ext [idx t]
  rw [hy]
  exact (out17 _ _ _ _ _ _ _ _ _ _ _ _ _ _ _ _ _ y (y 1) (y 2) rfl rfl).trans (congrArg (fun R : Row => R.x1 (y 2)) (row_eq m c t (y 1)))

/-- The launch leaves that array in window 18. -/
theorem final18 : (dats m 0 c).arrAt 18 cfg0.N = K2 (argsK m c) := by
  refine (dats m 0 c).arrAt_eq_of_covers 18 _ (by decide +kernel) fun t _ y => ?_
  blk_simp
  rw [after0_18]
  have hy : (win0_18.blk t).view.emb y = ix3 (n0 := 8) (n1 := 4096) (n2 := 1024) ⟨t.val / 8, bt t⟩ ⟨t.val % 8 * 512 + (y 1).val, by
      have : (y 1).val < 512 := (y 1).isLt; omega⟩ (y 2) := by
    blk_ext [idx t]
  rw [hy]
  exact (out18 _ _ _ _ _ _ _ _ _ _ _ _ _ _ _ _ _ y (y 1) (y 2) rfl rfl).trans (congrArg (fun R : Row => R.h2 (y 2)) (row_eq m c t (y 1)))

/-- The launch leaves that array in window 19. -/
theorem final19 : (dats m 0 c).arrAt 19 cfg0.N = K3 (argsK m c) := by
  refine (dats m 0 c).arrAt_eq_of_covers 19 _ (by decide +kernel) fun t _ y => ?_
  blk_simp
  rw [after0_19]
  have hy : (win0_19.blk t).view.emb y = ix3 (n0 := 8) (n1 := 4096) (n2 := 128) ⟨t.val / 8, bt t⟩ ⟨t.val % 8 * 512 + (y 1).val, by
      have : (y 1).val < 512 := (y 1).isLt; omega⟩ (y 2) := by
    blk_ext [idx t]
  rw [hy]
  exact (out19 _ _ _ _ _ _ _ _ _ _ _ _ _ _ _ _ _ y (y 1) (y 2) rfl rfl).trans (congrArg (fun R : Row => R.lg3 (y 2)) (row_eq m c t (y 1)))

end Cert.Mrg

end
-- ==== Proof.MrgRef.lean ====
/- The reference's merge, stage by stage, and its three results at an index. -/
module

public import proofs.«01_k».proof.Proof.MrgArgs
public import proofs.«01_k».proof.Defs
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Mrg

open Idealize.ShloMosaic Cert.Reference2Ideal Cert.Reference2Ideal.Gen

/-- The condition's modulation vectors. -/
def ADA (c : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none
      (mulf c (Host.divf (broadcastInDim S8x1024 ![] bcast_S_S8x1024 (constant S_ .f32 0x3F800000#32))
        (addf (broadcastInDim S8x1024 ![] bcast_S_S8x1024 (constant S_ .f32 0x3F800000#32)) (Host.exp (Host.negf c))))) w)
    (broadcastInDim S8x6144 ![0, 1] bcast_S1x6144_S8x6144_0_1 (broadcastInDim S1x6144 ![1] bcast_S6144_S1x6144_1 b))

/-- The six vectors apart. -/
def SIX (M : FVec Ideal S8x6144 .f32) : FVec Ideal S8x1x6x1024 .f32 := shapeCast _ M shapeCasts_S8x6144_S8x1x6x1024

def V0 (M : FVec Ideal S8x6144 .f32) : FVec Ideal S8x1x1024 .f32 :=
  shapeCast _ (extractStridedSlice S8x1x1x1024 ![0, 0, 0, 0] (SIX M) slices_S8x1x6x1024_S8x1x1x1024_0_0_0_0) shapeCasts_S8x1x1x1024_S8x1x1024
def V1 (M : FVec Ideal S8x6144 .f32) : FVec Ideal S8x1x1024 .f32 :=
  shapeCast _ (extractStridedSlice S8x1x1x1024 ![0, 0, 1, 0] (SIX M) slices_S8x1x6x1024_S8x1x1x1024_0_0_1_0) shapeCasts_S8x1x1x1024_S8x1x1024
def V2 (M : FVec Ideal S8x6144 .f32) : FVec Ideal S8x1x1024 .f32 :=
  shapeCast _ (extractStridedSlice S8x1x1x1024 ![0, 0, 2, 0] (SIX M) slices_S8x1x6x1024_S8x1x1x1024_0_0_2_0) shapeCasts_S8x1x1x1024_S8x1x1024
def V3 (M : FVec Ideal S8x6144 .f32) : FVec Ideal S8x1x1024 .f32 :=
  shapeCast _ (extractStridedSlice S8x1x1x1024 ![0, 0, 3, 0] (SIX M) slices_S8x1x6x1024_S8x1x1x1024_0_0_3_0) shapeCasts_S8x1x1x1024_S8x1x1024
def V4 (M : FVec Ideal S8x6144 .f32) : FVec Ideal S8x1x1024 .f32 :=
  shapeCast _ (extractStridedSlice S8x1x1x1024 ![0, 0, 4, 0] (SIX M) slices_S8x1x6x1024_S8x1x1x1024_0_0_4_0) shapeCasts_S8x1x1x1024_S8x1x1024

/-- Rows modulated by a batch's scale and shift. -/
def SCL (x : FVec Ideal S8x4096x1024 .f32) (sc sh : FVec Ideal S8x1x1024 .f32) : FVec Ideal S8x4096x1024 .f32 :=
  addf (mulf x (broadcastInDim S8x4096x1024 ![0, 1, 2] bcast_S8x1x1024_S8x4096x1024_0_1_2
      (addf (broadcastInDim S8x1x1024 ![] bcast_S_S8x1x1024 (constant S_ .f32 0x3F800000#32)) sc)))
    (broadcastInDim S8x4096x1024 ![0, 1, 2] bcast_S8x1x1024_S8x4096x1024_0_1_2 sh)

/-- The heads' outputs over their root mean squares. -/
def RMS (o : FVec Ideal S8x4096x4x128 .f32) : FVec Ideal S8x4096x4x128 .f32 :=
  mulf o (broadcastInDim S8x4096x4x128 ![0, 1, 2, 3] bcast_S8x4096x4x1_S8x4096x4x128_0_1_2_3 (Host.rsqrt (addf
    (Host.divf (broadcastInDim S8x4096x4x1 ![0, 1, 2] bcast_S8x4096x4_S8x4096x4x1_0_1_2
        (Host.reduceAdd (mulf o o) (constant S_ .f32 0x00000000#32) reducesTo_S8x4096x4x128_S8x4096x4_d3 h_S_))
      (broadcastInDim S8x4096x4x1 ![] bcast_S_S8x4096x4x1 (constant S_ .f32 0x43000000#32)))
    (broadcastInDim S8x4096x4x1 ![] bcast_S_S8x4096x4x1 (constant S_ .f32 0x358637BD#32)))))

/-- An array gated by its own sigmoid. -/
def SILU (z : FVec Ideal S8x4096x4x128 .f32) : FVec Ideal S8x4096x4x128 .f32 :=
  mulf z (Host.divf (broadcastInDim S8x4096x4x128 ![] bcast_S_S8x4096x4x128 (constant S_ .f32 0x3F800000#32))
    (addf (broadcastInDim S8x4096x4x128 ![] bcast_S_S8x4096x4x128 (constant S_ .f32 0x3F800000#32)) (Host.exp (Host.negf z))))

/-- The recurrence's branch. -/
def YDN (o : FVec Ideal S8x4096x4x128 .f32) (z : FVec Ideal S8x4096x512 .f32) (nw : FVec Ideal S128 .f32) : FVec Ideal S8x4096x512 .f32 :=
  shapeCast _ (mulf (mulf (RMS o) (broadcastInDim S8x4096x4x128 ![0, 1, 2, 3] bcast_S1x1x1x128_S8x4096x4x128_0_1_2_3
      (broadcastInDim S1x1x1x128 ![3] bcast_S128_S1x1x1x128_3 nw)))
    (SILU (shapeCast _ z shapeCasts_S8x4096x512_S8x4096x4x128))) shapeCasts_S8x4096x4x128_S8x4096x512

/-- The gates' arguments. -/
def GARG (h : FVec Ideal S8x4096x1024 .f32) (wg : FVec Ideal S1024x4096 .f32) (bg : FVec Ideal S4096 .f32) : FVec Ideal S8x4096x4096 .f32 :=
  addf (Host.dotGeneral dot_S8x4096x1024_S1024x4096_S8x4096x4096_2_0_01_1_n_n none h wg)
    (broadcastInDim S8x4096x4096 ![0, 1, 2] bcast_S1x1x4096_S8x4096x4096_0_1_2 (broadcastInDim S1x1x4096 ![2] bcast_S4096_S1x1x4096_2 bg))

/-- The four branches' gates. -/
def GATE (g : FVec Ideal S8x4096x4096 .f32) : FVec Ideal S8x4096x4x1024 .f32 :=
  shapeCast _ (Host.divf (broadcastInDim S8x4096x4096 ![] bcast_S_S8x4096x4096 (constant S_ .f32 0x3F800000#32))
    (addf (broadcastInDim S8x4096x4096 ![] bcast_S_S8x4096x4096 (constant S_ .f32 0x3F800000#32)) (Host.exp (Host.negf g))))
    shapeCasts_S8x4096x4096_S8x4096x4x1024

def B0 (g : FVec Ideal S8x4096x4x1024 .f32) (y : FVec Ideal S8x4096x512 .f32) (w : FVec Ideal S4x512x1024 .f32) : FVec Ideal S8x4096x1024 .f32 :=
  mulf (shapeCast _ (extractStridedSlice S8x4096x1x1024 ![0, 0, 0, 0] g slices_S8x4096x4x1024_S8x4096x1x1024_0_0_0_0) shapeCasts_S8x4096x1x1024_S8x4096x1024)
    (Host.dotGeneral (φ₂ := .f32) dot_S8x4096x512_S512x1024_S8x4096x1024_2_0_01_1_n_n none y
      (shapeCast S512x1024 (extractStridedSlice S1x512x1024 ![0, 0, 0] w slices_S4x512x1024_S1x512x1024_0_0_0) shapeCasts_S1x512x1024_S512x1024))
def B1 (g : FVec Ideal S8x4096x4x1024 .f32) (y : FVec Ideal S8x4096x512 .f32) (w : FVec Ideal S4x512x1024 .f32) : FVec Ideal S8x4096x1024 .f32 :=
  mulf (shapeCast _ (extractStridedSlice S8x4096x1x1024 ![0, 0, 1, 0] g slices_S8x4096x4x1024_S8x4096x1x1024_0_0_1_0) shapeCasts_S8x4096x1x1024_S8x4096x1024)
    (Host.dotGeneral (φ₂ := .f32) dot_S8x4096x512_S512x1024_S8x4096x1024_2_0_01_1_n_n none y
      (shapeCast S512x1024 (extractStridedSlice S1x512x1024 ![1, 0, 0] w slices_S4x512x1024_S1x512x1024_1_0_0) shapeCasts_S1x512x1024_S512x1024))
def B2 (g : FVec Ideal S8x4096x4x1024 .f32) (y : FVec Ideal S8x4096x512 .f32) (w : FVec Ideal S4x512x1024 .f32) : FVec Ideal S8x4096x1024 .f32 :=
  mulf (shapeCast _ (extractStridedSlice S8x4096x1x1024 ![0, 0, 2, 0] g slices_S8x4096x4x1024_S8x4096x1x1024_0_0_2_0) shapeCasts_S8x4096x1x1024_S8x4096x1024)
    (Host.dotGeneral (φ₂ := .f32) dot_S8x4096x512_S512x1024_S8x4096x1024_2_0_01_1_n_n none y
      (shapeCast S512x1024 (extractStridedSlice S1x512x1024 ![2, 0, 0] w slices_S4x512x1024_S1x512x1024_2_0_0) shapeCasts_S1x512x1024_S512x1024))
def B3 (g : FVec Ideal S8x4096x4x1024 .f32) (y : FVec Ideal S8x4096x512 .f32) (w : FVec Ideal S4x512x1024 .f32) : FVec Ideal S8x4096x1024 .f32 :=
  mulf (shapeCast _ (extractStridedSlice S8x4096x1x1024 ![0, 0, 3, 0] g slices_S8x4096x4x1024_S8x4096x1x1024_0_0_3_0) shapeCasts_S8x4096x1x1024_S8x4096x1024)
    (Host.dotGeneral (φ₂ := .f32) dot_S8x4096x512_S512x1024_S8x4096x1024_2_0_01_1_n_n none y
      (shapeCast S512x1024 (extractStridedSlice S1x512x1024 ![3, 0, 0] w slices_S4x512x1024_S1x512x1024_3_0_0) shapeCasts_S1x512x1024_S512x1024))

/-- The residual rows before their norm. -/
def PRE (x : FVec Ideal S8x4096x1024 .f32) (g1 : FVec Ideal S8x1x1024 .f32) (m : FVec Ideal S8x4096x1024 .f32) (wo : FVec Ideal S1024x1024 .f32) :
    FVec Ideal S8x4096x1024 .f32 :=
  addf (mulf (broadcastInDim S8x4096x1024 ![] bcast_S_S8x4096x1024 (constant S_ .f32 0x3FB504F3#32)) x)
    (mulf (broadcastInDim S8x4096x1024 ![0, 1, 2] bcast_S8x1x1024_S8x4096x1024_0_1_2 g1)
      (Host.dotGeneral dot_S8x4096x1024_S1024x1024_S8x4096x1024_2_0_01_1_n_n none m wo))

/-- Rows less their means. -/
def CEN (p : FVec Ideal S8x4096x1024 .f32) : FVec Ideal S8x4096x1024 .f32 :=
  subf p (broadcastInDim S8x4096x1024 ![0, 1, 2] bcast_S8x4096x1_S8x4096x1024_0_1_2
    (Host.divf (broadcastInDim S8x4096x1 ![0, 1] bcast_S8x4096_S8x4096x1_0_1 (Host.reduceAdd p (constant S_ .f32 0x00000000#32) reducesTo_S8x4096x1024_S8x4096_d2 h_S_))
      (broadcastInDim S8x4096x1 ![] bcast_S_S8x4096x1 (constant S_ .f32 0x44800000#32))))

/-- Rows over their root mean squares. -/
def NRM (p : FVec Ideal S8x4096x1024 .f32) : FVec Ideal S8x4096x1024 .f32 :=
  mulf p (broadcastInDim S8x4096x1024 ![0, 1, 2] bcast_S8x4096x1_S8x4096x1024_0_1_2 (Host.rsqrt (addf
    (Host.divf (broadcastInDim S8x4096x1 ![0, 1] bcast_S8x4096_S8x4096x1_0_1 (Host.reduceAdd (mulf p p) (constant S_ .f32 0x00000000#32) reducesTo_S8x4096x1024_S8x4096_d2 h_S_))
      (broadcastInDim S8x4096x1 ![] bcast_S_S8x4096x1 (constant S_ .f32 0x44800000#32)))
    (broadcastInDim S8x4096x1 ![] bcast_S_S8x4096x1 (constant S_ .f32 0x358637BD#32)))))

/-- Normalised rows weighted and shifted. -/
def AFF (n : FVec Ideal S8x4096x1024 .f32) (w b : FVec Ideal S1024 .f32) : FVec Ideal S8x4096x1024 .f32 :=
  addf (mulf n (broadcastInDim S8x4096x1024 ![0, 1, 2] bcast_S1x1x1024_S8x4096x1024_0_1_2 (broadcastInDim S1x1x1024 ![2] bcast_S1024_S1x1x1024_2 w)))
    (broadcastInDim S8x4096x1024 ![0, 1, 2] bcast_S1x1x1024_S8x4096x1024_0_1_2 (broadcastInDim S1x1x1024 ![2] bcast_S1024_S1x1x1024_2 b))

/-- The router's logits, padded to 128. -/
def LG (h : FVec Ideal S8x4096x1024 .f32) (w : FVec Ideal S1024x32 .f32) (b : FVec Ideal S32 .f32) : FVec Ideal S8x4096x128 .f32 :=
  pad S8x4096x128 ![0, 0, 0] ![0, 0, 96] ![0, 0, 0]
    (addf (Host.dotGeneral dot_S8x4096x1024_S1024x32_S8x4096x32_2_0_01_1_n_n none h w)
      (broadcastInDim S8x4096x32 ![0, 1, 2] bcast_S1x1x32_S8x4096x32_0_1_2 (broadcastInDim S1x1x32 ![2] bcast_S32_S1x1x32_2 b)))
    (sitofp .f32 (constantI S_ 32 0#32)) pads_S8x4096x32_S8x4096x128_000_000_0960 h_S_

namespace Args

variable (A : Args)

/-- The reference's modulation vectors of these arguments. -/
def M : FVec Ideal S8x6144 .f32 := ADA A.c A.wa A.ba
/-- The reference's modulated rows. -/
def H : FVec Ideal S8x4096x1024 .f32 := SCL A.x (V1 A.M) (V0 A.M)
/-- The reference's gates. -/
def G : FVec Ideal S8x4096x4x1024 .f32 := GATE (GARG A.H A.wg A.bg)
/-- The reference's gated sum of branches. -/
def SUM : FVec Ideal S8x4096x1024 .f32 :=
  addf (addf (addf (B0 A.G (YDN (addf A.of A.ob) A.z A.nw) A.wb) (B1 A.G A.ya A.wb)) (B2 A.G A.yc A.wb)) (B3 A.G A.yf A.wb)
/-- The reference's new stream. -/
def X1 : FVec Ideal S8x4096x1024 .f32 := AFF (NRM (CEN (PRE A.x (V2 A.M) A.SUM A.wo))) A.lw A.lb
/-- The reference's rows for the channel mixer. -/
def H2 : FVec Ideal S8x4096x1024 .f32 := SCL A.X1 (V4 A.M) (V3 A.M)

end Args

theorem ada_apply (A : Args) (b : Fin 8) (j : Fin 6144) : A.M (ix2 b j) = A.ada b j := by
  pointwise [Args.M, ADA]
  rfl

theorem v0_apply (M : FVec Ideal S8x6144 .f32) (b : Fin 8) (d : Fin 1024) : V0 M (ix3 b 0 d) = M (ix2 b ⟨0 * 1024 + d.val, by omega⟩) := by
  pointwise [V0, SIX]

theorem v1_apply (M : FVec Ideal S8x6144 .f32) (b : Fin 8) (d : Fin 1024) : V1 M (ix3 b 0 d) = M (ix2 b ⟨1 * 1024 + d.val, by omega⟩) := by
  pointwise [V1, SIX]

theorem v2_apply (M : FVec Ideal S8x6144 .f32) (b : Fin 8) (d : Fin 1024) : V2 M (ix3 b 0 d) = M (ix2 b ⟨2 * 1024 + d.val, by omega⟩) := by
  pointwise [V2, SIX]

theorem v3_apply (M : FVec Ideal S8x6144 .f32) (b : Fin 8) (d : Fin 1024) : V3 M (ix3 b 0 d) = M (ix2 b ⟨3 * 1024 + d.val, by omega⟩) := by
  pointwise [V3, SIX]

theorem v4_apply (M : FVec Ideal S8x6144 .f32) (b : Fin 8) (d : Fin 1024) : V4 M (ix3 b 0 d) = M (ix2 b ⟨4 * 1024 + d.val, by omega⟩) := by
  pointwise [V4, SIX]

theorem moda_apply (x : FVec Ideal S8x4096x1024 .f32) (sc sh : FVec Ideal S8x1x1024 .f32) (b : Fin 8) (l : Fin 4096) (d : Fin 1024) :
    SCL x sc sh (ix3 b l d) = mods (x (ix3 b l d)) (sc (ix3 b 0 d)) (sh (ix3 b 0 d)) := by
  pointwise [SCL]
  rfl

theorem rms_apply (o : FVec Ideal S8x4096x4x128 .f32) (b : Fin 8) (l : Fin 4096) (k : Fin 4) (e : Fin 128) :
    RMS o (ix4 b l k e) = o (ix4 b l k e) * unit (Ideal.ofBits .f32 0x43000000#32) (fun e => o (ix4 b l k e)) := by
  pointwise [RMS]
  rfl

theorem silu_apply (z : FVec Ideal S8x4096x4x128 .f32) (b : Fin 8) (l : Fin 4096) (k : Fin 4) (e : Fin 128) :
    SILU z (ix4 b l k e) = z (ix4 b l k e) * Ideal.logistic (z (ix4 b l k e)) := by
  pointwise [SILU]
  rfl

theorem ydn_apply (o : FVec Ideal S8x4096x4x128 .f32) (z : FVec Ideal S8x4096x512 .f32) (nw : FVec Ideal S128 .f32) (b : Fin 8) (l : Fin 4096) (d : Fin 512) :
    YDN o z nw (ix3 b l d) = RMS o (ix4 b l ⟨d.val / 128, by omega⟩ ⟨d.val % 128, by omega⟩) * nw (ix1 ⟨d.val % 128, by omega⟩)
      * SILU (shapeCast S8x4096x4x128 z shapeCasts_S8x4096x512_S8x4096x4x128) (ix4 b l ⟨d.val / 128, by omega⟩ ⟨d.val % 128, by omega⟩) := by
  pointwise [YDN]

theorem heads_apply (z : FVec Ideal S8x4096x512 .f32) (b : Fin 8) (l : Fin 4096) (d : Fin 512) :
    (shapeCast S8x4096x4x128 z shapeCasts_S8x4096x512_S8x4096x4x128 : FVec Ideal S8x4096x4x128 .f32) (ix4 b l ⟨d.val / 128, by omega⟩ ⟨d.val % 128, by omega⟩) = z (ix3 b l d) := by
  pointwise

theorem gate_apply (h : FVec Ideal S8x4096x1024 .f32) (wg : FVec Ideal S1024x4096 .f32) (bg : FVec Ideal S4096 .f32) (b : Fin 8) (l : Fin 4096) (j : Fin 4) (d : Fin 1024) :
    GATE (GARG h wg bg) (ix4 b l j d) = Ideal.logistic ((∑ k : Fin 1024, h (ix3 b l k) * wg (ix2 k ⟨j.val * 1024 + d.val, by omega⟩)) + bg (ix1 ⟨j.val * 1024 + d.val, by omega⟩)) := by
  pointwise [GATE, GARG]
  rfl

theorem b0_apply (g : FVec Ideal S8x4096x4x1024 .f32) (y : FVec Ideal S8x4096x512 .f32) (w : FVec Ideal S4x512x1024 .f32) (b : Fin 8) (l : Fin 4096) (d : Fin 1024) :
    B0 g y w (ix3 b l d) = g (ix4 b l 0 d) * ∑ k : Fin 512, y (ix3 b l k) * w (ix3 0 k d) := by
  pointwise [B0]

theorem b1_apply (g : FVec Ideal S8x4096x4x1024 .f32) (y : FVec Ideal S8x4096x512 .f32) (w : FVec Ideal S4x512x1024 .f32) (b : Fin 8) (l : Fin 4096) (d : Fin 1024) :
    B1 g y w (ix3 b l d) = g (ix4 b l 1 d) * ∑ k : Fin 512, y (ix3 b l k) * w (ix3 1 k d) := by
  pointwise [B1]

theorem b2_apply (g : FVec Ideal S8x4096x4x1024 .f32) (y : FVec Ideal S8x4096x512 .f32) (w : FVec Ideal S4x512x1024 .f32) (b : Fin 8) (l : Fin 4096) (d : Fin 1024) :
    B2 g y w (ix3 b l d) = g (ix4 b l 2 d) * ∑ k : Fin 512, y (ix3 b l k) * w (ix3 2 k d) := by
  pointwise [B2]

theorem b3_apply (g : FVec Ideal S8x4096x4x1024 .f32) (y : FVec Ideal S8x4096x512 .f32) (w : FVec Ideal S4x512x1024 .f32) (b : Fin 8) (l : Fin 4096) (d : Fin 1024) :
    B3 g y w (ix3 b l d) = g (ix4 b l 3 d) * ∑ k : Fin 512, y (ix3 b l k) * w (ix3 3 k d) := by
  pointwise [B3]

theorem pre_apply (x : FVec Ideal S8x4096x1024 .f32) (g1 : FVec Ideal S8x1x1024 .f32) (m : FVec Ideal S8x4096x1024 .f32) (wo : FVec Ideal S1024x1024 .f32)
    (b : Fin 8) (l : Fin 4096) (d : Fin 1024) :
    PRE x g1 m wo (ix3 b l d) = Ideal.ofBits .f32 0x3FB504F3#32 * x (ix3 b l d) + g1 (ix3 b 0 d) * ∑ k : Fin 1024, m (ix3 b l k) * wo (ix2 k d) := by
  pointwise [PRE]

theorem cen_apply (p : FVec Ideal S8x4096x1024 .f32) (b : Fin 8) (l : Fin 4096) (d : Fin 1024) :
    CEN p (ix3 b l d) = p (ix3 b l d) - mean (Ideal.ofBits .f32 0x44800000#32) (fun k => p (ix3 b l k)) := by
  pointwise [CEN]
  rfl

theorem nrm_apply (p : FVec Ideal S8x4096x1024 .f32) (b : Fin 8) (l : Fin 4096) (d : Fin 1024) :
    NRM p (ix3 b l d) = p (ix3 b l d) * unit (Ideal.ofBits .f32 0x44800000#32) (fun k => p (ix3 b l k)) := by
  pointwise [NRM]
  rfl

theorem aff_apply (n : FVec Ideal S8x4096x1024 .f32) (w bb : FVec Ideal S1024 .f32) (b : Fin 8) (l : Fin 4096) (d : Fin 1024) :
    AFF n w bb (ix3 b l d) = n (ix3 b l d) * w (ix1 d) + bb (ix1 d) := by
  pointwise [AFF]

theorem lg_apply (h : FVec Ideal S8x4096x1024 .f32) (w : FVec Ideal S1024x32 .f32) (bb : FVec Ideal S32 .f32) (b : Fin 8) (l : Fin 4096) (e : Fin 128) :
    LG h w bb (ix3 b l e) = if he : e.val < 32 then (∑ d : Fin 1024, h (ix3 b l d) * w (ix2 d ⟨e.val, he⟩)) + bb (ix1 ⟨e.val, he⟩) else 0 := by
  pointwise [LG]
  have h0 : (FloatOps.sitofp .f32 0#32 : Ideal .f32) = 0 := by simp [FloatOps.sitofp]
  rw [h0]

/-- The reference's gated sum, row by row. -/
theorem sum_apply (A : Args) (b : Fin 8) (l : Fin 4096) (d : Fin 1024) : A.SUM (ix3 b l d) = (A.row b l).m d := by
  show B0 A.G (YDN (addf A.of A.ob) A.z A.nw) A.wb (ix3 b l d) + B1 A.G A.ya A.wb (ix3 b l d) + B2 A.G A.yc A.wb (ix3 b l d) + B3 A.G A.yf A.wb (ix3 b l d) = _
  simp only [b0_apply, b1_apply, b2_apply, b3_apply, Args.G, gate_apply, Args.H, moda_apply, v0_apply, v1_apply, ada_apply, ydn_apply, rms_apply, silu_apply, heads_apply]
  rfl

/-- The reference's new stream, row by row. -/
theorem x1_apply (A : Args) (b : Fin 8) (l : Fin 4096) (d : Fin 1024) : A.X1 (ix3 b l d) = (A.row b l).x1 d := by
  simp only [Args.X1, aff_apply, nrm_apply, cen_apply, pre_apply, sum_apply, v2_apply, ada_apply]
  rfl

/-- The reference's rows for the channel mixer, row by row. -/
theorem h2_apply (A : Args) (b : Fin 8) (l : Fin 4096) (d : Fin 1024) : A.H2 (ix3 b l d) = (A.row b l).h2 d := by
  simp only [Args.H2, moda_apply, x1_apply, v3_apply, v4_apply, ada_apply]
  rfl

/-- The reference's logits, row by row. -/
theorem lgr_apply (A : Args) (b : Fin 8) (l : Fin 4096) (e : Fin 128) : LG A.H2 A.rw A.rb (ix3 b l e) = (A.row b l).lg e := by
  rw [lg_apply, Row.lg]
  simp only [h2_apply]
  show _ = (∑ d, (A.row b l).h2 d * if h : e.val < 32 then A.rw (ix2 d ⟨e.val, h⟩) else 0) + (if h : e.val < 32 then A.rb (ix1 ⟨e.val, h⟩) else 0)
  by_cases he : e.val < 32
  · simp only [dif_pos he]
  · simp only [dif_neg he, mul_zero, Finset.sum_const_zero, add_zero]

variable (m : (ℓ : Loc nD τ sig) → Buf (Elt Ideal) ℓ) (c : Dev nD)

/-- The reference's argument arrays in a memory. -/
def argsR : Args where
  x := m ((c.tc : Thread nD τ).loc main_arg0)
  c := m ((c.tc : Thread nD τ).loc main_arg1)
  of := m ((c.tc : Thread nD τ).loc main_arg2)
  ob := m ((c.tc : Thread nD τ).loc main_arg3)
  z := m ((c.tc : Thread nD τ).loc main_arg4)
  ya := m ((c.tc : Thread nD τ).loc main_arg5)
  yc := m ((c.tc : Thread nD τ).loc main_arg6)
  yf := m ((c.tc : Thread nD τ).loc main_arg7)
  wa := m ((c.tc : Thread nD τ).loc main_arg8)
  ba := m ((c.tc : Thread nD τ).loc main_arg9)
  nw := m ((c.tc : Thread nD τ).loc main_arg10)
  wb := m ((c.tc : Thread nD τ).loc main_arg11)
  wg := m ((c.tc : Thread nD τ).loc main_arg12)
  bg := m ((c.tc : Thread nD τ).loc main_arg13)
  wo := m ((c.tc : Thread nD τ).loc main_arg14)
  lw := m ((c.tc : Thread nD τ).loc main_arg15)
  lb := m ((c.tc : Thread nD τ).loc main_arg16)
  rw := m ((c.tc : Thread nD τ).loc main_arg17)
  rb := m ((c.tc : Thread nD τ).loc main_arg18)

/-- The run's first result is the staged stream. -/
theorem res_x1 : Value.res_main_v109 m c = (argsR m c).X1 := rfl

/-- The run's second result is the staged rows for the channel mixer. -/
theorem res_h2 : Value.res_main_v120 m c = truncf .bf16 (argsR m c).H2 bitsLt_bf16_f32 := rfl

/-- The run's third result is the staged logits. -/
theorem res_lg : Value.res_main_v121 m c = LG (argsR m c).H2 (argsR m c).rw (argsR m c).rb := rfl

end Cert.Mrg

end
-- ==== Proof.MrgReal.lean ====
/- From finite arguments every value of the merge is finite, and the three products of the router are one. -/
module

public import proofs.«01_k».proof.Proof.MrgArgs
public import Mathlib.Tactic.Positivity

@[expose] public section

noncomputable section

namespace Cert.Mrg

open Idealize.ShloMosaic Cert.Att

/-- The sum of two finite values is finite. -/
theorem real_add {x y : EReal} (hx : Real' x) (hy : Real' y) : Real' (x + y) := by
  obtain ⟨a, rfl⟩ := hx; obtain ⟨b, rfl⟩ := hy; exact ⟨a + b, (EReal.coe_add a b).symm⟩

/-- The difference of two finite values is finite. -/
theorem real_sub {x y : EReal} (hx : Real' x) (hy : Real' y) : Real' (x - y) := by
  obtain ⟨a, rfl⟩ := hx; obtain ⟨b, rfl⟩ := hy; exact ⟨a - b, (EReal.coe_sub a b).symm⟩

/-- The logistic of a finite value is finite. -/
theorem real_logistic {x : EReal} (hx : Real' x) : Real' (Ideal.logistic x) := by
  obtain ⟨a, rfl⟩ := hx; exact ⟨_, Ideal.logistic_coe a⟩

/-- A finite value less itself is zero. -/
theorem sub_self_real {x : EReal} (hx : Real' x) : x - x = 0 := by
  obtain ⟨a, rfl⟩ := hx
  rw [← EReal.coe_sub, sub_self]; rfl

/-- The mean of finite values over a positive count is finite. -/
theorem real_mean {n : ℕ} {c : ℝ} (hc : 0 < c) {x : Fin n → EReal} (hx : ∀ k, Real' (x k)) : Real' (mean (c : EReal) x) := by
  rw [mean, Ideal.div_coe hc.ne']
  exact (Real'.sum _ hx).mul ⟨_, rfl⟩

/-- A sum of squares of finite values is finite and not negative. -/
theorem sum_sq {n : ℕ} {x : Fin n → EReal} (hx : ∀ k, Real' (x k)) : ∃ r : ℝ, 0 ≤ r ∧ ∑ k, x k * x k = (r : EReal) :=
  Finset.sum_induction (fun k => x k * x k) (fun e => ∃ r : ℝ, 0 ≤ r ∧ e = (r : EReal))
    (fun _ _ ⟨a, ha, hx⟩ ⟨b, hb, hy⟩ => ⟨a + b, add_nonneg ha hb, by rw [hx, hy, EReal.coe_add]⟩)
    ⟨0, le_rfl, rfl⟩ fun k _ => by
      obtain ⟨a, ha⟩ := hx k
      exact ⟨a * a, mul_self_nonneg a, by rw [ha, EReal.coe_mul]⟩

/-- The norms' small constant is a positive number. -/
theorem eps_pos : ∃ e : ℝ, 0 < e ∧ Ideal.ofBits .f32 0x358637BD#32 = (e : EReal) := by
  simp [Ideal.ofBits, Ideal.ieee]
  rw [← EReal.coe_mul]
  exact ⟨_, by positivity, rfl⟩

/-- One over the root of a mean of squares of finite values, plus the small constant, is finite. -/
theorem real_unit {n : ℕ} {c : ℝ} (hc : 0 < c) {x : Fin n → EReal} (hx : ∀ k, Real' (x k)) : Real' (unit (c : EReal) x) := by
  obtain ⟨s, hs, h⟩ := sum_sq hx
  obtain ⟨e, he, h'⟩ := eps_pos
  rw [unit, mean, Ideal.div_coe hc.ne', h, h', ← EReal.coe_mul, ← EReal.coe_add, Ideal.rsqrt_coe]
  have : 0 < s * (1 / c) + e := by positivity
  rw [if_neg this.not_gt, if_neg this.ne']
  exact ⟨_, rfl⟩

/-- The number of lanes of a head. -/
theorem c128 : Ideal.ofBits .f32 0x43000000#32 = ((128 : ℝ) : EReal) := by
  simp [Ideal.ofBits, Ideal.ieee]
  rw [← EReal.coe_mul]; norm_num

/-- The number of channels. -/
theorem c1024 : Ideal.ofBits .f32 0x44800000#32 = ((1024 : ℝ) : EReal) := by
  simp [Ideal.ofBits, Ideal.ieee]
  rw [← EReal.coe_mul]; norm_num

/-- The residual's factor is finite. -/
theorem real_alpha : Real' (Ideal.ofBits .f32 0x3FB504F3#32) := by
  simp [Ideal.ofBits, Ideal.ieee]
  rw [← EReal.coe_mul]
  exact ⟨_, rfl⟩

/-- A modulated finite entry is finite. -/
theorem real_mods {x sc sh : EReal} (hx : Real' x) (hsc : Real' sc) (hsh : Real' sh) : Real' (mods x sc sh) :=
  real_add (hx.mul (real_add ⟨1, rfl⟩ hsc)) hsh

/-- A finite row's norm is finite. -/
theorem real_normed {p : Fin 1024 → EReal} (hp : ∀ d, Real' (p d)) (d : Fin 1024) : Real' (normed p d) := by
  rw [normed, c1024]
  have hm := real_mean (c := 1024) (by norm_num) hp
  exact (real_sub (hp d) hm).mul (real_unit (by norm_num) fun k => real_sub (hp k) hm)

/-- A branch's part of finite data is finite. -/
theorem real_branch (j : Fin 4) {h : Fin 1024 → EReal} {y : Fin 512 → EReal} {wg : Fin 1024 → Fin 4096 → EReal} {bg : Fin 4096 → EReal}
    {wb : Fin 4 → Fin 512 → Fin 1024 → EReal} (hh : ∀ k, Real' (h k)) (hy : ∀ k, Real' (y k)) (hwg : ∀ k j, Real' (wg k j)) (hbg : ∀ j, Real' (bg j))
    (hwb : ∀ j k d, Real' (wb j k d)) (d : Fin 1024) : Real' (branch j h y wg bg wb d) :=
  (real_logistic (real_add (Real'.sum _ fun k => (hh k).mul (hwg k _)) (hbg _))).mul (Real'.sum _ fun k => (hy k).mul (hwb j k d))

/-- A row of finite data: all of it but the router's bias. -/
structure Finite (R : Row) : Prop where
  x : ∀ d, Real' (R.x d)
  sh1 : ∀ d, Real' (R.sh1 d)
  sc1 : ∀ d, Real' (R.sc1 d)
  g1 : ∀ d, Real' (R.g1 d)
  sh2 : ∀ d, Real' (R.sh2 d)
  sc2 : ∀ d, Real' (R.sc2 d)
  o : ∀ k e, Real' (R.o k e)
  z : ∀ d, Real' (R.z d)
  ya : ∀ d, Real' (R.ya d)
  yc : ∀ d, Real' (R.yc d)
  yf : ∀ d, Real' (R.yf d)
  nw : ∀ d, Real' (R.nw d)
  wg : ∀ k j, Real' (R.wg k j)
  bg : ∀ j, Real' (R.bg j)
  wb : ∀ j k d, Real' (R.wb j k d)
  wo : ∀ k d, Real' (R.wo k d)
  lw : ∀ d, Real' (R.lw d)
  lb : ∀ d, Real' (R.lb d)
  rw : ∀ d e, Real' (R.rw d e)

namespace Finite

variable {R : Row} (F : Finite R)

include F

/-- The modulated row is finite. -/
theorem h (d : Fin 1024) : Real' (R.h d) := real_mods (F.x d) (F.sc1 d) (F.sh1 d)

/-- The recurrence's branch is finite. -/
theorem ydn (d : Fin 512) : Real' (R.ydn d) := by
  rw [Row.ydn, c128]
  exact (((F.o _ _).mul (real_unit (by norm_num) fun _ => F.o _ _)).mul (F.nw _)).mul ((F.z d).mul (real_logistic (F.z d)))

/-- The gated sum of the branches is finite. -/
theorem m (d : Fin 1024) : Real' (R.m d) :=
  real_add (real_add (real_add (real_branch 0 F.h F.ydn F.wg F.bg F.wb d) (real_branch 1 F.h F.ya F.wg F.bg F.wb d))
    (real_branch 2 F.h F.yc F.wg F.bg F.wb d)) (real_branch 3 F.h F.yf F.wg F.bg F.wb d)

/-- The residual row is finite. -/
theorem pre (d : Fin 1024) : Real' (R.pre d) :=
  real_add (real_alpha.mul (F.x d)) ((F.g1 d).mul (Real'.sum _ fun k => (F.m k).mul (F.wo k d)))

/-- The channel mixer's row is finite. -/
theorem h2 (d : Fin 1024) : Real' (R.h2 d) :=
  real_mods (real_add ((real_normed F.pre d).mul (F.lw d)) (F.lb d)) (F.sc2 d) (F.sh2 d)

/-- Of finite data the two products of remainders are zero, and the logits are the one product's. -/
theorem lg3 (e : Fin 128) : R.lg3 e = R.lg e := by
  have h1 : ∑ d, R.h2 d * (R.rw d e - R.rw d e) = 0 := Finset.sum_eq_zero fun d _ => by rw [sub_self_real (F.rw d e), mul_zero]
  have h2 : ∑ d, (R.h2 d - R.h2 d) * R.rw d e = 0 := Finset.sum_eq_zero fun d _ => by rw [sub_self_real (F.h2 d), zero_mul]
  rw [Row.lg3, h1, h2, add_zero, add_zero, Row.lg]

end Finite

/-- Finite argument arrays: all of them but the router's bias. -/
structure Args.Finite (A : Args) : Prop where
  x : ∀ i, Real' (A.x i)
  c : ∀ i, Real' (A.c i)
  of : ∀ i, Real' (A.of i)
  ob : ∀ i, Real' (A.ob i)
  z : ∀ i, Real' (A.z i)
  ya : ∀ i, Real' (A.ya i)
  yc : ∀ i, Real' (A.yc i)
  yf : ∀ i, Real' (A.yf i)
  wa : ∀ i, Real' (A.wa i)
  ba : ∀ i, Real' (A.ba i)
  nw : ∀ i, Real' (A.nw i)
  wb : ∀ i, Real' (A.wb i)
  wg : ∀ i, Real' (A.wg i)
  bg : ∀ i, Real' (A.bg i)
  wo : ∀ i, Real' (A.wo i)
  lw : ∀ i, Real' (A.lw i)
  lb : ∀ i, Real' (A.lb i)
  rw : ∀ i, Real' (A.rw i)

/-- Finite arguments give every token a row of finite data. -/
theorem Args.Finite.row {A : Args} (F : A.Finite) (b : Fin 8) (l : Fin 4096) : Mrg.Finite (A.row b l) := by
  have ada : ∀ j, Real' (A.ada b j) := fun j =>
    real_add (Real'.sum _ fun k => ((F.c _).mul (real_logistic (F.c _))).mul (F.wa _)) (F.ba _)
  refine ⟨fun _ => F.x _, fun _ => ada _, fun _ => ada _, fun _ => ada _, fun _ => ada _, fun _ => ada _, fun _ _ => real_add (F.of _) (F.ob _),
    fun _ => F.z _, fun _ => F.ya _, fun _ => F.yc _, fun _ => F.yf _, fun _ => F.nw _, fun _ _ => F.wg _, fun _ => F.bg _, fun _ _ _ => F.wb _,
    fun _ _ => F.wo _, fun _ => F.lw _, fun _ => F.lb _, fun d e => ?_⟩
  by_cases h : e.val < 32
  · obtain ⟨r, hr⟩ := F.rw (ix2 d ⟨e.val, h⟩)
    exact ⟨r, (dif_pos h).trans hr⟩
  · exact ⟨0, dif_neg h⟩

end Cert.Mrg

end
-- ==== Proof.MrgValue.lean ====
/- The merge kernel's three arrays are the reference's. -/
module

public import proofs.«01_k».proof.Proof.MrgKernel
public import proofs.«01_k».proof.Proof.MrgRef
public import proofs.«01_k».proof.Proof.MrgReal

@[expose] public section

set_option maxRecDepth 16384

noncomputable section

namespace Cert.Mrg

open Idealize.ShloMosaic Idealize.ShloMosaic.TcCoe Cert.Reference2Ideal Cert.Reference2Ideal.Gen

/-- The kernel's new stream is the reference's. -/
theorem k1_eq (A : Args) : K1 A = A.X1 := by
  funext i
  idx_vars i
  exact (x1_apply A _ _ _).symm

/-- The kernel's rows for the channel mixer are the reference's. -/
theorem k2_eq (A : Args) : K2 A = truncf .bf16 A.H2 bitsLt_bf16_f32 := by
  funext i
  idx_vars i
  exact (h2_apply A _ _ _).symm

/-- The kernel's logits, of finite arguments, are the reference's. -/
theorem k3_eq {A : Args} (F : A.Finite) : K3 A = LG A.H2 A.rw A.rb := by
  funext i
  idx_vars i
  exact ((F.row _ _).lg3 _).trans (lgr_apply A _ _ _).symm

end Cert.Mrg

end
-- ==== Proof.MrgPre.lean ====
/- The merge's precondition read back: finite arguments. -/
module

public import proofs.«01_k».proof.Proof.MrgReal
public import proofs.«01_k».proof.Proof.AttPre
public import proofs.«01_k».proof.Pre_finite_arguments

@[expose] public section

set_option maxRecDepth 16384

noncomputable section

namespace Cert.Mrg

open Idealize.ShloMosaic Cert.Att

section

open Cert.Pre_finite_arguments Cert.Pre_finite_arguments.Facts

variable [Cert.Pre_finite_arguments.Facts]

/-- The precondition makes every argument but the router's bias finite. -/
theorem pre_args {A : Args} (h : Cert.Pre_finite_arguments.fn (F := Ideal) A.x A.c A.of A.ob A.z A.ya A.yc A.yf A.wa A.ba A.nw A.wb A.wg A.bg A.wo A.lw A.lb A.rw A.rb = fun _ => 1#1) : A.Finite := by
  obtain ⟨p17, q17⟩ := IntOp.andi_eq_one.1 (congrFun h (Shape.Idx.first h_S_))
  obtain ⟨p16, q16⟩ := IntOp.andi_eq_one.1 p17
  obtain ⟨p15, q15⟩ := IntOp.andi_eq_one.1 p16
  obtain ⟨p14, q14⟩ := IntOp.andi_eq_one.1 p15
  obtain ⟨p13, q13⟩ := IntOp.andi_eq_one.1 p14
  obtain ⟨p12, q12⟩ := IntOp.andi_eq_one.1 p13
  obtain ⟨p11, q11⟩ := IntOp.andi_eq_one.1 p12
  obtain ⟨p10, q10⟩ := IntOp.andi_eq_one.1 p11
  obtain ⟨p9, q9⟩ := IntOp.andi_eq_one.1 p10
  obtain ⟨p8, q8⟩ := IntOp.andi_eq_one.1 p9
  obtain ⟨p7, q7⟩ := IntOp.andi_eq_one.1 p8
  obtain ⟨p6, q6⟩ := IntOp.andi_eq_one.1 p7
  obtain ⟨p5, q5⟩ := IntOp.andi_eq_one.1 p6
  obtain ⟨p4, q4⟩ := IntOp.andi_eq_one.1 p5
  obtain ⟨p3, q3⟩ := IntOp.andi_eq_one.1 p4
  obtain ⟨p2, q2⟩ := IntOp.andi_eq_one.1 p3
  obtain ⟨p1, q1⟩ := IntOp.andi_eq_one.1 p2
  exact ⟨fun i => real_of_abs_lt (Host.reduce_andi_all _ _ _ _ _ p1 i),
    fun i => real_of_abs_lt (Host.reduce_andi_all _ _ _ _ _ q1 i),
    fun i => real_of_abs_lt (Host.reduce_andi_all _ _ _ _ _ q2 i),
    fun i => real_of_abs_lt (Host.reduce_andi_all _ _ _ _ _ q3 i),
    fun i => real_of_abs_lt (Host.reduce_andi_all _ _ _ _ _ q4 i),
    fun i => real_of_abs_lt (Host.reduce_andi_all _ _ _ _ _ q5 i),
    fun i => real_of_abs_lt (Host.reduce_andi_all _ _ _ _ _ q6 i),
    fun i => real_of_abs_lt (Host.reduce_andi_all _ _ _ _ _ q7 i),
    fun i => real_of_abs_lt (Host.reduce_andi_all _ _ _ _ _ q8 i),
    fun i => real_of_abs_lt (Host.reduce_andi_all _ _ _ _ _ q9 i),
    fun i => real_of_abs_lt (Host.reduce_andi_all _ _ _ _ _ q10 i),
    fun i => real_of_abs_lt (Host.reduce_andi_all _ _ _ _ _ q11 i),
    fun i => real_of_abs_lt (Host.reduce_andi_all _ _ _ _ _ q12 i),
    fun i => real_of_abs_lt (Host.reduce_andi_all _ _ _ _ _ q13 i),
    fun i => real_of_abs_lt (Host.reduce_andi_all _ _ _ _ _ q14 i),
    fun i => real_of_abs_lt (Host.reduce_andi_all _ _ _ _ _ q15 i),
    fun i => real_of_abs_lt (Host.reduce_andi_all _ _ _ _ _ q16 i),
    fun i => real_of_abs_lt (Host.reduce_andi_all _ _ _ _ _ q17 i)⟩

end

/-- The side conditions of the precondition's operations. -/
theorem preFacts : Cert.Pre_finite_arguments.Facts where
  bcast_S_S8x4096x1024 := by decide
  reducesTo_S8x4096x1024_S_d0_1_2 := by decide
  h_S_ := by decide
  bcast_S_S8x1024 := by decide
  reducesTo_S8x1024_S_d0_1 := by decide
  bcast_S_S8x4096x4x128 := by decide
  reducesTo_S8x4096x4x128_S_d0_1_2_3 := by decide
  bcast_S_S8x4096x512 := by decide
  reducesTo_S8x4096x512_S_d0_1_2 := by decide
  bcast_S_S1024x6144 := by decide
  reducesTo_S1024x6144_S_d0_1 := by decide
  bcast_S_S6144 := by decide
  reducesTo_S6144_S_d0 := by decide
  bcast_S_S128 := by decide
  reducesTo_S128_S_d0 := by decide
  bcast_S_S4x512x1024 := by decide
  reducesTo_S4x512x1024_S_d0_1_2 := by decide
  bcast_S_S1024x4096 := by decide
  reducesTo_S1024x4096_S_d0_1 := by decide
  bcast_S_S4096 := by decide
  reducesTo_S4096_S_d0 := by decide
  bcast_S_S1024x1024 := by decide
  reducesTo_S1024x1024_S_d0_1 := by decide
  bcast_S_S1024 := by decide
  reducesTo_S1024_S_d0 := by decide
  bcast_S_S1024x32 := by decide
  reducesTo_S1024x32_S_d0_1 := by decide

end Cert.Mrg

end
-- ==== Proof.MoeTab.lean ====
module

public import proofs.«01_k».proof.Pre_items_cover
public import Idealize.ShloMosaic.Lib.Pipeline.Value
public import Idealize.ShloMosaic.Lib.WordCmp
public import Idealize.ShloMosaic.Lib.Tactic

@[expose] public section

noncomputable section

namespace Cert.Moe

open Idealize.ShloMosaic
open Cert.Pre_items_cover (S287 S286 S1 S_)

/-- The index of entry `n` of a table. -/
def ix (n : Fin 287) : S287.Idx := fun a => ⟨n.val, by rw [Subsingleton.elim a 0]; exact n.isLt⟩

theorem eq_ix (x : S287.Idx) : x = ix (x 0) := by
  funext a; rw [Subsingleton.elim a 0]; rfl

/-- What the precondition says of the four tables (tile, expert, first row, end row of each item), as natural numbers. -/
structure Good (T0 T1 T2 T3 : S287.Idx → BitVec 32) : Prop where
  next : ∀ n : Fin 287, ∀ h : n.val + 1 < 287, (T3 (ix n)).toNat = (T2 (ix ⟨n.val + 1, h⟩)).toNat
  last : (T3 (ix ⟨286, by omega⟩)).toNat = 131072
  first : (T2 (ix ⟨0, by omega⟩)).toNat = 0
  le : ∀ n, (T2 (ix n)).toNat ≤ (T3 (ix n)).toNat
  tile : ∀ n, (T0 (ix n)).toNat ≤ 255
  base : ∀ n, 512 * (T0 (ix n)).toNat ≤ (T2 (ix n)).toNat
  tight : ∀ n, (T2 (ix n)).toNat < 512 * (T0 (ix n)).toNat + 512 ∨ (T0 (ix n)).toNat = 255
  top : ∀ n, (T3 (ix n)).toNat ≤ 512 * (T0 (ix n)).toNat + 512
  exp : ∀ n, (T1 (ix n)).toNat < 32

theorem and_one {a b : BitVec 1} : IntOp.andi a b = 1#1 ↔ a = 1#1 ∧ b = 1#1 := by revert a b; decide
theorem or_one {a b : BitVec 1} : IntOp.ori a b = 1#1 ↔ a = 1#1 ∨ b = 1#1 := by revert a b; decide
theorem ofBool_one {b : Bool} : BitVec.ofBool b = 1#1 ↔ b = true := by revert b; decide

/-- A word read as a signed number that is not negative is its natural number. -/
theorem toInt_of_nonneg (x : BitVec 32) (h : 0 ≤ x.toInt) : x.toInt = (x.toNat : Int) := by
  rw [BitVec.toInt_eq_toNat_cond] at h ⊢
  have := x.isLt
  split <;> split at h <;> omega

section
variable [Cert.Pre_items_cover.Facts]
open Cert.Pre_items_cover.Facts

/-- The table of where the next item starts: the first rows moved by one, the row count last. -/
def nxt (T2 : S287.Idx → BitVec 32) : S287.Idx → BitVec 32 :=
  concatenate S287 0 [⟨S286, extractStridedSlice S286 ![1] T2 slices_S287_S286_1⟩, ⟨S1, constantI S1 32 131072#32⟩] concatenates_S286_S1_S287_d0

theorem nxt_lt (T2 : S287.Idx → BitVec 32) (n : Fin 287) (h : n.val + 1 < 287) : nxt T2 (ix n) = T2 (ix ⟨n.val + 1, h⟩) := by
  unfold nxt
  refine (concatenate_pair_apply_left (t := S287) (s₁ := S286) (s₂ := S1) (0 : Fin S287.rank) _ _ _ (ix n) rfl
    (fun a => ⟨n.val, by rw [Subsingleton.elim a 0]; show n.val < 286; omega⟩) (fun b => rfl)).trans ?_
  unfold extractStridedSlice
  congr 1
  funext a
  rw [Subsingleton.elim a 0]
  apply Fin.ext
  show _ = n.val + 1
  simp [Nat.add_comm]

theorem nxt_last (T2 : S287.Idx → BitVec 32) : nxt T2 (ix ⟨286, by omega⟩) = 131072#32 := by
  unfold nxt
  refine (concatenate_pair_apply_right (t := S287) (s₁ := S286) (s₂ := S1) (0 : Fin S287.rank) _ _ _ (ix ⟨286, by omega⟩) rfl rfl
    (fun a => ⟨0, by rw [Subsingleton.elim a 0]; decide⟩) (fun b hb => absurd (Subsingleton.elim (α := Fin 1) _ _) hb) rfl).trans ?_
  rfl

/-- The precondition at entry `n`, comparison by comparison. -/
theorem pre_at {F : FTy → Type} [FloatOps F] (a0 : IVec Cert.Pre_items_cover.S131072x512 32) (T0 T1 T2 T3 : IVec S287 32) (a5 : FVec F Cert.Pre_items_cover.S2x32x1024x2048 .f32)
    (a6 : FVec F Cert.Pre_items_cover.S2x32x2048 .f32) (a7 : FVec F Cert.Pre_items_cover.S2x32x1024x1024 .f32) (a8 : FVec F Cert.Pre_items_cover.S2x32x1024 .f32)
    (hp : Cert.Pre_items_cover.fn (F := F) a0 T0 T1 T2 T3 a5 a6 a7 a8 = fun _ => 1#1) (n : Fin 287) :
    T3 (ix n) = nxt T2 (ix n) ∧ T2 (ix ⟨0, by omega⟩) = 0#32 ∧ (T2 (ix n)).toInt ≤ (T3 (ix n)).toInt
    ∧ (0#32 : BitVec 32).toInt ≤ (T0 (ix n)).toInt ∧ (T0 (ix n)).toInt ≤ (255#32 : BitVec 32).toInt ∧ (T0 (ix n) * 512#32).toInt ≤ (T2 (ix n)).toInt
    ∧ ((T2 (ix n)).toInt < (T0 (ix n) * 512#32 + 512#32).toInt ∨ T0 (ix n) = 255#32) ∧ (T3 (ix n)).toInt ≤ (T0 (ix n) * 512#32 + 512#32).toInt
    ∧ (0#32 : BitVec 32).toInt ≤ (T1 (ix n)).toInt ∧ (T1 (ix n)).toInt < (32#32 : BitVec 32).toInt := by
  have h := congrFun hp (ix n)
  unfold Cert.Pre_items_cover.fn Cert.Pre_items_cover.fn_part1 at h
  simp only [andi, ori, cmpi, and_one, or_one, IntOp.cmpi, ofBool_one, BitVec.sle, BitVec.slt, decide_eq_true_eq, beq_iff_eq, broadcastInDim, constantI, muli, addi, IntOp.muli, IntOp.addi] at h
  obtain ⟨⟨⟨⟨⟨⟨⟨⟨⟨e1, e2⟩, e3⟩, e4⟩, e5⟩, e6⟩, e7⟩, e8⟩, e9⟩, e10⟩ := h
  refine ⟨e1, ?_, by first | exact e3 | exact of_decide_eq_true e3, by first | exact e4 | exact of_decide_eq_true e4, by first | exact e5 | exact of_decide_eq_true e5,
    by first | exact e6 | exact of_decide_eq_true e6, by first | exact e7 | exact e7.imp of_decide_eq_true id, by first | exact e8 | exact of_decide_eq_true e8,
    by first | exact e9 | exact of_decide_eq_true e9, by first | exact e10 | exact of_decide_eq_true e10⟩
  refine Eq.trans ?_ e2
  unfold extractStridedSlice
  congr 1
  funext a
  rw [Subsingleton.elim a 0]
  rfl

theorem good_of_pre {F : FTy → Type} [FloatOps F] (a0 : IVec Cert.Pre_items_cover.S131072x512 32) (T0 T1 T2 T3 : IVec S287 32) (a5 : FVec F Cert.Pre_items_cover.S2x32x1024x2048 .f32)
    (a6 : FVec F Cert.Pre_items_cover.S2x32x2048 .f32) (a7 : FVec F Cert.Pre_items_cover.S2x32x1024x1024 .f32) (a8 : FVec F Cert.Pre_items_cover.S2x32x1024 .f32)
    (hp : Cert.Pre_items_cover.fn (F := F) a0 T0 T1 T2 T3 a5 a6 a7 a8 = fun _ => 1#1) : Good T0 T1 T2 T3 := by
  have key : ∀ n : Fin 287, (T2 (ix n)).toNat ≤ (T3 (ix n)).toNat ∧ (T0 (ix n)).toNat ≤ 255 ∧ 512 * (T0 (ix n)).toNat ≤ (T2 (ix n)).toNat
      ∧ ((T2 (ix n)).toNat < 512 * (T0 (ix n)).toNat + 512 ∨ (T0 (ix n)).toNat = 255) ∧ (T3 (ix n)).toNat ≤ 512 * (T0 (ix n)).toNat + 512
      ∧ (T1 (ix n)).toNat < 32 := by
    intro n
    obtain ⟨-, -, e3, e4, e5, e6, e7, e8, e9, e10⟩ := pre_at a0 T0 T1 T2 T3 a5 a6 a7 a8 hp n
    generalize T0 (ix n) = t at *
    generalize T1 (ix n) = x at *
    generalize T2 (ix n) = l at *
    generalize T3 (ix n) = u at *
    have z0 : (0#32 : BitVec 32).toInt = 0 := rfl
    have z1 : (255#32 : BitVec 32).toInt = 255 := rfl
    have z2 : (32#32 : BitVec 32).toInt = 32 := rfl
    rw [z0] at e4 e9
    rw [z1] at e5
    rw [z2] at e10
    have ht := toInt_of_nonneg t e4
    have hx := toInt_of_nonneg x e9
    rw [ht] at e5
    rw [hx] at e10
    have hb : (t * 512#32).toNat = 512 * t.toNat := by
      rw [BitVec.toNat_mul, BitVec.toNat_ofNat]; omega
    have hb2 : (t * 512#32 + 512#32).toNat = 512 * t.toNat + 512 := by
      rw [BitVec.toNat_add, hb, BitVec.toNat_ofNat]; omega
    have hbi := BitVec.toInt_eq_toNat_of_lt (x := t * 512#32) (by omega)
    have hbi2 := BitVec.toInt_eq_toNat_of_lt (x := t * 512#32 + 512#32) (by omega)
    rw [hbi, hb] at e6
    rw [hbi2, hb2] at e7 e8
    have hl := toInt_of_nonneg l (by omega)
    have hu := toInt_of_nonneg u (by omega)
    rw [hl] at e3 e6 e7
    rw [hu] at e3 e8
    refine ⟨by omega, by omega, by omega, ?_, by omega, by omega⟩
    rcases e7 with e7 | e7
    · left; omega
    · right; rw [e7]; rfl
  refine ⟨fun n h => ?_, ?_, ?_, fun n => (key n).1, fun n => (key n).2.1, fun n => (key n).2.2.1, fun n => (key n).2.2.2.1, fun n => (key n).2.2.2.2.1, fun n => (key n).2.2.2.2.2⟩
  · rw [(pre_at a0 T0 T1 T2 T3 a5 a6 a7 a8 hp n).1, nxt_lt T2 n h]
  · rw [(pre_at a0 T0 T1 T2 T3 a5 a6 a7 a8 hp _).1, nxt_last]; rfl
  · rw [(pre_at a0 T0 T1 T2 T3 a5 a6 a7 a8 hp ⟨0, by omega⟩).2.1]; rfl

end

end Cert.Moe

end
-- ==== Proof.MoeSpec.lean ====
/- What one row becomes: its pairs of halves unpacked, the expert's two products around the gated unit. -/
module

public import Idealize.ShloMosaic.Lib.Pipeline.ValueKit
public import Idealize.ShloMosaic.Lib.Pointwise

@[expose] public section

noncomputable section

namespace Cert.Moe

open Idealize.ShloMosaic

/-- A half word as the high half of a word of zeros is the same number at the wider format. -/
theorem widen (u : BitVec 16) (v : BitVec 32) (h : v.toNat = u.toNat * 65536) : Ideal.ofBits .f32 v = Ideal.ofBits .bf16 u := by
  have hu := u.isLt
  have h1 : BitVec.extractLsb' (8 + 23) 1 v = BitVec.extractLsb' (8 + 7) 1 u := by
    apply BitVec.eq_of_toNat_eq
    rw [BitVec.extractLsb'_toNat, BitVec.extractLsb'_toNat, Nat.shiftRight_eq_div_pow, Nat.shiftRight_eq_div_pow, h]
    norm_num; omega
  have h2 : (BitVec.extractLsb' 23 8 v).toNat = (BitVec.extractLsb' 7 8 u).toNat := by
    rw [BitVec.extractLsb'_toNat, BitVec.extractLsb'_toNat, Nat.shiftRight_eq_div_pow, Nat.shiftRight_eq_div_pow, h]
    norm_num; omega
  have h3 : (BitVec.extractLsb' 0 23 v).toNat = (BitVec.extractLsb' 0 7 u).toNat * 65536 := by
    rw [BitVec.extractLsb'_toNat, BitVec.extractLsb'_toNat, Nat.shiftRight_eq_div_pow, Nat.shiftRight_eq_div_pow, h]
    norm_num; omega
  show Ideal.ieee 8 23 v = Ideal.ieee 8 7 u
  unfold Ideal.ieee
  simp only [h1, h2, h3]
  generalize (BitVec.extractLsb' 7 8 u).toNat = e
  generalize (BitVec.extractLsb' 0 7 u).toNat = f
  have hz : f * 65536 = 0 ↔ f = 0 := by omega
  have hp : ∀ (z : ℤ), (2 : ℝ) ^ (z - 7) = 65536 * 2 ^ (z - 23) := fun z => by
    rw [show z - 7 = (z - 23) + 16 by ring, zpow_add₀ (by norm_num)]; norm_num; ring
  split
  · simp only [hz]
  · split
    · congr 1
      push_cast
      rw [show ((2 : ℝ) ^ (-133 : ℤ)) = 65536 * 2 ^ (-149 : ℤ) by norm_num]; ring
    · congr 1
      push_cast
      rw [hp]; ring

theorem low_half (w : BitVec 32) : Ideal.ofBits .f32 (w <<< 16) = Ideal.ofBits .bf16 (w.extractLsb' 0 16) := by
  apply widen
  rw [BitVec.toNat_shiftLeft, BitVec.extractLsb'_toNat, Nat.shiftLeft_eq, Nat.shiftRight_eq_div_pow]
  have := w.isLt
  norm_num; omega

theorem high_half (w : BitVec 32) : Ideal.ofBits .f32 (w &&& 4294901760#32) = Ideal.ofBits .bf16 (w.extractLsb' 16 16) := by
  apply widen
  have e : w &&& 4294901760#32 = (w >>> 16) <<< 16 := by
    ext i hi
    have hc : ∀ i : Fin 32, (4294901760#32).getLsbD i.val = decide (16 ≤ i.val) := by decide
    have := hc ⟨i, hi⟩
    rw [← BitVec.getLsbD_eq_getElem, ← BitVec.getLsbD_eq_getElem, BitVec.getLsbD_and, BitVec.getLsbD_shiftLeft, BitVec.getLsbD_ushiftRight, this]
    by_cases h16 : 16 ≤ i
    · simp [h16, hi, Nat.not_lt.2 h16]
    · simp [h16, Nat.lt_of_not_le h16]
  rw [e, BitVec.toNat_shiftLeft, BitVec.toNat_ushiftRight, BitVec.extractLsb'_toNat, Nat.shiftLeft_eq, Nat.shiftRight_eq_div_pow]
  have := w.isLt
  norm_num; omega

/-- A row of words as numbers: the low halves, then the high halves. -/
def lane (w : Fin 512 → BitVec 32) (k : Fin 1024) : EReal :=
  if h : k.val < 512 then Ideal.ofBits .bf16 ((w ⟨k.val, h⟩).extractLsb' 0 16) else Ideal.ofBits .bf16 ((w ⟨k.val - 512, by omega⟩).extractLsb' 16 16)

/-- The first product, with its bias. -/
def pre (x : Fin 1024 → EReal) (W : Fin 1024 → Fin 2048 → EReal) (B : Fin 2048 → EReal) (f : Fin 2048) : EReal :=
  (∑ k : Fin 1024, x k * W k f) + B f

/-- The gated unit: the first half gates the second, both clamped. -/
def act (p : Fin 2048 → EReal) (f : Fin 1024) : EReal :=
  (min (Ideal.ofBits .f32 0x40E00000#32) (max (Ideal.ofBits .f32 0xC0E00000#32) (p ⟨1024 + f.val, by omega⟩)) + 1)
    * min (p ⟨f.val, by omega⟩) (Ideal.ofBits .f32 0x40E00000#32)
    * Ideal.logistic (Ideal.ofBits .f32 0x3FD9DB23#32 * min (p ⟨f.val, by omega⟩) (Ideal.ofBits .f32 0x40E00000#32))

/-- A row through one expert. -/
def ffn (x : Fin 1024 → EReal) (W : Fin 1024 → Fin 2048 → EReal) (B : Fin 2048 → EReal) (V : Fin 1024 → Fin 1024 → EReal) (D : Fin 1024 → EReal)
    (d : Fin 1024) : EReal :=
  (∑ f : Fin 1024, act (pre x W B) f * V f d) + D d

theorem sum_lane (w : Fin 512 → BitVec 32) (W : Fin 1024 → EReal) :
    ∑ k : Fin 1024, lane w k * W k = (∑ x : Fin 512, Ideal.ofBits .bf16 ((w x).extractLsb' 0 16) * W ⟨x.val, by omega⟩)
      + ∑ x : Fin 512, Ideal.ofBits .bf16 ((w x).extractLsb' 16 16) * W ⟨512 + x.val, by omega⟩ := by
  rw [show (∑ k : Fin 1024, lane w k * W k) = ∑ k : Fin (512 + 512), lane w k * W k from rfl, Fin.sum_univ_add]
  refine congrArg₂ (· + ·) (Finset.sum_congr rfl fun x _ => ?_) (Finset.sum_congr rfl fun x _ => ?_)
  · refine congrArg₂ (· * ·) ?_ (congrArg W (Fin.ext rfl))
    unfold lane; exact dif_pos x.isLt
  · refine congrArg₂ (· * ·) ?_ (congrArg W (Fin.ext rfl))
    unfold lane
    rw [dif_neg (by simp)]
    congr 3; exact Fin.ext (by simp)

end Cert.Moe

end
-- ==== Proof.MoeItems.lean ====
/- The items partition the rows. -/
module

public import proofs.«01_k».proof.Proof.MoeTab
public import proofs.«01_k».proof.Proof.MoeSpec

@[expose] public section

set_option maxRecDepth 16384

noncomputable section

namespace Cert.Moe

open Idealize.ShloMosaic

variable {T0 T1 T2 T3 : Cert.Pre_items_cover.S287.Idx → BitVec 32} (g : Good T0 T1 T2 T3)

/-- Item `n` holds row `r`. -/
def Holds (T2 T3 : Cert.Pre_items_cover.S287.Idx → BitVec 32) (n : Fin 287) (r : ℕ) : Prop := (T2 (ix n)).toNat ≤ r ∧ r < (T3 (ix n)).toNat

include g in
theorem hi_le (n : Fin 287) : (T3 (ix n)).toNat ≤ 131072 := by
  have h1 := g.top n
  have h2 := g.tile n
  omega

include g in
theorem lo_le (n : Fin 287) : (T2 (ix n)).toNat ≤ 131072 := (g.le n).trans (hi_le g n)

include g in
/-- Items are in row order. -/
theorem order (n p : Fin 287) (h : n.val < p.val) : (T3 (ix n)).toNat ≤ (T2 (ix p)).toNat := by
  obtain ⟨p, hp⟩ := p
  induction p with
  | zero => exact absurd h (Nat.not_lt_zero _)
  | succ p ih =>
    have hp' : p < 287 := by omega
    rcases Nat.lt_or_ge n.val p with h' | h'
    · exact (ih hp' h').trans ((g.le _).trans (g.next ⟨p, hp'⟩ hp).le)
    · have e : n = ⟨p, hp'⟩ := Fin.ext (by simp only at h ⊢; omega)
      rw [e]
      exact (g.next ⟨p, hp'⟩ hp).le

include g in
/-- No row is in two items. -/
theorem unique (n p : Fin 287) (r : ℕ) (hn : Holds T2 T3 n r) (hp : Holds T2 T3 p r) : n = p := by
  obtain ⟨h1, h2⟩ := hn
  obtain ⟨h3, h4⟩ := hp
  rcases lt_trichotomy n.val p.val with h | h | h
  · have := order g n p h; omega
  · exact Fin.ext h
  · have := order g p n h; omega

include g in
/-- Every row is in an item. -/
theorem owner (r : ℕ) (hr : r < 131072) : ∃ n, Holds T2 T3 n r := by
  have H : ∀ (k : ℕ) (hk : k < 287), r < (T3 (ix ⟨k, hk⟩)).toNat → ∃ n, Holds T2 T3 n r := by
    intro k
    induction k with
    | zero => exact fun hk h => ⟨_, g.first.le.trans (Nat.zero_le _), h⟩
    | succ k ih =>
      intro hk h
      rcases Nat.lt_or_ge r (T2 (ix ⟨k + 1, hk⟩)).toNat with h' | h'
      · exact ih (by omega) (by rw [g.next ⟨k, by omega⟩ hk]; exact h')
      · exact ⟨_, h', h⟩
  exact H 286 (by omega) (by rw [g.last]; exact hr)

include g in
/-- An item's rows are its tile's. -/
theorem tile_of (n : Fin 287) (r : ℕ) (h : Holds T2 T3 n r) : (T0 (ix n)).toNat = r / 512 := by
  have h1 := g.base n
  have h2 := g.top n
  obtain ⟨h3, h4⟩ := h
  omega

include g in
theorem toInt_lo (n : Fin 287) : (T2 (ix n)).toInt = (T2 (ix n)).toNat := BitVec.toInt_eq_toNat_of_lt (by have := lo_le g n; omega)
include g in
theorem toInt_hi (n : Fin 287) : (T3 (ix n)).toInt = (T3 (ix n)).toNat := BitVec.toInt_eq_toNat_of_lt (by have := hi_le g n; omega)

include g in
/-- The item after which a tile is complete ends where the tile does. -/
theorem full (n : Fin 287) (h : n.val + 1 = 287 ∨ ∃ h : n.val + 1 < 287, T0 (ix ⟨n.val + 1, h⟩) ≠ T0 (ix n)) :
    (T3 (ix n)).toNat = 512 * (T0 (ix n)).toNat + 512 := by
  have h1 := g.top n
  have h2 := g.tile n
  have h3 := g.base n
  have h4 := g.le n
  rcases h with h | ⟨h, hne⟩
  · have e : n = ⟨286, by omega⟩ := Fin.ext (by simp only; omega)
    have := g.last
    rw [← e] at this
    omega
  · have h5 := g.next n h
    have h6 := g.base ⟨n.val + 1, h⟩
    have h7 := g.tight ⟨n.val + 1, h⟩
    have h8 := g.tile ⟨n.val + 1, h⟩
    have h9 : (T0 (ix ⟨n.val + 1, h⟩)).toNat ≠ (T0 (ix n)).toNat := fun h => hne (BitVec.eq_of_toNat_eq h)
    omega

/-- Some item on completes the tile. -/
theorem completes (T : Cert.Pre_items_cover.S287.Idx → BitVec 32) (n : Fin 287) :
    ∃ p : Fin 287, T (ix p) = T (ix n) ∧ (p.val + 1 = 287 ∨ ∃ h : p.val + 1 < 287, T (ix ⟨p.val + 1, h⟩) ≠ T (ix p)) := by
  have H : ∀ (k : ℕ) (n : Fin 287), n.val + k = 286 → ∃ p : Fin 287, T (ix p) = T (ix n) ∧ (p.val + 1 = 287 ∨ ∃ h : p.val + 1 < 287, T (ix ⟨p.val + 1, h⟩) ≠ T (ix p)) := by
    intro k
    induction k with
    | zero => exact fun n h => ⟨n, rfl, .inl (by omega)⟩
    | succ k ih =>
      intro n h
      have hn : n.val + 1 < 287 := by omega
      by_cases e : T (ix ⟨n.val + 1, hn⟩) = T (ix n)
      · obtain ⟨p, hp, h'⟩ := ih ⟨n.val + 1, hn⟩ (by simp only; omega)
        exact ⟨p, hp.trans e, h'⟩
      · exact ⟨n, rfl, .inr ⟨hn, e⟩⟩
  exact H (286 - n.val) n (by omega)

end Cert.Moe

end
-- ==== Proof.MoeRef.lean ====
/- The reference at an index: every expert's rows, weighed by whether the row's item is the expert's. -/
module

public import proofs.«01_k».proof.Proof.MoeItems
public import proofs.«01_k».proof.Proof.Gen.Reference3Ideal
public import proofs.«01_k».proof.Proof.Gen.Reference3Ideal.Run

@[expose] public section

set_option maxRecDepth 16384

noncomputable section

namespace Cert.Moe

open Idealize.ShloMosaic Cert.Reference3Ideal Cert.Reference3Ideal.Gen

/-- The rows, unpacked. -/
def LANES (X : IVec S131072x512 32) : FVec Ideal S131072x1024 .f32 :=
  extf .f32 (shapeCast _ (transpose S131072x2x512 [0, 2, 1] (bitcastToFloat (F := Ideal) .bf16 (Host.bitcastConvertNarrow S131072x512x2 16 X splits_S131072x512_w32_S131072x512x2_w16)) transposes_S131072x512x2_S131072x2x512_0_2_1) shapeCasts_S131072x2x512_S131072x1024) bitsLt_bf16_f32

/-- Every expert's first product. -/
def PRE (L : FVec Ideal S131072x1024 .f32) (W : FVec Ideal S2x32x1024x2048 .f32) (B : FVec Ideal S2x32x2048 .f32) : FVec Ideal S32x131072x2048 .f32 :=
  addf (transpose S32x131072x2048 [0, 2, 1] (Host.dotGeneral dot_S32x1024x2048_S131072x1024_S32x2048x131072_1_1_02_0_n_n none (shapeCast _ (extractStridedSlice S1x32x1024x2048 ![1, 0, 0, 0] W slices_S2x32x1024x2048_S1x32x1024x2048_1_0_0_0) shapeCasts_S1x32x1024x2048_S32x1024x2048) L) transposes_S32x2048x131072_S32x131072x2048_0_2_1) (broadcastInDim S32x131072x2048 ![0, 1, 2] bcast_S32x1x2048_S32x131072x2048_0_1_2 (broadcastInDim S32x1x2048 ![0, 2] bcast_S32x2048_S32x1x2048_0_2 (shapeCast _ (extractStridedSlice S1x32x2048 ![1, 0, 0] B slices_S2x32x2048_S1x32x2048_1_0_0) shapeCasts_S1x32x2048_S32x2048)))

/-- Every expert's gated unit. -/
def ACT (P : FVec Ideal S32x131072x2048 .f32) : FVec Ideal S32x131072x1024 .f32 :=
  mulf (mulf (addf (minimumf (broadcastInDim S32x131072x1024 ![] bcast_S_S32x131072x1024 (id (constant S_ .f32 0x40E00000#32))) (maximumf (broadcastInDim S32x131072x1024 ![] bcast_S_S32x131072x1024 (id (constant S_ .f32 0xC0E00000#32))) (extractStridedSlice S32x131072x1024 ![0, 0, 1024] P slices_S32x131072x2048_S32x131072x1024_0_0_1024))) (broadcastInDim S32x131072x1024 ![] bcast_S_S32x131072x1024 (constant S_ .f32 0x3F800000#32))) (minimumf (extractStridedSlice S32x131072x1024 ![0, 0, 0] P slices_S32x131072x2048_S32x131072x1024_0_0_0) (broadcastInDim S32x131072x1024 ![] bcast_S_S32x131072x1024 (constant S_ .f32 0x40E00000#32)))) (Host.divf (broadcastInDim S32x131072x1024 ![] bcast_S_S32x131072x1024 (constant S_ .f32 0x3F800000#32)) (addf (broadcastInDim S32x131072x1024 ![] bcast_S_S32x131072x1024 (constant S_ .f32 0x3F800000#32)) (Host.exp (Host.negf (mulf (broadcastInDim S32x131072x1024 ![] bcast_S_S32x131072x1024 (constant S_ .f32 0x3FD9DB23#32)) (minimumf (extractStridedSlice S32x131072x1024 ![0, 0, 0] P slices_S32x131072x2048_S32x131072x1024_0_0_0) (broadcastInDim S32x131072x1024 ![] bcast_S_S32x131072x1024 (constant S_ .f32 0x40E00000#32))))))))

/-- Every expert's second product. -/
def YS (A : FVec Ideal S32x131072x1024 .f32) (V : FVec Ideal S2x32x1024x1024 .f32) (D : FVec Ideal S2x32x1024 .f32) : FVec Ideal S32x131072x1024 .f32 :=
  addf (Host.dotGeneral dot_S32x131072x1024_S32x1024x1024_S32x131072x1024_2_1_1_2_0_0 none A (shapeCast _ (extractStridedSlice S1x32x1024x1024 ![1, 0, 0, 0] V slices_S2x32x1024x1024_S1x32x1024x1024_1_0_0_0) shapeCasts_S1x32x1024x1024_S32x1024x1024)) (broadcastInDim S32x131072x1024 ![0, 1, 2] bcast_S32x1x1024_S32x131072x1024_0_1_2 (broadcastInDim S32x1x1024 ![0, 2] bcast_S32x1024_S32x1x1024_0_2 (shapeCast _ (extractStridedSlice S1x32x1024 ![1, 0, 0] D slices_S2x32x1024_S1x32x1024_1_0_0) shapeCasts_S1x32x1024_S32x1024)))

/-- Whether an item that holds the row is the expert's. -/
def HELD (T1 T2 T3 : IVec S287 32) : IVec S32x131072x287 1 :=
  andi (broadcastInDim S32x131072x287 ![0, 1, 2] bcast_S1x131072x287_S32x131072x287_0_1_2 (broadcastInDim S1x131072x287 ![1, 2] bcast_S131072x287_S1x131072x287_1_2 (andi (cmpi .sle (broadcastInDim S131072x287 ![0, 1] bcast_S1x287_S131072x287_0_1 (broadcastInDim S1x287 ![1] bcast_S287_S1x287_1 T2)) (broadcastInDim S131072x287 ![0, 1] bcast_S131072x1_S131072x287_0_1 (broadcastInDim S131072x1 ![0] bcast_S131072_S131072x1_0 (iotaInDim S131072 32 0)))) (cmpi .slt (broadcastInDim S131072x287 ![0, 1] bcast_S131072x1_S131072x287_0_1 (broadcastInDim S131072x1 ![0] bcast_S131072_S131072x1_0 (iotaInDim S131072 32 0))) (broadcastInDim S131072x287 ![0, 1] bcast_S1x287_S131072x287_0_1 (broadcastInDim S1x287 ![1] bcast_S287_S1x287_1 T3)))))) (broadcastInDim S32x131072x287 ![0, 1, 2] bcast_S32x1x287_S32x131072x287_0_1_2 (cmpi .eq (broadcastInDim S32x1x287 ![0, 1, 2] bcast_S1x1x287_S32x1x287_0_1_2 (broadcastInDim S1x1x287 ![2] bcast_S287_S1x1x287_2 T1)) (broadcastInDim S32x1x287 ![0, 1, 2] bcast_S32x1x1_S32x1x287_0_1_2 (broadcastInDim S32x1x1 ![0] bcast_S32_S32x1x1_0 (iotaInDim S32 32 0)))))

/-- The experts' rows, weighed and added. -/
def SUMS (H : IVec S32x131072x287 1) (Y : FVec Ideal S32x131072x1024 .f32) : FVec Ideal S131072x1024 .f32 :=
  Host.reduceAdd (mulf (broadcastInDim S32x131072x1024 ![0, 1, 2] bcast_S32x131072x1_S32x131072x1024_0_1_2 (broadcastInDim S32x131072x1 ![0, 1] bcast_S32x131072_S32x131072x1_0_1 (Host.reduceAdd (uitofp .f32 H) (constant S_ .f32 0x00000000#32) reducesTo_S32x131072x287_S32x131072_d2 h_S_))) Y) (constant S_ .f32 0x00000000#32) reducesTo_S32x131072x1024_S131072x1024_d0 h_S_

theorem ref_eq (m : (ℓ : Loc nD τ sig) → Buf (Elt Ideal) ℓ) (c : Dev nD) : Value.res_out0 m c =
    SUMS (HELD (m ((c.tc : Thread nD τ).loc main_arg2)) (m ((c.tc : Thread nD τ).loc main_arg3)) (m ((c.tc : Thread nD τ).loc main_arg4)))
      (YS (ACT (PRE (LANES (m ((c.tc : Thread nD τ).loc main_arg0))) (m ((c.tc : Thread nD τ).loc main_arg5)) (m ((c.tc : Thread nD τ).loc main_arg6))))
        (m ((c.tc : Thread nD τ).loc main_arg7)) (m ((c.tc : Thread nD τ).loc main_arg8))) := rfl

theorem narrow_apply (X : IVec S131072x512 32) (r : Fin 131072) (j : Fin 512) (h : Fin 2) :
    Host.bitcastConvertNarrow S131072x512x2 16 X splits_S131072x512_w32_S131072x512x2_w16 (ix3 r j h) = (X (ix2 r j)).extractLsb' (h.val * 16) 16 := by
  rw [Host.bitcastConvertNarrow]
  refine congrArg₂ (fun a b => BitVec.extractLsb' (a * 16) 16 (X b)) rfl ?_
  funext a; fin_cases a <;> rfl

theorem lanes_apply (X : IVec S131072x512 32) (r : Fin 131072) (k : Fin 1024) : LANES X (ix2 r k) = lane (fun j => X (ix2 r j)) k := by
  pointwise [LANES]
  rw [narrow_apply]
  unfold lane
  by_cases h : k.val < 512
  · rw [dif_pos h]
    have e1 : (⟨k.val % 512, by omega⟩ : Fin 512) = ⟨k.val, h⟩ := Fin.ext (Nat.mod_eq_of_lt h)
    have e2 : k.val / 512 = 0 := by omega
    simp only [e1, e2]
  · rw [dif_neg h]
    have e1 : (⟨k.val % 512, by omega⟩ : Fin 512) = ⟨k.val - 512, by omega⟩ := Fin.ext (by simp only; omega)
    have e2 : k.val / 512 = 1 := by omega
    simp only [e1, e2]

theorem pre_apply (L : FVec Ideal S131072x1024 .f32) (W : FVec Ideal S2x32x1024x2048 .f32) (B : FVec Ideal S2x32x2048 .f32) (e : Fin 32) (r : Fin 131072) (f : Fin 2048) :
    PRE L W B (ix3 e r f) = pre (fun k => L (ix2 r k)) (fun k f => W (ix4 1 e k f)) (fun f => B (ix3 1 e f)) f := by
  pointwise [PRE]
  exact congrArg (· + _) (Finset.sum_congr rfl fun k _ => mul_comm _ _)

theorem act_apply (P : FVec Ideal S32x131072x2048 .f32) (e : Fin 32) (r : Fin 131072) (f : Fin 1024) : ACT P (ix3 e r f) = act (fun f => P (ix3 e r f)) f := by
  pointwise [ACT]
  rfl

theorem ys_apply (A : FVec Ideal S32x131072x1024 .f32) (V : FVec Ideal S2x32x1024x1024 .f32) (D : FVec Ideal S2x32x1024 .f32) (e : Fin 32) (r : Fin 131072) (d : Fin 1024) :
    YS A V D (ix3 e r d) = (∑ f : Fin 1024, A (ix3 e r f) * V (ix4 1 e f d)) + D (ix3 1 e d) := by
  pointwise [YS]

theorem held_apply (T1 T2 T3 : IVec S287 32) (e : Fin 32) (r : Fin 131072) (n : Fin 287) :
    HELD T1 T2 T3 (ix3 e r n) = 1#1 ↔ ((T2 (ix1 n)).toInt ≤ (BitVec.ofNat 32 r.val).toInt ∧ (BitVec.ofNat 32 r.val).toInt < (T3 (ix1 n)).toInt) ∧ T1 (ix1 n) = BitVec.ofNat 32 e.val := by
  pointwise [HELD]
  simp only [IntOp.andi_eq_one, IntOp.cmpi, ofBool_one, BitVec.sle, BitVec.slt, decide_eq_true_eq, beq_iff_eq]

theorem sums_apply (H : IVec S32x131072x287 1) (Y : FVec Ideal S32x131072x1024 .f32) (r : Fin 131072) (d : Fin 1024) :
    SUMS H Y (ix2 r d) = ∑ e : Fin 32, (∑ n : Fin 287, if H (ix3 e r n) = 1#1 then (1 : EReal) else 0) * Y (ix3 e r d) := by
  have e : ∀ b : BitVec 1, FloatOps.uitofp (F := Ideal) .f32 b = if b = 1#1 then (1 : EReal) else 0 := fun b => by
    have hb : b = 0#1 ∨ b = 1#1 := by revert b; decide
    show ((b.toNat : ℝ) : EReal) = _
    rcases hb with rfl | rfl <;> simp
  pointwise [SUMS]
  simp only [e]

/-- The reference's experts at an index. -/
theorem exp_apply (X : IVec S131072x512 32) (W : FVec Ideal S2x32x1024x2048 .f32) (B : FVec Ideal S2x32x2048 .f32) (V : FVec Ideal S2x32x1024x1024 .f32) (D : FVec Ideal S2x32x1024 .f32) (e : Fin 32) (r : Fin 131072) (d : Fin 1024) :
    YS (ACT (PRE (LANES X) W B)) V D (ix3 e r d) = ffn (lane fun j => X (ix2 r j)) (fun k f => W (ix4 1 e k f)) (fun f => B (ix3 1 e f)) (fun k f => V (ix4 1 e k f)) (fun f => D (ix3 1 e f)) d := by
  rw [ys_apply]
  simp only [act_apply, pre_apply, lanes_apply]
  rfl

variable {T0 T1 T2 T3 : IVec S287 32} (g : Good T0 T1 T2 T3)

theorem ix_eq (n : Fin 287) : (ix1 n : S287.Idx) = ix n := by
  funext a; rw [Subsingleton.elim a 0]; rfl

/-- The weighed sum is the row's own expert's. -/
theorem sums_held (Y : FVec Ideal S32x131072x1024 .f32) (r : Fin 131072) (d : Fin 1024) (n : Fin 287) (hn : Holds T2 T3 n r.val) :
    SUMS (HELD T1 T2 T3) Y (ix2 r d) = Y (ix3 ⟨(T1 (ix n)).toNat, g.exp n⟩ r d) := by
  have hr : (BitVec.ofNat 32 r.val).toInt = r.val := by
    have hr := r.isLt
    rw [BitVec.toInt_eq_toNat_of_lt (by rw [BitVec.toNat_ofNat]; omega), BitVec.toNat_ofNat, Nat.mod_eq_of_lt (by omega)]
  have H : ∀ (e : Fin 32) (p : Fin 287), HELD T1 T2 T3 (ix3 e r p) = 1#1 ↔ p = n ∧ e = ⟨(T1 (ix n)).toNat, g.exp n⟩ := by
    intro e p
    rw [held_apply, ix_eq, hr, show (T2 (ix p)).toInt = ((T2 (ix p)).toNat : ℤ) from toInt_lo g p, show (T3 (ix p)).toInt = ((T3 (ix p)).toNat : ℤ) from toInt_hi g p]
    constructor
    · rintro ⟨⟨h1, h2⟩, h3⟩
      have hp : p = n := unique g p n r.val ⟨Int.ofNat_le.1 h1, Int.ofNat_lt.1 h2⟩ hn
      subst hp
      refine ⟨rfl, Fin.ext ?_⟩
      have he := e.isLt
      show e.val = (T1 (ix p)).toNat
      rw [h3, BitVec.toNat_ofNat, Nat.mod_eq_of_lt (by omega)]
    · rintro ⟨rfl, rfl⟩
      refine ⟨⟨Int.ofNat_le.2 hn.1, Int.ofNat_lt.2 hn.2⟩, ?_⟩
      apply BitVec.eq_of_toNat_eq
      have := g.exp p
      rw [BitVec.toNat_ofNat]
      exact (Nat.mod_eq_of_lt (T1 (ix p)).isLt).symm
  rw [sums_apply, Finset.sum_eq_single (⟨(T1 (ix n)).toNat, g.exp n⟩ : Fin 32)]
  · rw [Finset.sum_eq_single n]
    · rw [if_pos ((H _ _).2 ⟨rfl, rfl⟩), one_mul]
    · intro p _ hp
      rw [if_neg fun h => hp ((H _ _).1 h).1]
    · exact fun h => absurd (Finset.mem_univ _) h
  · intro e _ he
    rw [Finset.sum_eq_zero fun p _ => if_neg fun h => he ((H _ _).1 h).2, zero_mul]
  · exact fun h => absurd (Finset.mem_univ _) h

end Cert.Moe

end
-- ==== Proof.MoeIRun.lean ====
module

public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The four tables, whole. -/
abbrev tb0 : Memref sig .tc .smem S287 .i32 := Memref.whole main_arg1
abbrev tb1 : Memref sig .tc .smem S287 .i32 := Memref.whole main_arg2
abbrev tb2 : Memref sig .tc .smem S287 .i32 := Memref.whole main_arg3
abbrev tb3 : Memref sig .tc .smem S287 .i32 := Memref.whole main_arg4

/-- The word of a table at the item the body is at. -/
abbrev wd (b : Memref sig .tc .smem S287 .i32) (i : grid0.Coords) (T : b.view.ty.Contents (Elt F)) : Elt F .i32 :=
  View.readAt (Elt F) b.view (Rect.unit (s := S287) (k0_off1 i) S1.size (k0_off1_inb i)).toLoadRect T (Shape.Idx.first (numel1_S1.symm ▸ Nat.one_pos))

/-- The word of a table at the item before. -/
abbrev wp' (b : Memref sig .tc .smem S287 .i32) (i : grid0.Coords) (T : b.view.ty.Contents (Elt F)) : Elt F .i32 :=
  View.readAt (Elt F) b.view (Rect.unit (s := S287) (k0_off2 i) S1.size (k0_off2_inb i)).toLoadRect T (Shape.Idx.first (numel1_S1.symm ▸ Nat.one_pos))

/-- The item is the first, or its expert is another than the item's before. -/
abbrev c1 (i : grid0.Coords) (T1 : S287.Idx → Elt F .i32) : Prop :=
  Scalar.cmpi .ne (Scalar.extui (Scalar.ori (Scalar.cmpi .eq (BitVec.ofNat 32 (i 0).val) 0#32) (Scalar.cmpi .ne (wd tb1 i T1) (wp' tb1 i T1)))) 0#32 = 1#1

variable (c : Dev nD) (i : grid0.Coords) (arg5 : Memref sig .tc .vmem S512x512 .i32) (harg5 : arg5.IsWhole) (arg6 : Memref sig .tc .vmem S1x1x1024x2048 .f32) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .f32) (harg10 : arg10.IsWhole) (arg11 : Memref sig .tc .vmem S1024x2048 .bf16) (harg11 : arg11.IsWhole) (arg12 : Memref sig .tc .vmem S1024x1024 .bf16) (harg12 : arg12.IsWhole)
  (T0 T1 T2 T3 : S287.Idx → Elt F .i32)
  (x0 : S512x512.Idx → Elt F .i32) (x1 : S1x1x1024x2048.Idx → Elt F .f32) (x2 : S1x1x1x2048.Idx → Elt F .f32) (x3 : S1x1x1024x1024.Idx → Elt F .f32) (x4 : S1x1x1x1024.Idx → Elt F .f32)
  (o : S512x1024.Idx → Elt F .f32) (s0 : S1024x2048.Idx → Elt F .bf16) (s1 : S1024x1024.Idx → Elt F .bf16)

/-- The body, run from the windows' blocks, the tables, an output block and the scratch weights, leaves the output block
    and the scratch weights named last and everything else as it was. -/
def Runs (o' : S512x1024.Idx → Elt F .f32) (s0' : S1024x2048.Idx → Elt F .bf16) (s1' : S1024x1024.Idx → Elt F .bf16) : Prop :=
  ∀ K : PUnit → sProp 𝕄,
    iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (arg10.view.loc (c : Thread nD τ) ↦[arg10.view.set]{fullShare} arg10.view.rep o)
          ∗ (arg11.view.loc (c : Thread nD τ) ↦[arg11.view.set]{fullShare} arg11.view.rep s0)
          ∗ (arg12.view.loc (c : Thread nD τ) ↦[arg12.view.set]{fullShare} arg12.view.rep s1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tb0.view.loc (c : Thread nD τ) ↦{fullShare.right} T0)
              ∗ (tb1.view.loc (c : Thread nD τ) ↦{fullShare.right} T1)
              ∗ (tb2.view.loc (c : Thread nD τ) ↦{fullShare.right} T2)
              ∗ (tb3.view.loc (c : Thread nD τ) ↦{fullShare.right} T3)
              ∗ owns (c : Thread nD τ) arg10 fullShare o'
              ∗ owns (c : Thread nD τ) arg11 fullShare s0'
              ∗ owns (c : Thread nD τ) arg12 fullShare s1') -∗ K ⟨⟩))
      ⊢ wp frame (wpE (defs₀ (F := F)) Variants.none c none) Set.univ (cc0_moe_ffn i tb0 (Memref.isWhole_whole _) tb1 (Memref.isWhole_whole _) tb2 (Memref.isWhole_whole _) tb3 (Memref.isWhole_whole _) arg5 harg5 arg6 harg6 arg7 harg7 arg8 harg8 arg9 harg9 arg10 harg10 arg11 harg11 arg12 harg12) K

/-- The item's product is a function of what it is computed from. -/
theorem pay5_congr {a0 b0 : Vec F S512x512 .i32} {a1 b1 : Vec F S1024x2048 .bf16} {a2 b2 : Vec F S1x1x1x2048 .f32} {a3 b3 : Vec F S1024x1024 .bf16} {a4 b4 : Vec F S1x1x1x1024 .f32}
    (e0 : a0 = b0) (e1 : a1 = b1) (e2 : a2 = b2) (e3 : a3 = b3) (e4 : a4 = b4) : k0_pay5 a0 a1 a2 a3 a4 = k0_pay5 b0 b1 b2 b3 b4 := by
  rw [e0, e1, e2, e3, e4]

set_option maxHeartbeats 8000000 in
theorem load_whole (h1 : c1 i T1) (h2 : ¬ k0_cond2 (wd tb2 i T2) (wd tb3 i T3) (wd tb0 i T0) = 1#1) (h3 : k0_cond3 (wd tb2 i T2) (wd tb3 i T3) = 1#1) (h4 : k0_cond4 (wd tb2 i T2) (wd tb3 i T3) (wd tb0 i T0) = 1#1) (h5 : ¬ k0_cond5 (wd tb2 i T2) (wd tb3 i T3) (wd tb0 i T0) = 1#1) :
    Runs c i arg5 harg5 arg6 harg6 arg7 harg7 arg8 harg8 arg9 harg9 arg10 harg10 arg11 harg11 arg12 harg12 T0 T1 T2 T3 x0 x1 x2 x3 x4 o s0 s1 (k0_pay5 x0 (k0_pay1 x1) x2 (k0_pay2 x3) x4) (k0_pay1 x1) (k0_pay2 x3) := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = Scalar.cmpi = _; exact h1) | (guard_target = ¬ (k0_cond2 _ _ _ = _); exact h2) | (guard_target = k0_cond3 _ _ = _; exact h3) | (guard_target = k0_cond4 _ _ _ = _; exact h4) | (guard_target = ¬ (k0_cond5 _ _ _ = _); exact h5))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      refine (View.read_writes_full _ _ _ _ _).trans ?_
      refine pay5_congr ?_ ?_ ?_ ?_ ?_ <;>
        first | exact View.readAt_rep_full _ _ _ | exact (View.readCov_cons_toLoadRect _ _ _ _).trans (congrArg _ (View.readAt_rep_full _ _ _)) | exact View.readCov_cons_toLoadRect _ _ _ _
  isplitl [HS0]
  · unfold owns; iexists _; isplitr; swap
    · iexact HS0
    · ipureintro
      refine (View.read_writes_full _ _ _ _ _).trans ?_
      rw [View.readAt_rep_full]
  · unfold owns; iexists _; isplitr; swap
    · iexact HS1
    · ipureintro
      refine (View.read_writes_full _ _ _ _ _).trans ?_
      rw [View.readAt_rep_full]

set_option maxHeartbeats 8000000 in
theorem load_clear (h1 : c1 i T1) (h2 : k0_cond2 (wd tb2 i T2) (wd tb3 i T3) (wd tb0 i T0) = 1#1) (h3 : k0_cond3 (wd tb2 i T2) (wd tb3 i T3) = 1#1) (h4 : ¬ k0_cond4 (wd tb2 i T2) (wd tb3 i T3) (wd tb0 i T0) = 1#1) (h5 : k0_cond5 (wd tb2 i T2) (wd tb3 i T3) (wd tb0 i T0) = 1#1) :
    Runs c i arg5 harg5 arg6 harg6 arg7 harg7 arg8 harg8 arg9 harg9 arg10 harg10 arg11 harg11 arg12 harg12 T0 T1 T2 T3 x0 x1 x2 x3 x4 o s0 s1 (k0_pay4 (wd tb2 i T2) (wd tb3 i T3) (wd tb0 i T0) (k0_pay5 x0 (k0_pay1 x1) x2 (k0_pay2 x3) x4) k0_pay3) (k0_pay1 x1) (k0_pay2 x3) := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = Scalar.cmpi = _; exact h1) | (guard_target = k0_cond2 _ _ _ = _; exact h2) | (guard_target = k0_cond3 _ _ = _; exact h3) | (guard_target = ¬ (k0_cond4 _ _ _ = _); exact h4) | (guard_target = k0_cond5 _ _ _ = _; exact h5))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      refine (View.read_writes_full _ _ _ _ _).trans ?_
      refine congr (congrArg _ (pay5_congr ?_ ?_ ?_ ?_ ?_)) ?_ <;>
        first | exact View.readAt_rep_full _ _ _ | exact (View.readCov_cons_toLoadRect _ _ _ _).trans (congrArg _ (View.readAt_rep_full _ _ _)) | exact View.readCov_cons_toLoadRect _ _ _ _
  isplitl [HS0]
  · unfold owns; iexists _; isplitr; swap
    · iexact HS0
    · ipureintro
      refine (View.read_writes_full _ _ _ _ _).trans ?_
      rw [View.readAt_rep_full]
  · unfold owns; iexists _; isplitr; swap
    · iexact HS1
    · ipureintro
      refine (View.read_writes_full _ _ _ _ _).trans ?_
      rw [View.readAt_rep_full]

set_option maxHeartbeats 8000000 in
theorem load_add (h1 : c1 i T1) (h2 : ¬ k0_cond2 (wd tb2 i T2) (wd tb3 i T3) (wd tb0 i T0) = 1#1) (h3 : k0_cond3 (wd tb2 i T2) (wd tb3 i T3) = 1#1) (h4 : ¬ k0_cond4 (wd tb2 i T2) (wd tb3 i T3) (wd tb0 i T0) = 1#1) (h5 : k0_cond5 (wd tb2 i T2) (wd tb3 i T3) (wd tb0 i T0) = 1#1) :
    Runs c i arg5 harg5 arg6 harg6 arg7 harg7 arg8 harg8 arg9 harg9 arg10 harg10 arg11 harg11 arg12 harg12 T0 T1 T2 T3 x0 x1 x2 x3 x4 o s0 s1 (k0_pay4 (wd tb2 i T2) (wd tb3 i T3) (wd tb0 i T0) (k0_pay5 x0 (k0_pay1 x1) x2 (k0_pay2 x3) x4) o) (k0_pay1 x1) (k0_pay2 x3) := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = Scalar.cmpi = _; exact h1) | (guard_target = ¬ (k0_cond2 _ _ _ = _); exact h2) | (guard_target = k0_cond3 _ _ = _; exact h3) | (guard_target = ¬ (k0_cond4 _ _ _ = _); exact h4) | (guard_target = k0_cond5 _ _ _ = _; exact h5))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      refine (View.read_writes_full _ _ _ _ _).trans ?_
      refine congr (congrArg _ (pay5_congr ?_ ?_ ?_ ?_ ?_)) ?_ <;>
        first | exact View.readAt_rep_full _ _ _ | exact (View.readCov_cons_toLoadRect _ _ _ _).trans (congrArg _ (View.readAt_rep_full _ _ _)) | exact View.readCov_cons_toLoadRect _ _ _ _
  isplitl [HS0]
  · unfold owns; iexists _; isplitr; swap
    · iexact HS0
    · ipureintro
      refine (View.read_writes_full _ _ _ _ _).trans ?_
      rw [View.readAt_rep_full]
  · unfold owns; iexists _; isplitr; swap
    · iexact HS1
    · ipureintro
      refine (View.read_writes_full _ _ _ _ _).trans ?_
      rw [View.readAt_rep_full]

set_option maxHeartbeats 8000000 in
theorem load_zero (h1 : c1 i T1) (h2 : k0_cond2 (wd tb2 i T2) (wd tb3 i T3) (wd tb0 i T0) = 1#1) (h3 : ¬ k0_cond3 (wd tb2 i T2) (wd tb3 i T3) = 1#1) :
    Runs c i arg5 harg5 arg6 harg6 arg7 harg7 arg8 harg8 arg9 harg9 arg10 harg10 arg11 harg11 arg12 harg12 T0 T1 T2 T3 x0 x1 x2 x3 x4 o s0 s1 k0_pay3 (k0_pay1 x1) (k0_pay2 x3) := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = Scalar.cmpi = _; exact h1) | (guard_target = k0_cond2 _ _ _ = _; exact h2) | (guard_target = ¬ (k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      exact View.read_writes_full _ _ _ _ _
  isplitl [HS0]
  · unfold owns; iexists _; isplitr; swap
    · iexact HS0
    · ipureintro
      refine (View.read_writes_full _ _ _ _ _).trans ?_
      rw [View.readAt_rep_full]
  · unfold owns; iexists _; isplitr; swap
    · iexact HS1
    · ipureintro
      refine (View.read_writes_full _ _ _ _ _).trans ?_
      rw [View.readAt_rep_full]

set_option maxHeartbeats 8000000 in
theorem load_skip (h1 : c1 i T1) (h2 : ¬ k0_cond2 (wd tb2 i T2) (wd tb3 i T3) (wd tb0 i T0) = 1#1) (h3 : ¬ k0_cond3 (wd tb2 i T2) (wd tb3 i T3) = 1#1) :
    Runs c i arg5 harg5 arg6 harg6 arg7 harg7 arg8 harg8 arg9 harg9 arg10 harg10 arg11 harg11 arg12 harg12 T0 T1 T2 T3 x0 x1 x2 x3 x4 o s0 s1 o (k0_pay1 x1) (k0_pay2 x3) := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = Scalar.cmpi = _; exact h1) | (guard_target = ¬ (k0_cond2 _ _ _ = _); exact h2) | (guard_target = ¬ (k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · iapply owns_of_rep; iexact HO5
  isplitl [HS0]
  · unfold owns; iexists _; isplitr; swap
    · iexact HS0
    · ipureintro
      refine (View.read_writes_full _ _ _ _ _).trans ?_
      rw [View.readAt_rep_full]
  · unfold owns; iexists _; isplitr; swap
    · iexact HS1
    · ipureintro
      refine (View.read_writes_full _ _ _ _ _).trans ?_
      rw [View.readAt_rep_full]

set_option maxHeartbeats 8000000 in
theorem keep_whole (h1 : ¬ c1 i T1) (h2 : ¬ k0_cond2 (wd tb2 i T2) (wd tb3 i T3) (wd tb0 i T0) = 1#1) (h3 : k0_cond3 (wd tb2 i T2) (wd tb3 i T3) = 1#1) (h4 : k0_cond4 (wd tb2 i T2) (wd tb3 i T3) (wd tb0 i T0) = 1#1) (h5 : ¬ k0_cond5 (wd tb2 i T2) (wd tb3 i T3) (wd tb0 i T0) = 1#1) :
    Runs c i arg5 harg5 arg6 harg6 arg7 harg7 arg8 harg8 arg9 harg9 arg10 harg10 arg11 harg11 arg12 harg12 T0 T1 T2 T3 x0 x1 x2 x3 x4 o s0 s1 (k0_pay5 x0 s0 x2 s1 x4) s0 s1 := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬ (Scalar.cmpi = _); exact h1) | (guard_target = ¬ (k0_cond2 _ _ _ = _); exact h2) | (guard_target = k0_cond3 _ _ = _; exact h3) | (guard_target = k0_cond4 _ _ _ = _; exact h4) | (guard_target = ¬ (k0_cond5 _ _ _ = _); exact h5))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      refine (View.read_writes_full _ _ _ _ _).trans ?_
      refine pay5_congr ?_ ?_ ?_ ?_ ?_ <;>
        first | exact View.readAt_rep_full _ _ _ | exact (View.readCov_cons_toLoadRect _ _ _ _).trans (congrArg _ (View.readAt_rep_full _ _ _)) | exact View.readCov_cons_toLoadRect _ _ _ _
  isplitl [HS0]
  · iapply owns_of_rep; iexact HS0
  · iapply owns_of_rep; iexact HS1

set_option maxHeartbeats 8000000 in
theorem keep_clear (h1 : ¬ c1 i T1) (h2 : k0_cond2 (wd tb2 i T2) (wd tb3 i T3) (wd tb0 i T0) = 1#1) (h3 : k0_cond3 (wd tb2 i T2) (wd tb3 i T3) = 1#1) (h4 : ¬ k0_cond4 (wd tb2 i T2) (wd tb3 i T3) (wd tb0 i T0) = 1#1) (h5 : k0_cond5 (wd tb2 i T2) (wd tb3 i T3) (wd tb0 i T0) = 1#1) :
    Runs c i arg5 harg5 arg6 harg6 arg7 harg7 arg8 harg8 arg9 harg9 arg10 harg10 arg11 harg11 arg12 harg12 T0 T1 T2 T3 x0 x1 x2 x3 x4 o s0 s1 (k0_pay4 (wd tb2 i T2) (wd tb3 i T3) (wd tb0 i T0) (k0_pay5 x0 s0 x2 s1 x4) k0_pay3) s0 s1 := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬ (Scalar.cmpi = _); exact h1) | (guard_target = k0_cond2 _ _ _ = _; exact h2) | (guard_target = k0_cond3 _ _ = _; exact h3) | (guard_target = ¬ (k0_cond4 _ _ _ = _); exact h4) | (guard_target = k0_cond5 _ _ _ = _; exact h5))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      refine (View.read_writes_full _ _ _ _ _).trans ?_
      refine congr (congrArg _ (pay5_congr ?_ ?_ ?_ ?_ ?_)) ?_ <;>
        first | exact View.readAt_rep_full _ _ _ | exact (View.readCov_cons_toLoadRect _ _ _ _).trans (congrArg _ (View.readAt_rep_full _ _ _)) | exact View.readCov_cons_toLoadRect _ _ _ _
  isplitl [HS0]
  · iapply owns_of_rep; iexact HS0
  · iapply owns_of_rep; iexact HS1

set_option maxHeartbeats 8000000 in
theorem keep_add (h1 : ¬ c1 i T1) (h2 : ¬ k0_cond2 (wd tb2 i T2) (wd tb3 i T3) (wd tb0 i T0) = 1#1) (h3 : k0_cond3 (wd tb2 i T2) (wd tb3 i T3) = 1#1) (h4 : ¬ k0_cond4 (wd tb2 i T2) (wd tb3 i T3) (wd tb0 i T0) = 1#1) (h5 : k0_cond5 (wd tb2 i T2) (wd tb3 i T3) (wd tb0 i T0) = 1#1) :
    Runs c i arg5 harg5 arg6 harg6 arg7 harg7 arg8 harg8 arg9 harg9 arg10 harg10 arg11 harg11 arg12 harg12 T0 T1 T2 T3 x0 x1 x2 x3 x4 o s0 s1 (k0_pay4 (wd tb2 i T2) (wd tb3 i T3) (wd tb0 i T0) (k0_pay5 x0 s0 x2 s1 x4) o) s0 s1 := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬ (Scalar.cmpi = _); exact h1) | (guard_target = ¬ (k0_cond2 _ _ _ = _); exact h2) | (guard_target = k0_cond3 _ _ = _; exact h3) | (guard_target = ¬ (k0_cond4 _ _ _ = _); exact h4) | (guard_target = k0_cond5 _ _ _ = _; exact h5))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      refine (View.read_writes_full _ _ _ _ _).trans ?_
      refine congr (congrArg _ (pay5_congr ?_ ?_ ?_ ?_ ?_)) ?_ <;>
        first | exact View.readAt_rep_full _ _ _ | exact (View.readCov_cons_toLoadRect _ _ _ _).trans (congrArg _ (View.readAt_rep_full _ _ _)) | exact View.readCov_cons_toLoadRect _ _ _ _
  isplitl [HS0]
  · iapply owns_of_rep; iexact HS0
  · iapply owns_of_rep; iexact HS1

set_option maxHeartbeats 8000000 in
theorem keep_zero (h1 : ¬ c1 i T1) (h2 : k0_cond2 (wd tb2 i T2) (wd tb3 i T3) (wd tb0 i T0) = 1#1) (h3 : ¬ k0_cond3 (wd tb2 i T2) (wd tb3 i T3) = 1#1) :
    Runs c i arg5 harg5 arg6 harg6 arg7 harg7 arg8 harg8 arg9 harg9 arg10 harg10 arg11 harg11 arg12 harg12 T0 T1 T2 T3 x0 x1 x2 x3 x4 o s0 s1 k0_pay3 s0 s1 := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬ (Scalar.cmpi = _); exact h1) | (guard_target = k0_cond2 _ _ _ = _; exact h2) | (guard_target = ¬ (k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · unfold owns; iexists _; isplitr; swap
    · iexact HO5
    · ipureintro
      exact View.read_writes_full _ _ _ _ _
  isplitl [HS0]
  · iapply owns_of_rep; iexact HS0
  · iapply owns_of_rep; iexact HS1

set_option maxHeartbeats 8000000 in
theorem keep_skip (h1 : ¬ c1 i T1) (h2 : ¬ k0_cond2 (wd tb2 i T2) (wd tb3 i T3) (wd tb0 i T0) = 1#1) (h3 : ¬ k0_cond3 (wd tb2 i T2) (wd tb3 i T3) = 1#1) :
    Runs c i arg5 harg5 arg6 harg6 arg7 harg7 arg8 harg8 arg9 harg9 arg10 harg10 arg11 harg11 arg12 harg12 T0 T1 T2 T3 x0 x1 x2 x3 x4 o s0 s1 o s0 s1 := by
  intro K
  rw [cc0_moe_ffn_eq_skeleton]; unfold cc0_moe_ffn_skel
  iintro ⟨H0, H1, H2, H3, H4, HT0, HT1, HT2, HT3, HO5, HS0, HS1, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬ (Scalar.cmpi = _); exact h1) | (guard_target = ¬ (k0_cond2 _ _ _ = _); exact h2) | (guard_target = ¬ (k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HO5]
  · iapply owns_of_rep; iexact HO5
  isplitl [HS0]
  · iapply owns_of_rep; iexact HS0
  · iapply owns_of_rep; iexact HS1

/-- The output block an item leaves: its own rows' products, all of them where the item is a whole tile, else added to
    what the block held, cleared first where the item starts a tile. -/
def stepO (lo hi tl : BitVec 32) (y o : S512x1024.Idx → Elt F .f32) : S512x1024.Idx → Elt F .f32 :=
  if k0_cond3 lo hi = 1#1 then
    if k0_cond4 lo hi tl = 1#1 then y
    else k0_pay4 lo hi tl y (if k0_cond2 lo hi tl = 1#1 then k0_pay3 else o)
  else if k0_cond2 lo hi tl = 1#1 then k0_pay3 else o

/-- An item that is a whole tile clears nothing and adds to nothing. -/
theorem cond4_excl (lo hi tl : BitVec 32) (h : k0_cond4 lo hi tl = 1#1) : ¬ k0_cond2 lo hi tl = 1#1 ∧ ¬ k0_cond5 lo hi tl = 1#1 := by
  unfold k0_cond4 at h
  unfold k0_cond2 k0_cond5
  simp only at h ⊢
  generalize Scalar.cmpi .eq lo (Scalar.muli tl 512#32) = a at h ⊢
  generalize Scalar.cmpi .eq hi (Scalar.addi (Scalar.muli tl 512#32) 512#32) = b at h ⊢
  revert h; revert a b; decide

/-- An item is a whole tile or is added to what the block holds. -/
theorem cond5_of_not (lo hi tl : BitVec 32) (h : ¬ k0_cond4 lo hi tl = 1#1) : k0_cond5 lo hi tl = 1#1 := by
  unfold k0_cond4 at h
  unfold k0_cond5
  simp only at h ⊢
  generalize Scalar.cmpi .eq lo (Scalar.muli tl 512#32) = a at h ⊢
  generalize Scalar.cmpi .eq hi (Scalar.addi (Scalar.muli tl 512#32) 512#32) = b at h ⊢
  revert h; revert a b; decide

/-- The body at any item. -/
theorem runs (w0 : S1024x2048.Idx → Elt F .bf16) (w1 : S1024x1024.Idx → Elt F .bf16)
    (e0 : w0 = if c1 i T1 then k0_pay1 x1 else s0) (e1 : w1 = if c1 i T1 then k0_pay2 x3 else s1) :
    Runs c i arg5 harg5 arg6 harg6 arg7 harg7 arg8 harg8 arg9 harg9 arg10 harg10 arg11 harg11 arg12 harg12 T0 T1 T2 T3 x0 x1 x2 x3 x4 o s0 s1 (stepO (wd tb2 i T2) (wd tb3 i T3) (wd tb0 i T0) (k0_pay5 x0 w0 x2 w1 x4) o) w0 w1 := by
  subst e0 e1
  unfold stepO
  by_cases h1 : c1 i T1
  · rw [if_pos h1, if_pos h1]
    by_cases h3 : k0_cond3 (wd tb2 i T2) (wd tb3 i T3) = 1#1
    · rw [if_pos h3]
      by_cases h4 : k0_cond4 (wd tb2 i T2) (wd tb3 i T3) (wd tb0 i T0) = 1#1
      · rw [if_pos h4]
        exact load_whole c i arg5 harg5 arg6 harg6 arg7 harg7 arg8 harg8 arg9 harg9 arg10 harg10 arg11 harg11 arg12 harg12 T0 T1 T2 T3 x0 x1 x2 x3 x4 o s0 s1 h1 (cond4_excl _ _ _ h4).1 h3 h4 (cond4_excl _ _ _ h4).2
      · rw [if_neg h4]
        by_cases h2 : k0_cond2 (wd tb2 i T2) (wd tb3 i T3) (wd tb0 i T0) = 1#1
        · rw [if_pos h2]; exact load_clear c i arg5 harg5 arg6 harg6 arg7 harg7 arg8 harg8 arg9 harg9 arg10 harg10 arg11 harg11 arg12 harg12 T0 T1 T2 T3 x0 x1 x2 x3 x4 o s0 s1 h1 h2 h3 h4 (cond5_of_not _ _ _ h4)
        · rw [if_neg h2]; exact load_add c i arg5 harg5 arg6 harg6 arg7 harg7 arg8 harg8 arg9 harg9 arg10 harg10 arg11 harg11 arg12 harg12 T0 T1 T2 T3 x0 x1 x2 x3 x4 o s0 s1 h1 h2 h3 h4 (cond5_of_not _ _ _ h4)
    · rw [if_neg h3]
      by_cases h2 : k0_cond2 (wd tb2 i T2) (wd tb3 i T3) (wd tb0 i T0) = 1#1
      · rw [if_pos h2]; exact load_zero c i arg5 harg5 arg6 harg6 arg7 harg7 arg8 harg8 arg9 harg9 arg10 harg10 arg11 harg11 arg12 harg12 T0 T1 T2 T3 x0 x1 x2 x3 x4 o s0 s1 h1 h2 h3
      · rw [if_neg h2]; exact load_skip c i arg5 harg5 arg6 harg6 arg7 harg7 arg8 harg8 arg9 harg9 arg10 harg10 arg11 harg11 arg12 harg12 T0 T1 T2 T3 x0 x1 x2 x3 x4 o s0 s1 h1 h2 h3
  · rw [if_neg h1, if_neg h1]
    by_cases h3 : k0_cond3 (wd tb2 i T2) (wd tb3 i T3) = 1#1
    · rw [if_pos h3]
      by_cases h4 : k0_cond4 (wd tb2 i T2) (wd tb3 i T3) (wd tb0 i T0) = 1#1
      · rw [if_pos h4]
        exact keep_whole c i arg5 harg5 arg6 harg6 arg7 harg7 arg8 harg8 arg9 harg9 arg10 harg10 arg11 harg11 arg12 harg12 T0 T1 T2 T3 x0 x1 x2 x3 x4 o s0 s1 h1 (cond4_excl _ _ _ h4).1 h3 h4 (cond4_excl _ _ _ h4).2
      · rw [if_neg h4]
        by_cases h2 : k0_cond2 (wd tb2 i T2) (wd tb3 i T3) (wd tb0 i T0) = 1#1
        · rw [if_pos h2]; exact keep_clear c i arg5 harg5 arg6 harg6 arg7 harg7 arg8 harg8 arg9 harg9 arg10 harg10 arg11 harg11 arg12 harg12 T0 T1 T2 T3 x0 x1 x2 x3 x4 o s0 s1 h1 h2 h3 h4 (cond5_of_not _ _ _ h4)
        · rw [if_neg h2]; exact keep_add c i arg5 harg5 arg6 harg6 arg7 harg7 arg8 harg8 arg9 harg9 arg10 harg10 arg11 harg11 arg12 harg12 T0 T1 T2 T3 x0 x1 x2 x3 x4 o s0 s1 h1 h2 h3 h4 (cond5_of_not _ _ _ h4)
    · rw [if_neg h3]
      by_cases h2 : k0_cond2 (wd tb2 i T2) (wd tb3 i T3) (wd tb0 i T0) = 1#1
      · rw [if_pos h2]; exact keep_zero c i arg5 harg5 arg6 harg6 arg7 harg7 arg8 harg8 arg9 harg9 arg10 harg10 arg11 harg11 arg12 harg12 T0 T1 T2 T3 x0 x1 x2 x3 x4 o s0 s1 h1 h2 h3
      · rw [if_neg h2]; exact keep_skip c i arg5 harg5 arg6 harg6 arg7 harg7 arg8 harg8 arg9 harg9 arg10 harg10 arg11 harg11 arg12 harg12 T0 T1 T2 T3 x0 x1 x2 x3 x4 o s0 s1 h1 h2 h3

end Cert.Kernel3Ideal.Moe

end
-- ==== Proof.MoeIWord.lean ====
module

public import proofs.«01_k».proof.Proof.MoeTab
public import proofs.«01_k».proof.Proof.MoeIRun

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Moe (ix Good)

variable {F : FTy → Type} [FloatOps F]

theorem off1_val : ∀ n : Fin 287, (Scalar.indexCast (BitVec.ofNat 32 n.val)).toNat = n.val := by decide +kernel

theorem off2_val : ∀ n : Fin 287, (Scalar.indexCast (Scalar.maxsi (Scalar.subi (BitVec.ofNat 32 n.val) 1#32) 0#32)).toNat = n.val - 1 := by decide +kernel

/-- The item a grid point runs. -/
abbrev it (i : grid0.Coords) : Fin 287 := i 0

/-- The item before it. -/
abbrev pit (i : grid0.Coords) : Fin 287 := ⟨(i 0).val - 1, lt_of_le_of_lt (Nat.sub_le _ _) (i 0).isLt⟩

variable (i : grid0.Coords) (T T0 T1 T2 T3 : S287.Idx → Elt F .i32)

theorem idx1 (h) : (Rect.unit (s := S287) (k0_off1 i) S1.size h).toLoadRect.idx (Shape.Idx.first (numel1_S1.symm ▸ Nat.one_pos)) = ix (it i) := by
  funext a
  rw [Subsingleton.elim a 0]
  apply Fin.ext
  have := off1_val (it i)
  simp [k0_off1, ix, this]
  exact Nat.lt_one_iff.1 (Fin.isLt _)

theorem idx2 (h) : (Rect.unit (s := S287) (k0_off2 i) S1.size h).toLoadRect.idx (Shape.Idx.first (numel1_S1.symm ▸ Nat.one_pos)) = ix (pit i) := by
  funext a
  rw [Subsingleton.elim a 0]
  apply Fin.ext
  have := off2_val (it i)
  simp [k0_off2, ix, this]
  exact Nat.lt_one_iff.1 (Fin.isLt _)

theorem wd0 : wd tb0 i T = T (ix (it i)) := congrArg T (idx1 i _)
theorem wd1 : wd tb1 i T = T (ix (it i)) := congrArg T (idx1 i _)
theorem wd2 : wd tb2 i T = T (ix (it i)) := congrArg T (idx1 i _)
theorem wd3 : wd tb3 i T = T (ix (it i)) := congrArg T (idx1 i _)
theorem wp1 : wp' tb1 i T = T (ix (pit i)) := congrArg T (idx2 i _)

set_option backward.proofsInPublic true in
/-- The tables as the pipeline is handed them. -/
def pf : pre0.Contents (Elt F) := fun | ⟨0, _⟩ => T0 | ⟨1, _⟩ => T1 | ⟨2, _⟩ => T2 | ⟨3, _⟩ => T3 | ⟨_ + 4, h⟩ => absurd h (by simp)

theorem tr0 : cc0_transform_0 k0_off1_inb numel1_S1 (pf T0 T1 T2 T3) i = ![(T0 (ix (it i))).toNat, 0] := by
  have e : cc0_transform_0 k0_off1_inb numel1_S1 (pf T0 T1 T2 T3) i = ![(wd tb0 i T0).toNat, 0] := rfl
  rw [e, wd0]
theorem tr5 : cc0_transform_5 k0_off1_inb numel1_S1 (pf T0 T1 T2 T3) i = ![(T0 (ix (it i))).toNat, 0] := by
  have e : cc0_transform_5 k0_off1_inb numel1_S1 (pf T0 T1 T2 T3) i = ![(wd tb0 i T0).toNat, 0] := rfl
  rw [e, wd0]
theorem tr1 : cc0_transform_1 k0_off1_inb numel1_S1 (pf T0 T1 T2 T3) i = ![1, (T1 (ix (it i))).toNat, 0, 0] := by
  have e : cc0_transform_1 k0_off1_inb numel1_S1 (pf T0 T1 T2 T3) i = ![1, (wd tb1 i T1).toNat, 0, 0] := rfl
  rw [e, wd1]
theorem tr2 : cc0_transform_2 k0_off1_inb numel1_S1 (pf T0 T1 T2 T3) i = ![1, (T1 (ix (it i))).toNat, 0, 0] := by
  have e : cc0_transform_2 k0_off1_inb numel1_S1 (pf T0 T1 T2 T3) i = ![1, (wd tb1 i T1).toNat, 0, 0] := rfl
  rw [e, wd1]
theorem tr3 : cc0_transform_3 k0_off1_inb numel1_S1 (pf T0 T1 T2 T3) i = ![1, (T1 (ix (it i))).toNat, 0, 0] := by
  have e : cc0_transform_3 k0_off1_inb numel1_S1 (pf T0 T1 T2 T3) i = ![1, (wd tb1 i T1).toNat, 0, 0] := rfl
  rw [e, wd1]
theorem tr4 : cc0_transform_4 k0_off1_inb numel1_S1 (pf T0 T1 T2 T3) i = ![1, (T1 (ix (it i))).toNat, 0, 0] := by
  have e : cc0_transform_4 k0_off1_inb numel1_S1 (pf T0 T1 T2 T3) i = ![1, (wd tb1 i T1).toNat, 0, 0] := rfl
  rw [e, wd1]

/-- The pipeline's side condition of the tables. -/
theorem ok (g : Good T0 T1 T2 T3) : ok0 (F := F) (pf T0 T1 T2 T3) := by
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩ <;>
    intro a <;> first | rw [tr0] | rw [tr1] | rw [tr2] | rw [tr3] | rw [tr4] | rw [tr5]
  all_goals
    have h0 := g.tile (it i)
    have h1 := g.exp (it i)
    fin_cases a <;> simp [S512x512, S131072x512, S1x1x1024x2048, S2x32x1024x2048, S1x1x1x2048, S2x32x1x2048, S1x1x1024x1024, S2x32x1024x1024, S1x1x1x1024, S2x32x1x1024, S512x1024, S131072x1024] <;> omega

theorem cond2_iff (lo hi tl : BitVec 32) : k0_cond2 lo hi tl = 1#1 ↔ lo = tl * 512#32 ∧ ¬ hi = tl * 512#32 + 512#32 := by
  have e : ∀ a b : BitVec 1, (Scalar.cmpi .ne (Scalar.extui (Scalar.andi a (Scalar.xori (Scalar.andi a b) 1#1))) 0#32 = 1#1) ↔ (a = 1#1 ∧ ¬ b = 1#1) := by decide
  refine (e _ _).trans ?_
  simp [Scalar.cmpi, IntOp.cmpi, Cert.Moe.ofBool_one, Scalar.muli, Scalar.addi, IntOp.muli, IntOp.addi]

theorem cond4_iff (lo hi tl : BitVec 32) : k0_cond4 lo hi tl = 1#1 ↔ lo = tl * 512#32 ∧ hi = tl * 512#32 + 512#32 := by
  have e : ∀ a b : BitVec 1, (Scalar.cmpi .ne (Scalar.extui (Scalar.andi a b)) 0#32 = 1#1) ↔ (a = 1#1 ∧ b = 1#1) := by decide
  refine (e _ _).trans ?_
  simp [Scalar.cmpi, IntOp.cmpi, Cert.Moe.ofBool_one, Scalar.muli, Scalar.addi, IntOp.muli, IntOp.addi]

theorem cond3_iff (lo hi : BitVec 32) : k0_cond3 lo hi = 1#1 ↔ lo.toInt < hi.toInt := by
  have e : ∀ a : BitVec 1, (Scalar.cmpi .ne (Scalar.extui a) 0#32 = 1#1) ↔ a = 1#1 := by decide
  refine (e _).trans ?_
  simp [Scalar.cmpi, IntOp.cmpi, Cert.Moe.ofBool_one, BitVec.slt]

theorem not_c1 (h : ¬ c1 i T1) : (i 0).val ≠ 0 ∧ T1 (ix (it i)) = T1 (ix (pit i)) := by
  have e : ∀ a b : BitVec 1, (¬ Scalar.cmpi .ne (Scalar.extui (Scalar.ori a b)) 0#32 = 1#1) ↔ (¬ a = 1#1 ∧ ¬ b = 1#1) := by decide
  have h := (e _ _).1 h
  rw [wd1, wp1] at h
  refine ⟨fun h0 => h.1 ?_, ?_⟩
  · rw [h0]; decide
  · have := h.2
    simpa [Scalar.cmpi, IntOp.cmpi, Cert.Moe.ofBool_one] using this

end Cert.Kernel3Ideal.Moe

end
-- ==== Proof.MoeIDat.lean ====
module

public import proofs.«01_k».proof.Proof.MoeIWord

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Moe (ix Good)

variable {F : FTy → Type} [FloatOps F]

local notation "𝕄" => MT nD τ sig Unit (Elt F) ℕ (UR sig nD τ) ℕ

/-- The resource algebra of the staging cells. -/
abbrev EP : Emb (UR sig nD τ) 𝕄 := emb₁

variable (T0 T1 T2 T3 : S287.Idx → Elt F .i32) (g : Good T0 T1 T2 T3)

/-- The tables, admitted; the pipeline at them. -/
def adm : (pcfg0 (F := F)).Adm := ⟨pf T0 T1 T2 T3, ok T0 T1 T2 T3 g⟩
abbrev cfgA : Pipeline.Cfg sig Λ₀ := cfg0 (F := F) (adm T0 T1 T2 T3 g)
abbrev pcs : Fin 1 → Pipeline.Cfg sig Λ₀ := Pipeline.pin (pcfgs (F := F)) fun _ => adm T0 T1 T2 T3 g

variable (m : (ℓ : Loc nD τ sig) → Buf (Elt F) ℓ) (ρ : Dev nD → PrngReg)

/-- A point's coordinates. -/
abbrev crd (t : Fin (cfgA T0 T1 T2 T3 g).N) : (cfgA T0 T1 T2 T3 g).grid.Coords := (cfgA T0 T1 T2 T3 g).grid.coords t

abbrev ms0 (t : Fin (cfgA T0 T1 T2 T3 g).N) : Memref sig .tc .vmem S512x512 .i32 := spec0_0.stage ((cfgA T0 T1 T2 T3 g).slots t (0 : Fin 6))
abbrev hs0 (t : Fin (cfgA T0 T1 T2 T3 g).N) : (ms0 T0 T1 T2 T3 g t).IsWhole := hstage0_0 (((cfgA T0 T1 T2 T3 g).slots t (0 : Fin 6)).cast nbuf0_0)
abbrev ms1 (t : Fin (cfgA T0 T1 T2 T3 g).N) : Memref sig .tc .vmem S1x1x1024x2048 .f32 := spec0_1.stage ((cfgA T0 T1 T2 T3 g).slots t (1 : Fin 6))
abbrev hs1 (t : Fin (cfgA T0 T1 T2 T3 g).N) : (ms1 T0 T1 T2 T3 g t).IsWhole := hstage0_1 (((cfgA T0 T1 T2 T3 g).slots t (1 : Fin 6)).cast nbuf0_1)
abbrev ms2 (t : Fin (cfgA T0 T1 T2 T3 g).N) : Memref sig .tc .vmem S1x1x1x2048 .f32 := spec0_2.stage ((cfgA T0 T1 T2 T3 g).slots t (2 : Fin 6))
abbrev hs2 (t : Fin (cfgA T0 T1 T2 T3 g).N) : (ms2 T0 T1 T2 T3 g t).IsWhole := hstage0_2 (((cfgA T0 T1 T2 T3 g).slots t (2 : Fin 6)).cast nbuf0_2)
abbrev ms3 (t : Fin (cfgA T0 T1 T2 T3 g).N) : Memref sig .tc .vmem S1x1x1024x1024 .f32 := spec0_3.stage ((cfgA T0 T1 T2 T3 g).slots t (3 : Fin 6))
abbrev hs3 (t : Fin (cfgA T0 T1 T2 T3 g).N) : (ms3 T0 T1 T2 T3 g t).IsWhole := hstage0_3 (((cfgA T0 T1 T2 T3 g).slots t (3 : Fin 6)).cast nbuf0_3)
abbrev ms4 (t : Fin (cfgA T0 T1 T2 T3 g).N) : Memref sig .tc .vmem S1x1x1x1024 .f32 := spec0_4.stage ((cfgA T0 T1 T2 T3 g).slots t (4 : Fin 6))
abbrev hs4 (t : Fin (cfgA T0 T1 T2 T3 g).N) : (ms4 T0 T1 T2 T3 g t).IsWhole := hstage0_4 (((cfgA T0 T1 T2 T3 g).slots t (4 : Fin 6)).cast nbuf0_4)
abbrev ms5 (t : Fin (cfgA T0 T1 T2 T3 g).N) : Memref sig .tc .vmem S512x1024 .f32 := spec0_5.stage ((cfgA T0 T1 T2 T3 g).slots t (5 : Fin 6))
abbrev hs5 (t : Fin (cfgA T0 T1 T2 T3 g).N) : (ms5 T0 T1 T2 T3 g t).IsWhole := hstage0_5 (((cfgA T0 T1 T2 T3 g).slots t (5 : Fin 6)).cast nbuf0_5)

/-- Window `w`'s block at point `t`, of its array at launch. -/
def iblk (c : Dev nD) (w : Fin (cfgA T0 T1 T2 T3 g).W) (t : Fin (cfgA T0 T1 T2 T3 g).N) : (((cfgA T0 T1 T2 T3 g).win w).xblock (crd T0 T1 T2 T3 g t)).Idx → Elt F ((cfgA T0 T1 T2 T3 g).win w).elt :=
  (((cfgA T0 T1 T2 T3 g).win w).blk t).view.read (Elt F) ((s₀ m ρ).mem (((cfgA T0 T1 T2 T3 g).win w).arr.view.loc (c : Thread nD τ)))

/-- The weights of the item's expert, as the scratch holds them. -/
def w0 (c : Dev nD) (t : Fin (cfgA T0 T1 T2 T3 g).N) : S1024x2048.Idx → Elt F .bf16 := k0_pay1 (iblk T0 T1 T2 T3 g m ρ c (1 : Fin 6) t)
def w1 (c : Dev nD) (t : Fin (cfgA T0 T1 T2 T3 g).N) : S1024x1024.Idx → Elt F .bf16 := k0_pay2 (iblk T0 T1 T2 T3 g m ρ c (3 : Fin 6) t)

/-- The item's products. -/
def yv (c : Dev nD) (t : Fin (cfgA T0 T1 T2 T3 g).N) : S512x1024.Idx → Elt F .f32 :=
  k0_pay5 (iblk T0 T1 T2 T3 g m ρ c (0 : Fin 6) t) (w0 T0 T1 T2 T3 g m ρ c t) (iblk T0 T1 T2 T3 g m ρ c (2 : Fin 6) t) (w1 T0 T1 T2 T3 g m ρ c t) (iblk T0 T1 T2 T3 g m ρ c (4 : Fin 6) t)

/-- The output block after the item, from the one before it. -/
def step (c : Dev nD) (t : Fin (cfgA T0 T1 T2 T3 g).N) (o : S512x1024.Idx → Elt F .f32) : S512x1024.Idx → Elt F .f32 :=
  stepO (T2 (ix (it (crd T0 T1 T2 T3 g t)))) (T3 (ix (it (crd T0 T1 T2 T3 g t)))) (T0 (ix (it (crd T0 T1 T2 T3 g t)))) (yv T0 T1 T2 T3 g m ρ c t) o

/-- The output block after item `n`. -/
def traj (c : Dev nD) : (n : ℕ) → n < (cfgA T0 T1 T2 T3 g).N → S512x1024.Idx → Elt F .f32
  | 0, h => step T0 T1 T2 T3 g m ρ c ⟨0, h⟩ k0_pay3
  | n + 1, h => step T0 T1 T2 T3 g m ρ c ⟨n + 1, h⟩ (traj c n (Nat.lt_of_succ_lt h))

/-- The output block before the item. -/
def prev (c : Dev nD) (t : Fin (cfgA T0 T1 T2 T3 g).N) : S512x1024.Idx → Elt F .f32 :=
  if h : t.val = 0 then k0_pay3 else traj T0 T1 T2 T3 g m ρ c (t.val - 1) (by omega)

theorem traj_eq (c : Dev nD) (t : Fin (cfgA T0 T1 T2 T3 g).N) : traj T0 T1 T2 T3 g m ρ c t.val t.isLt = step T0 T1 T2 T3 g m ρ c t (prev T0 T1 T2 T3 g m ρ c t) := by
  obtain ⟨n, hn⟩ := t
  cases n with
  | zero => rfl
  | succ n => unfold prev; simp only [Nat.add_one_ne_zero, dif_neg, not_false_eq_true]; rfl

/-- Before item `t` the scratches hold the weights of the item before (anything before the first). -/
def Phi (c : Dev nD) (t : Fin ((cfgA T0 T1 T2 T3 g).N + 1)) : sProp 𝕄 :=
  iprop((∃ s, ⌜∀ u : Fin (cfgA T0 T1 T2 T3 g).N, u.val + 1 = t.val → s = w0 T0 T1 T2 T3 g m ρ c u⌝ ∗ owns (c : Thread nD τ) (Memref.whole cc0_scratch0) fullShare s)
    ∗ (∃ s, ⌜∀ u : Fin (cfgA T0 T1 T2 T3 g).N, u.val + 1 = t.val → s = w1 T0 T1 T2 T3 g m ρ c u⌝ ∗ owns (c : Thread nD τ) (Memref.whole cc0_scratch1) fullShare s)
    ∗ (tb0.view.loc (c : Thread nD τ) ↦{fullShare.right} T0) ∗ (tb1.view.loc (c : Thread nD τ) ↦{fullShare.right} T1)
    ∗ (tb2.view.loc (c : Thread nD τ) ↦{fullShare.right} T2) ∗ (tb3.view.loc (c : Thread nD τ) ↦{fullShare.right} T3))

/-- The proof data of the pipeline. -/
def dats (_ : Fin 1) (c : Dev nD) : Dat τ (Elt F) Unit ℕ (UR sig nD τ) ℕ (cfgA T0 T1 T2 T3 g) c where
  A w := (s₀ m ρ).mem (((cfgA T0 T1 T2 T3 g).win w).arr.view.loc (c : Thread nD τ))
  after w t := match w with
    | ⟨0, _⟩ => iblk T0 T1 T2 T3 g m ρ c (0 : Fin 6) t
    | ⟨1, _⟩ => iblk T0 T1 T2 T3 g m ρ c (1 : Fin 6) t
    | ⟨2, _⟩ => iblk T0 T1 T2 T3 g m ρ c (2 : Fin 6) t
    | ⟨3, _⟩ => iblk T0 T1 T2 T3 g m ρ c (3 : Fin 6) t
    | ⟨4, _⟩ => iblk T0 T1 T2 T3 g m ρ c (4 : Fin 6) t
    | ⟨5, _⟩ => traj T0 T1 T2 T3 g m ρ c t.val t.isLt
  Φ t := Phi T0 T1 T2 T3 g m ρ c t
  q _ := fullShare
  owed _ := 0

theorem after0 (c : Dev nD) (t : Fin (cfgA T0 T1 T2 T3 g).N) : (dats T0 T1 T2 T3 g m ρ 0 c).after (0 : Fin 6) t = iblk T0 T1 T2 T3 g m ρ c (0 : Fin 6) t := rfl
theorem after1 (c : Dev nD) (t : Fin (cfgA T0 T1 T2 T3 g).N) : (dats T0 T1 T2 T3 g m ρ 0 c).after (1 : Fin 6) t = iblk T0 T1 T2 T3 g m ρ c (1 : Fin 6) t := rfl
theorem after2 (c : Dev nD) (t : Fin (cfgA T0 T1 T2 T3 g).N) : (dats T0 T1 T2 T3 g m ρ 0 c).after (2 : Fin 6) t = iblk T0 T1 T2 T3 g m ρ c (2 : Fin 6) t := rfl
theorem after3 (c : Dev nD) (t : Fin (cfgA T0 T1 T2 T3 g).N) : (dats T0 T1 T2 T3 g m ρ 0 c).after (3 : Fin 6) t = iblk T0 T1 T2 T3 g m ρ c (3 : Fin 6) t := rfl
theorem after4 (c : Dev nD) (t : Fin (cfgA T0 T1 T2 T3 g).N) : (dats T0 T1 T2 T3 g m ρ 0 c).after (4 : Fin 6) t = iblk T0 T1 T2 T3 g m ρ c (4 : Fin 6) t := rfl
theorem after5 (c : Dev nD) (t : Fin (cfgA T0 T1 T2 T3 g).N) : (dats T0 T1 T2 T3 g m ρ 0 c).after (5 : Fin 6) t = traj T0 T1 T2 T3 g m ρ c t.val t.isLt := rfl

theorem before0 (c : Dev nD) (t : Fin (cfgA T0 T1 T2 T3 g).N) (d) : (dats T0 T1 T2 T3 g m ρ 0 c).before (0 : Fin 6) t d = iblk T0 T1 T2 T3 g m ρ c (0 : Fin 6) t :=
  ((dats T0 T1 T2 T3 g m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA T0 T1 T2 T3 g).N) (d) : (dats T0 T1 T2 T3 g m ρ 0 c).before (1 : Fin 6) t d = iblk T0 T1 T2 T3 g m ρ c (1 : Fin 6) t :=
  ((dats T0 T1 T2 T3 g m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA T0 T1 T2 T3 g).N) (d) : (dats T0 T1 T2 T3 g m ρ 0 c).before (2 : Fin 6) t d = iblk T0 T1 T2 T3 g m ρ c (2 : Fin 6) t :=
  ((dats T0 T1 T2 T3 g m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA T0 T1 T2 T3 g).N) (d) : (dats T0 T1 T2 T3 g m ρ 0 c).before (3 : Fin 6) t d = iblk T0 T1 T2 T3 g m ρ c (3 : Fin 6) t :=
  ((dats T0 T1 T2 T3 g m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA T0 T1 T2 T3 g).N) (d) : (dats T0 T1 T2 T3 g m ρ 0 c).before (4 : Fin 6) t d = iblk T0 T1 T2 T3 g m ρ c (4 : Fin 6) t :=
  ((dats T0 T1 T2 T3 g m ρ 0 c).before_in_eq_fetched (4 : Fin 6) rfl (fun _ => rfl) (fun _ _ _ => rfl) (fun t => by rw [after4]; unfold Dat.blockOf iblk; rfl) t d).trans
    (by unfold Dat.fetched Dat.blockOf iblk; rfl)

theorem N_eq : (cfgA T0 T1 T2 T3 g).N = 287 := N_0

theorem crd_val (t : Fin (cfgA T0 T1 T2 T3 g).N) : (it (crd T0 T1 T2 T3 g t)).val = t.val := by
  have h : ((Pipeline.Grid.coords grid0 t) 0).val = t.val / 1 % 287 := Pipeline.Grid.coords_val (G := grid0) t 0 rfl rfl
  have := t.isLt
  have hN : (cfgA T0 T1 T2 T3 g).N = 287 := N_0
  show ((Pipeline.Grid.coords grid0 t) 0).val = _
  rw [h]; omega

/-- The point as an item. -/
abbrev itm (t : Fin (cfgA T0 T1 T2 T3 g).N) : Fin 287 := it (crd T0 T1 T2 T3 g t)

theorem index1 (t t' : Fin (cfgA T0 T1 T2 T3 g).N) (h : T1 (ix (itm T0 T1 T2 T3 g t)) = T1 (ix (itm T0 T1 T2 T3 g t'))) :
    ((cfgA T0 T1 T2 T3 g).win (1 : Fin 6)).index t = ((cfgA T0 T1 T2 T3 g).win (1 : Fin 6)).index t' := by
  show cc0_transform_1 k0_off1_inb numel1_S1 (pf T0 T1 T2 T3) _ = cc0_transform_1 k0_off1_inb numel1_S1 (pf T0 T1 T2 T3) _
  rw [tr1, tr1, h]
theorem index3 (t t' : Fin (cfgA T0 T1 T2 T3 g).N) (h : T1 (ix (itm T0 T1 T2 T3 g t)) = T1 (ix (itm T0 T1 T2 T3 g t'))) :
    ((cfgA T0 T1 T2 T3 g).win (3 : Fin 6)).index t = ((cfgA T0 T1 T2 T3 g).win (3 : Fin 6)).index t' := by
  show cc0_transform_3 k0_off1_inb numel1_S1 (pf T0 T1 T2 T3) _ = cc0_transform_3 k0_off1_inb numel1_S1 (pf T0 T1 T2 T3) _
  rw [tr3, tr3, h]

theorem w0_congr (c : Dev nD) (t t' : Fin (cfgA T0 T1 T2 T3 g).N) (h : T1 (ix (itm T0 T1 T2 T3 g t)) = T1 (ix (itm T0 T1 T2 T3 g t'))) :
    w0 T0 T1 T2 T3 g m ρ c t = w0 T0 T1 T2 T3 g m ρ c t' :=
  congrArg k0_pay1 ((dats T0 T1 T2 T3 g m ρ 0 c).fetched_congr (1 : Fin 6) (index1 T0 T1 T2 T3 g t t' h) rfl default)
theorem w1_congr (c : Dev nD) (t t' : Fin (cfgA T0 T1 T2 T3 g).N) (h : T1 (ix (itm T0 T1 T2 T3 g t)) = T1 (ix (itm T0 T1 T2 T3 g t'))) :
    w1 T0 T1 T2 T3 g m ρ c t = w1 T0 T1 T2 T3 g m ρ c t' :=
  congrArg k0_pay2 ((dats T0 T1 T2 T3 g m ρ 0 c).fetched_congr (3 : Fin 6) (index3 T0 T1 T2 T3 g t t' h) rfl default)

theorem index5 (t : Fin (cfgA T0 T1 T2 T3 g).N) : ((cfgA T0 T1 T2 T3 g).win (5 : Fin 6)).index t = ![(T0 (ix (itm T0 T1 T2 T3 g t))).toNat, 0] :=
  tr5 _ T0 T1 T2 T3

theorem atD_at (k : Fin 4) (i : grid0.Coords) (T : S287.Idx → Elt F .i32) (h : ∀ a, k0_off1 i a + 1 ≤ S287.size a) :
    T (fun a => ⟨k0_off1 i a, h a⟩) = T (ix (it i)) := by
  congr 1; funext a; rw [Subsingleton.elim a 0]; apply Fin.ext
  exact off1_val (it i)

/-- The output is left alone exactly where nothing is stored. -/
theorem idle_iff (i : (cfgA T0 T1 T2 T3 g).grid.Coords) : (cfgA T0 T1 T2 T3 g).idle (5 : Fin 6) i = true ↔
    ¬ k0_cond2 (T2 (ix (it i))) (T3 (ix (it i))) (T0 (ix (it i))) = 1#1 ∧ ¬ k0_cond3 (T2 (ix (it i))) (T3 (ix (it i))) = 1#1 := by
  have hb : ∀ a, k0_off1 i a + 1 ≤ S287.size a := fun a => by rw [Subsingleton.elim a 0]; exact k0_off1_inb i 0
  have e0 : (pf T0 T1 T2 T3).atD 0 (k0_off1 i) = T0 (ix (it i)) := (dif_pos hb).trans (atD_at 0 i T0 hb)
  have e2 : (pf T0 T1 T2 T3).atD 2 (k0_off1 i) = T2 (ix (it i)) := (dif_pos hb).trans (atD_at 2 i T2 hb)
  have e3 : (pf T0 T1 T2 T3).atD 3 (k0_off1 i) = T3 (ix (it i)) := (dif_pos hb).trans (atD_at 3 i T3 hb)
  have e : (cfgA T0 T1 T2 T3 g).idle (5 : Fin 6) i = idle0 (pf T0 T1 T2 T3) 5 i := rfl
  rw [e]
  show (_ && _ && _) = true ↔ _
  rw [e0, e2, e3]
  have h45 := cond5_of_not (T2 (ix (it i))) (T3 (ix (it i))) (T0 (ix (it i)))
  generalize k0_cond2 (T2 (ix (it i))) (T3 (ix (it i))) (T0 (ix (it i))) = c2 at h45 ⊢
  generalize k0_cond3 (T2 (ix (it i))) (T3 (ix (it i))) = c3 at h45 ⊢
  generalize k0_cond4 (T2 (ix (it i))) (T3 (ix (it i))) (T0 (ix (it i))) = c4 at h45 ⊢
  generalize k0_cond5 (T2 (ix (it i))) (T3 (ix (it i))) (T0 (ix (it i))) = c5 at h45 ⊢
  revert c2 c3 c4 c5; decide

theorem flush_iff (t : Fin (cfgA T0 T1 T2 T3 g).N) : ((cfgA T0 T1 T2 T3 g).win (5 : Fin 6)).flush t = true ↔
    t.val + 1 = 287 ∨ ∃ h : t.val + 1 < (cfgA T0 T1 T2 T3 g).N, T0 (ix (itm T0 T1 T2 T3 g ⟨t.val + 1, h⟩)) ≠ T0 (ix (itm T0 T1 T2 T3 g t)) := by
  have e : ((cfgA T0 T1 T2 T3 g).win (5 : Fin 6)).flush t = (true && (decide (t.val + 1 = (cfgA T0 T1 T2 T3 g).N) || decide (∃ h : t.val + 1 < (cfgA T0 T1 T2 T3 g).N, ((cfgA T0 T1 T2 T3 g).win (5 : Fin 6)).index ⟨t.val + 1, h⟩ ≠ ((cfgA T0 T1 T2 T3 g).win (5 : Fin 6)).index t))) := rfl
  rw [e, Bool.true_and, Bool.or_eq_true, decide_eq_true_eq, decide_eq_true_eq]
  refine or_congr (Iff.of_eq (congrArg (t.val + 1 = ·) N_0)) (exists_congr fun h => not_congr ?_)
  rw [index5, index5]
  constructor
  · intro h; exact BitVec.eq_of_toNat_eq (congrFun h 0)
  · intro h; rw [h]

include T1 T2 T3 g in
theorem base_word (n : Fin 287) : (T0 (ix n) * 512#32).toNat = 512 * (T0 (ix n)).toNat := by
  have := g.tile n
  rw [BitVec.toNat_mul, BitVec.toNat_ofNat]; omega

include T1 T3 g in
/-- The first item of a tile starts where the tile does. -/
theorem start (n : Fin 287) (h : n.val = 0 ∨ ∃ p : Fin 287, p.val + 1 = n.val ∧ T0 (ix n) ≠ T0 (ix p)) : T2 (ix n) = T0 (ix n) * 512#32 := by
  apply BitVec.eq_of_toNat_eq
  rw [base_word T0 T1 T2 T3 g]
  rcases h with h | ⟨p, hp, hne⟩
  · have e : n = ⟨0, by omega⟩ := Fin.ext h
    have h1 := g.first
    have h2 := g.base n
    rw [← e] at h1
    omega
  · have e : n = ⟨p.val + 1, by omega⟩ := Fin.ext hp.symm
    have h1 := g.next p (by omega)
    rw [← e] at h1
    have h2 := g.top p
    have h3 := g.base p
    have h4 := g.le p
    have h5 := g.base n
    have h6 := g.tight n
    have h7 := g.tile p
    have h8 : (T0 (ix n)).toNat ≠ (T0 (ix p)).toNat := fun h => hne (BitVec.eq_of_toNat_eq h)
    omega

/-- A fresh output block is one whose tile begins. -/
theorem fresh_start (n : ℕ) (h : n < (cfgA T0 T1 T2 T3 g).N) (hf : (cfgA T0 T1 T2 T3 g).fresh (5 : Fin 6) n = true) :
    T2 (ix (itm T0 T1 T2 T3 g ⟨n, h⟩)) = T0 (ix (itm T0 T1 T2 T3 g ⟨n, h⟩)) * 512#32 := by
  induction n with
  | zero => exact start T0 T1 T2 T3 g _ (.inl (crd_val T0 T1 T2 T3 g ⟨0, h⟩))
  | succ n ih =>
    have hn : n < (cfgA T0 T1 T2 T3 g).N := Nat.lt_of_succ_lt h
    rw [Pipeline.Cfg.fresh_succ (cfgA T0 T1 T2 T3 g) (5 : Fin 6) n hn, Bool.or_eq_true, Bool.and_eq_true] at hf
    have hfl : ((cfgA T0 T1 T2 T3 g).win (5 : Fin 6)).flush ⟨n, hn⟩ = true := by
      rcases hf with hf | ⟨hi, hf⟩
      · exact hf
      · exfalso
        have hs := ih hn hf
        obtain ⟨h2, h3⟩ := (idle_iff T0 T1 T2 T3 g _).1 hi
        rw [cond2_iff] at h2
        rw [cond3_iff] at h3
        have h4 : T3 (ix (itm T0 T1 T2 T3 g ⟨n, hn⟩)) = T0 (ix (itm T0 T1 T2 T3 g ⟨n, hn⟩)) * 512#32 + 512#32 := by
          by_contra hc; exact h2 ⟨hs, hc⟩
        rw [h4, hs] at h3
        have hb := base_word T0 T1 T2 T3 g (itm T0 T1 T2 T3 g ⟨n, hn⟩)
        have ht := g.tile (itm T0 T1 T2 T3 g ⟨n, hn⟩)
        have hb2 : (T0 (ix (itm T0 T1 T2 T3 g ⟨n, hn⟩)) * 512#32 + 512#32).toNat = 512 * (T0 (ix (itm T0 T1 T2 T3 g ⟨n, hn⟩))).toNat + 512 := by
          rw [BitVec.toNat_add, hb, BitVec.toNat_ofNat]; omega
        rw [BitVec.toInt_eq_toNat_of_lt (by omega), BitVec.toInt_eq_toNat_of_lt (by omega)] at h3
        omega
    rcases (flush_iff T0 T1 T2 T3 g _).1 hfl with h' | ⟨h', hne⟩
    · exfalso
      have : (cfgA T0 T1 T2 T3 g).N = 287 := N_0
      simp only at h'
      omega
    · exact start T0 T1 T2 T3 g _ (.inr ⟨_, by rw [crd_val, crd_val], hne⟩)

/-- Where the tile begins, what the block held does not matter. -/
theorem step_fresh (c : Dev nD) (t : Fin (cfgA T0 T1 T2 T3 g).N) (hf : (cfgA T0 T1 T2 T3 g).fresh (5 : Fin 6) t.val = true) (o o' : S512x1024.Idx → Elt F .f32) :
    step T0 T1 T2 T3 g m ρ c t o = step T0 T1 T2 T3 g m ρ c t o' := by
  have hs := fresh_start T0 T1 T2 T3 g t.val t.isLt hf
  unfold step stepO
  by_cases h2 : k0_cond2 (T2 (ix (it (crd T0 T1 T2 T3 g t)))) (T3 (ix (it (crd T0 T1 T2 T3 g t)))) (T0 (ix (it (crd T0 T1 T2 T3 g t)))) = 1#1
  · rw [if_pos h2, if_pos h2]
  · have h4 : k0_cond4 (T2 (ix (it (crd T0 T1 T2 T3 g t)))) (T3 (ix (it (crd T0 T1 T2 T3 g t)))) (T0 (ix (it (crd T0 T1 T2 T3 g t)))) = 1#1 := by
      rw [cond4_iff]; rw [cond2_iff] at h2
      refine ⟨hs, ?_⟩
      by_contra hc; exact h2 ⟨hs, hc⟩
    have h3 : k0_cond3 (T2 (ix (it (crd T0 T1 T2 T3 g t)))) (T3 (ix (it (crd T0 T1 T2 T3 g t)))) = 1#1 := by
      rw [cond3_iff]; rw [cond4_iff] at h4
      have hb := base_word T0 T1 T2 T3 g (it (crd T0 T1 T2 T3 g t))
      have ht := g.tile (it (crd T0 T1 T2 T3 g t))
      have hb2 : (T0 (ix (it (crd T0 T1 T2 T3 g t))) * 512#32 + 512#32).toNat = 512 * (T0 (ix (it (crd T0 T1 T2 T3 g t)))).toNat + 512 := by
        rw [BitVec.toNat_add, hb, BitVec.toNat_ofNat]; omega
      rw [h4.1, h4.2, BitVec.toInt_eq_toNat_of_lt (by omega), BitVec.toInt_eq_toNat_of_lt (by omega)]
      omega
    rw [if_pos h3, if_pos h3, if_pos h4, if_pos h4]

theorem step_idle (c : Dev nD) (t : Fin (cfgA T0 T1 T2 T3 g).N) (hi : (cfgA T0 T1 T2 T3 g).idle (5 : Fin 6) (crd T0 T1 T2 T3 g t) = true) (o : S512x1024.Idx → Elt F .f32) :
    step T0 T1 T2 T3 g m ρ c t o = o := by
  obtain ⟨h2, h3⟩ := (idle_iff T0 T1 T2 T3 g _).1 hi
  unfold step stepO
  rw [if_neg h3, if_neg h2]

theorem hcarry (c : Dev nD) : ∀ (t : Fin (cfgA T0 T1 T2 T3 g).N) (ht : t.val ≠ 0), (cfgA T0 T1 T2 T3 g).idle (5 : Fin 6) ((cfgA T0 T1 T2 T3 g).grid.coords t) = true → (cfgA T0 T1 T2 T3 g).fresh (5 : Fin 6) t.val = false →
    (dats T0 T1 T2 T3 g m ρ 0 c).after (5 : Fin 6) t = (dats T0 T1 T2 T3 g m ρ 0 c).after (5 : Fin 6) ⟨t.val - 1, by omega⟩ := by
  intro t ht hi hf
  rw [after5, after5, traj_eq, step_idle T0 T1 T2 T3 g m ρ c t hi]
  unfold prev; rw [dif_neg ht]

theorem before5 (c : Dev nD) (t : Fin (cfgA T0 T1 T2 T3 g).N) (d) :
    (dats T0 T1 T2 T3 g m ρ 0 c).before (5 : Fin 6) t d = if (cfgA T0 T1 T2 T3 g).fresh (5 : Fin 6) t.val then d else prev T0 T1 T2 T3 g m ρ c t := by
  rw [(dats T0 T1 T2 T3 g m ρ 0 c).before_out_traj (5 : Fin 6) rfl (fun _ _ => rfl) (hcarry T0 T1 T2 T3 g m ρ c) t.val t rfl d]
  by_cases hf : (cfgA T0 T1 T2 T3 g).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after5]; unfold prev; rw [dif_neg h0]

/-- After the body the block is the trajectory's, whatever a fresh block held. -/
theorem step_before (c : Dev nD) (t : Fin (cfgA T0 T1 T2 T3 g).N) (d) :
    step T0 T1 T2 T3 g m ρ c t ((dats T0 T1 T2 T3 g m ρ 0 c).before (5 : Fin 6) t d) = traj T0 T1 T2 T3 g m ρ c t.val t.isLt := by
  rw [traj_eq, before5]
  by_cases hf : (cfgA T0 T1 T2 T3 g).fresh (5 : Fin 6) t.val = true
  · exact step_fresh T0 T1 T2 T3 g m ρ c t hf _ _
  · rw [if_neg hf]

end Cert.Kernel3Ideal.Moe

end
-- ==== Proof.MoeIBlock.lean ====
/- The kernel's stores at an index. -/
module

public import proofs.«01_k».proof.Proof.MoeSpec
public import proofs.«01_k».proof.Proof.MoeIDat

@[expose] public section

set_option maxRecDepth 16384

noncomputable section

namespace Cert.Kernel3Ideal.Moe

open Idealize.ShloMosaic Cert.Kernel3Ideal Cert.Kernel3Ideal.Gen Cert.Moe

theorem pay1_apply (w : Vec Ideal S1x1x1024x2048 .f32) (k : Fin 1024) (f : Fin 2048) : k0_pay1 w (ix2 k f) = w (ix4 0 0 k f) := by
  pointwise [k0_pay1]
theorem pay2_apply (w : Vec Ideal S1x1x1024x1024 .f32) (k f : Fin 1024) : k0_pay2 w (ix2 k f) = w (ix4 0 0 k f) := by
  pointwise [k0_pay2]
theorem pay3_apply (r : Fin 512) (d : Fin 1024) : k0_pay3 (F := Ideal) (ix2 r d) = 0 := by
  pointwise [k0_pay3]

/-- The item's products, at an index. -/
theorem pay5_apply (x : Vec Ideal S512x512 .i32) (a : Vec Ideal S1024x2048 .bf16) (b : Vec Ideal S1x1x1x2048 .f32) (v : Vec Ideal S1024x1024 .bf16)
    (d' : Vec Ideal S1x1x1x1024 .f32) (r : Fin 512) (d : Fin 1024) :
    k0_pay5 x a b v d' (ix2 r d) = ffn (lane fun k => x (ix2 r k)) (fun k f => a (ix2 k f)) (fun f => b (ix4 0 0 0 f)) (fun k f => v (ix2 k f)) (fun f => d' (ix4 0 0 0 f)) d := by
  have hp : ∀ f : Fin 2048, ((∑ k : Fin 512, Ideal.ofBits FTy.f32 (IntOp.shli ArithUnit.vector (x (ix2 r k)) 16#32) * a (ix2 ⟨k.val, by omega⟩ f))
      + (∑ k : Fin 512, Ideal.ofBits FTy.f32 (IntOp.andi (x (ix2 r k)) 4294901760#32) * a (ix2 ⟨512 + k.val, by omega⟩ f)) + b (ix4 0 0 0 f))
      = pre (lane fun k => x (ix2 r k)) (fun k f => a (ix2 k f)) (fun f => b (ix4 0 0 0 f)) f := fun f => by
    rw [pre, sum_lane]
    refine congrArg (· + _) (congrArg₂ (· + ·) (Finset.sum_congr rfl fun k _ => congrArg (· * _) ?_) (Finset.sum_congr rfl fun k _ => congrArg (· * _) ?_))
    · exact (congrArg (Ideal.ofBits .f32) (by unfold IntOp.shli; exact if_pos (by decide))).trans (low_half _)
    · exact high_half _
  pointwise [k0_pay5]
  simp only [hp]
  rfl

theorem pay4_apply (lo hi tl : BitVec 32) (y o : Vec Ideal S512x1024 .f32) (r : Fin 512) (d : Fin 1024) :
    k0_pay4 lo hi tl y o (ix2 r d) = o (ix2 r d) + if lo.toInt ≤ (tl * 512#32 + BitVec.ofNat 32 r.val).toInt ∧ (tl * 512#32 + BitVec.ofNat 32 r.val).toInt < hi.toInt then y (ix2 r d) else 0 := by
  pointwise [k0_pay4]
  congr 1
  have e : (tl * 512#32 + BitVec.ofNat 32 r.val) = IntOp.addi (Scalar.muli tl 512#32) (BitVec.ofNat 32 r.val) := rfl
  rw [← e]
  generalize tl * 512#32 + BitVec.ofNat 32 r.val = z
  simp only [IntOp.cmpi, Scalar.muli, IntOp.muli, IntOp.addi, Scalar.select, IntOp.andi, BitVec.sle, BitVec.slt]
  by_cases h1 : lo.toInt ≤ z.toInt <;> by_cases h2 : z.toInt < hi.toInt <;> simp [h1, h2]

end Cert.Kernel3Ideal.Moe

end
-- ==== Proof.MoeIKernel.lean ====
/- The kernel's result array at an index: each row through its item's expert. -/
module

public import proofs.«01_k».proof.Proof.MoeIBlock
public import proofs.«01_k».proof.Proof.MoeItems

@[expose] public section

set_option maxRecDepth 16384

noncomputable section

namespace Cert.Kernel3Ideal.Moe

open Idealize.ShloMosaic Idealize.ShloMosaic.TcCoe Cert.Kernel3Ideal Cert.Kernel3Ideal.Gen Cert.Moe

variable (T0 T1 T2 T3 : S287.Idx → Elt Ideal .i32) (g : Good T0 T1 T2 T3)
variable (m : (ℓ : Loc nD τ sig) → Buf (Elt Ideal) ℓ) (ρ : Dev nD → PrngReg) (c : Dev nD)

abbrev aX : IVec S131072x512 32 := m ((c : Thread nD τ).loc main_arg0)
abbrev aW : FVec Ideal S2x32x1024x2048 .f32 := m ((c : Thread nD τ).loc main_arg5)
abbrev aB : FVec Ideal S2x32x1x2048 .f32 := m ((c : Thread nD τ).loc main_v0)
abbrev aV : FVec Ideal S2x32x1024x1024 .f32 := m ((c : Thread nD τ).loc main_arg7)
abbrev aD : FVec Ideal S2x32x1x1024 .f32 := m ((c : Thread nD τ).loc main_v1)

/-- Row `r` through expert `e`. -/
def thru (e : Fin 32) (r : Fin 131072) (d : Fin 1024) : EReal :=
  ffn (lane fun j => aX m c (ix2 r j)) (fun k f => aW m c (ix4 1 e k f)) (fun f => aB m c (ix4 1 e 0 f)) (fun k f => aV m c (ix4 1 e k f)) (fun f => aD m c (ix4 1 e 0 f)) d

include T1 T2 T3 g in
theorem tl_lt (n : Fin 287) (r : Fin 512) : (T0 (ix n)).toNat * 512 + r.val < 131072 := by
  have := g.tile n
  omega

abbrev ex (n : Fin 287) : Fin 32 := ⟨(T1 (ix n)).toNat, g.exp n⟩

theorem index0 (t : Fin (cfgA T0 T1 T2 T3 g).N) : ((cfgA T0 T1 T2 T3 g).win (0 : Fin 6)).index t = ![(T0 (ix (itm T0 T1 T2 T3 g t))).toNat, 0] := tr0 _ T0 T1 T2 T3
theorem idx1' (t : Fin (cfgA T0 T1 T2 T3 g).N) : ((cfgA T0 T1 T2 T3 g).win (1 : Fin 6)).index t = ![1, (T1 (ix (itm T0 T1 T2 T3 g t))).toNat, 0, 0] := tr1 _ T0 T1 T2 T3
theorem idx2' (t : Fin (cfgA T0 T1 T2 T3 g).N) : ((cfgA T0 T1 T2 T3 g).win (2 : Fin 6)).index t = ![1, (T1 (ix (itm T0 T1 T2 T3 g t))).toNat, 0, 0] := tr2 _ T0 T1 T2 T3
theorem idx3' (t : Fin (cfgA T0 T1 T2 T3 g).N) : ((cfgA T0 T1 T2 T3 g).win (3 : Fin 6)).index t = ![1, (T1 (ix (itm T0 T1 T2 T3 g t))).toNat, 0, 0] := tr3 _ T0 T1 T2 T3
theorem idx4' (t : Fin (cfgA T0 T1 T2 T3 g).N) : ((cfgA T0 T1 T2 T3 g).win (4 : Fin 6)).index t = ![1, (T1 (ix (itm T0 T1 T2 T3 g t))).toNat, 0, 0] := tr4 _ T0 T1 T2 T3

theorem blk0 (t : Fin (cfgA T0 T1 T2 T3 g).N) (r x : Fin 512) :
    iblk T0 T1 T2 T3 g m ρ c (0 : Fin 6) t (ix2 r x) = aX m c (ix2 ⟨(T0 (ix (itm T0 T1 T2 T3 g t))).toNat * 512 + r.val, tl_lt T0 T1 T2 T3 g _ r⟩ x) := by
  blk_ext [iblk, index0 T0 T1 T2 T3 g t]

theorem blk1 (t : Fin (cfgA T0 T1 T2 T3 g).N) (k : Fin 1024) (f : Fin 2048) :
    iblk T0 T1 T2 T3 g m ρ c (1 : Fin 6) t (ix4 0 0 k f) = aW m c (ix4 1 (ex T0 T1 T2 T3 g (itm T0 T1 T2 T3 g t)) k f) := by
  blk_ext [iblk, idx1' T0 T1 T2 T3 g t]
theorem blk2 (t : Fin (cfgA T0 T1 T2 T3 g).N) (f : Fin 2048) :
    iblk T0 T1 T2 T3 g m ρ c (2 : Fin 6) t (ix4 0 0 0 f) = aB m c (ix4 1 (ex T0 T1 T2 T3 g (itm T0 T1 T2 T3 g t)) 0 f) := by
  blk_ext [iblk, idx2' T0 T1 T2 T3 g t]
theorem blk3 (t : Fin (cfgA T0 T1 T2 T3 g).N) (k f : Fin 1024) :
    iblk T0 T1 T2 T3 g m ρ c (3 : Fin 6) t (ix4 0 0 k f) = aV m c (ix4 1 (ex T0 T1 T2 T3 g (itm T0 T1 T2 T3 g t)) k f) := by
  blk_ext [iblk, idx3' T0 T1 T2 T3 g t]
theorem blk4 (t : Fin (cfgA T0 T1 T2 T3 g).N) (f : Fin 1024) :
    iblk T0 T1 T2 T3 g m ρ c (4 : Fin 6) t (ix4 0 0 0 f) = aD m c (ix4 1 (ex T0 T1 T2 T3 g (itm T0 T1 T2 T3 g t)) 0 f) := by
  blk_ext [iblk, idx4' T0 T1 T2 T3 g t]

/-- The item's products are its rows through its expert. -/
theorem yv_apply (t : Fin (cfgA T0 T1 T2 T3 g).N) (r : Fin 512) (d : Fin 1024) :
    yv T0 T1 T2 T3 g m ρ c t (ix2 r d) = thru m c (ex T0 T1 T2 T3 g (itm T0 T1 T2 T3 g t)) ⟨(T0 (ix (itm T0 T1 T2 T3 g t))).toNat * 512 + r.val, tl_lt T0 T1 T2 T3 g _ r⟩ d := by
  unfold yv
  rw [pay5_apply]
  unfold w0 w1 thru
  simp only [pay1_apply, pay2_apply, blk0, blk1, blk2, blk3, blk4]

include g in
theorem cond3_nat (n : Fin 287) : k0_cond3 (T2 (ix n)) (T3 (ix n)) = 1#1 ↔ (T2 (ix n)).toNat < (T3 (ix n)).toNat := by
  rw [cond3_iff, show (T2 (ix n)).toInt = ((T2 (ix n)).toNat : ℤ) from toInt_lo g n, show (T3 (ix n)).toInt = ((T3 (ix n)).toNat : ℤ) from toInt_hi g n]
  omega

include g in
theorem row_nat (n : Fin 287) (r : Fin 512) : (T0 (ix n) * 512#32 + BitVec.ofNat 32 r.val).toInt = ((512 * (T0 (ix n)).toNat + r.val : ℕ) : ℤ) := by
  have hb := base_word T0 T1 T2 T3 g n
  have ht := g.tile n
  have hr := r.isLt
  have e : (T0 (ix n) * 512#32 + BitVec.ofNat 32 r.val).toNat = 512 * (T0 (ix n)).toNat + r.val := by
    rw [BitVec.toNat_add, hb, BitVec.toNat_ofNat]; omega
  rw [BitVec.toInt_eq_toNat_of_lt (by rw [e]; omega), e]

include g in
theorem lo_base (n : Fin 287) : T2 (ix n) = T0 (ix n) * 512#32 ↔ (T2 (ix n)).toNat = 512 * (T0 (ix n)).toNat := by
  rw [← base_word T0 T1 T2 T3 g n]
  exact ⟨fun h => congrArg BitVec.toNat h, BitVec.eq_of_toNat_eq⟩

include g in
theorem hi_top (n : Fin 287) : T3 (ix n) = T0 (ix n) * 512#32 + 512#32 ↔ (T3 (ix n)).toNat = 512 * (T0 (ix n)).toNat + 512 := by
  have hb := base_word T0 T1 T2 T3 g n
  have ht := g.tile n
  have e : (T0 (ix n) * 512#32 + 512#32).toNat = 512 * (T0 (ix n)).toNat + 512 := by
    rw [BitVec.toNat_add, hb, BitVec.toNat_ofNat]; omega
  rw [← e]
  exact ⟨fun h => congrArg BitVec.toNat h, BitVec.eq_of_toNat_eq⟩

/-- What a block holds after item `n`: the rows before the item's end through their experts, zeros in the rest. -/
def Upto (n : Fin 287) (o : S512x1024.Idx → Elt Ideal .f32) : Prop :=
  ∀ (r : Fin 512) (d : Fin 1024),
    (∀ p, Holds T2 T3 p (512 * (T0 (ix n)).toNat + r.val) → 512 * (T0 (ix n)).toNat + r.val < (T3 (ix n)).toNat →
      o (ix2 r d) = thru m c (ex T0 T1 T2 T3 g p) ⟨(T0 (ix n)).toNat * 512 + r.val, tl_lt T0 T1 T2 T3 g _ r⟩ d)
    ∧ ((T3 (ix n)).toNat ≤ 512 * (T0 (ix n)).toNat + r.val → o (ix2 r d) = 0)

/-- One item's step. -/
theorem upto_step (n : Fin 287) (y o : S512x1024.Idx → Elt Ideal .f32)
    (hy : ∀ (r : Fin 512) (d : Fin 1024), y (ix2 r d) = thru m c (ex T0 T1 T2 T3 g n) ⟨(T0 (ix n)).toNat * 512 + r.val, tl_lt T0 T1 T2 T3 g _ r⟩ d)
    (ho : T2 (ix n) ≠ T0 (ix n) * 512#32 → ∀ (r : Fin 512) (d : Fin 1024),
      (∀ p, Holds T2 T3 p (512 * (T0 (ix n)).toNat + r.val) → 512 * (T0 (ix n)).toNat + r.val < (T2 (ix n)).toNat →
        o (ix2 r d) = thru m c (ex T0 T1 T2 T3 g p) ⟨(T0 (ix n)).toNat * 512 + r.val, tl_lt T0 T1 T2 T3 g _ r⟩ d)
      ∧ ((T2 (ix n)).toNat ≤ 512 * (T0 (ix n)).toNat + r.val → o (ix2 r d) = 0)) :
    Upto T0 T1 T2 T3 g m c n (stepO (T2 (ix n)) (T3 (ix n)) (T0 (ix n)) y o) := by
  intro r d
  have hle := g.le n
  have hbase := g.base n
  have htop := g.top n
  have hr := r.isLt
  have h3 := cond3_nat T0 T1 T2 T3 g n
  have h2 := (cond2_iff (T2 (ix n)) (T3 (ix n)) (T0 (ix n))).trans (and_congr (lo_base T0 T1 T2 T3 g n) (not_congr (hi_top T0 T1 T2 T3 g n)))
  have h4 := (cond4_iff (T2 (ix n)) (T3 (ix n)) (T0 (ix n))).trans (and_congr (lo_base T0 T1 T2 T3 g n) (hi_top T0 T1 T2 T3 g n))
  have hlo : (T2 (ix n)).toInt = ((T2 (ix n)).toNat : ℤ) := toInt_lo g n
  have hhi : (T3 (ix n)).toInt = ((T3 (ix n)).toNat : ℤ) := toInt_hi g n
  rw [ne_eq, lo_base T0 T1 T2 T3 g n] at ho
  have hown : ∀ p, Holds T2 T3 p (512 * (T0 (ix n)).toNat + r.val) → (T2 (ix n)).toNat ≤ 512 * (T0 (ix n)).toNat + r.val →
      512 * (T0 (ix n)).toNat + r.val < (T3 (ix n)).toNat → p = n := fun p hp h h' => unique g p n _ hp ⟨h, h'⟩
  unfold stepO
  by_cases c3 : k0_cond3 (T2 (ix n)) (T3 (ix n)) = 1#1
  · rw [if_pos c3]
    rw [h3] at c3
    by_cases c4 : k0_cond4 (T2 (ix n)) (T3 (ix n)) (T0 (ix n)) = 1#1
    · rw [if_pos c4]
      rw [h4] at c4
      refine ⟨fun p hp hlt => ?_, fun h => by omega⟩
      rw [hown p hp (by omega) hlt, hy]
    · rw [if_neg c4, pay4_apply, row_nat T0 T1 T2 T3 g, hlo, hhi]
      rw [h4] at c4
      by_cases c2 : k0_cond2 (T2 (ix n)) (T3 (ix n)) (T0 (ix n)) = 1#1
      · rw [if_pos c2, pay3_apply, zero_add]
        rw [h2] at c2
        refine ⟨fun p hp hlt => ?_, fun h => if_neg (by omega)⟩
        rw [if_pos (by omega), hown p hp (by omega) hlt, hy]
      · rw [if_neg c2]
        rw [h2] at c2
        obtain ⟨ho1, ho2⟩ := ho (by omega) r d
        refine ⟨fun p hp hlt => ?_, fun h => ?_⟩
        · by_cases hl : 512 * (T0 (ix n)).toNat + r.val < (T2 (ix n)).toNat
          · rw [if_neg (by omega), add_zero]
            exact ho1 p hp hl
          · rw [if_pos (by omega), ho2 (by omega), zero_add, hown p hp (by omega) hlt, hy]
        · rw [if_neg (by omega), add_zero]
          exact ho2 (by omega)
  · rw [if_neg c3]
    rw [h3] at c3
    by_cases c2 : k0_cond2 (T2 (ix n)) (T3 (ix n)) (T0 (ix n)) = 1#1
    · rw [if_pos c2, pay3_apply]
      rw [h2] at c2
      exact ⟨fun p hp hlt => by omega, fun _ => rfl⟩
    · rw [if_neg c2]
      rw [h2] at c2
      obtain ⟨ho1, ho2⟩ := ho (by omega) r d
      exact ⟨fun p hp hlt => ho1 p hp (by omega), fun h => ho2 (by omega)⟩

/-- After every item the output block holds that. -/
theorem traj_upto (n : ℕ) (h : n < (cfgA T0 T1 T2 T3 g).N) : Upto T0 T1 T2 T3 g m c (itm T0 T1 T2 T3 g ⟨n, h⟩) (traj T0 T1 T2 T3 g m ρ c n h) := by
  induction n with
  | zero =>
    refine upto_step T0 T1 T2 T3 g m c _ _ _ (yv_apply T0 T1 T2 T3 g m ρ c _) fun hne => absurd (start T0 T1 T2 T3 g _ (.inl (crd_val T0 T1 T2 T3 g ⟨0, h⟩))) hne
  | succ n ih =>
    have hn : n < (cfgA T0 T1 T2 T3 g).N := Nat.lt_of_succ_lt h
    refine upto_step T0 T1 T2 T3 g m c _ _ _ (yv_apply T0 T1 T2 T3 g m ρ c _) fun hne r d => ?_
    have hv : (itm T0 T1 T2 T3 g ⟨n, hn⟩).val + 1 = (itm T0 T1 T2 T3 g ⟨n + 1, h⟩).val := by rw [crd_val, crd_val]
    have ht : T0 (ix (itm T0 T1 T2 T3 g ⟨n + 1, h⟩)) = T0 (ix (itm T0 T1 T2 T3 g ⟨n, hn⟩)) := by
      by_contra hc
      exact hne (start T0 T1 T2 T3 g _ (.inr ⟨_, hv, hc⟩))
    have hl : (T3 (ix (itm T0 T1 T2 T3 g ⟨n, hn⟩))).toNat = (T2 (ix (itm T0 T1 T2 T3 g ⟨n + 1, h⟩))).toNat := by
      have hlt : (itm T0 T1 T2 T3 g ⟨n, hn⟩).val + 1 < 287 := by rw [hv]; exact Fin.isLt _
      rw [g.next _ hlt]
      congr 3
      exact Fin.ext hv
    have key := ih hn r d
    have e : (⟨(T0 (ix (itm T0 T1 T2 T3 g ⟨n + 1, h⟩))).toNat * 512 + r.val, tl_lt T0 T1 T2 T3 g _ r⟩ : Fin 131072)
        = ⟨(T0 (ix (itm T0 T1 T2 T3 g ⟨n, hn⟩))).toNat * 512 + r.val, tl_lt T0 T1 T2 T3 g _ r⟩ := Fin.ext (by simp only [ht])
    rw [e, ht, ← hl]
    exact key

/-- The item that holds a row. -/
def own (r : Fin 131072) : Fin 287 := Classical.choose (owner g r.val r.isLt)

theorem own_holds (r : Fin 131072) : Holds T2 T3 (own T0 T1 T2 T3 g r) r.val := Classical.choose_spec (owner g r.val r.isLt)

/-- The launch's result array: each row through its item's expert. -/
def KOUT : FVec Ideal S131072x1024 .f32 := fun i => thru m c (ex T0 T1 T2 T3 g (own T0 T1 T2 T3 g (i 0))) (i 0) (i 1)

theorem covers5 : ((cfgA T0 T1 T2 T3 g).win (5 : Fin 6)).Covers := by
  refine ⟨fun a => by
    fin_cases a
    · exact (by norm_num : 0 < 512)
    · exact (by norm_num : 0 < 1024), fun β => ?_⟩
  have hN := N_eq T0 T1 T2 T3 g
  have hβ : (β 0).val < 256 := lt_of_lt_of_eq (β 0).isLt (show (131072 + 512 - 1) / 512 = 256 by norm_num)
  have hβ1 : (β 1).val < 1 := lt_of_lt_of_eq (β 1).isLt (show (1024 + 1024 - 1) / 1024 = 1 by norm_num)
  obtain ⟨n, hn⟩ := owner g (512 * (β 0).val) (by omega)
  have hn := tile_of g n _ hn
  obtain ⟨p, hp, hl⟩ := completes T0 n
  have hpN : p.val < (cfgA T0 T1 T2 T3 g).N := by omega
  have hi : itm T0 T1 T2 T3 g ⟨p.val, hpN⟩ = p := Fin.ext (crd_val T0 T1 T2 T3 g ⟨p.val, hpN⟩)
  refine ⟨⟨p.val, hpN⟩, (flush_iff T0 T1 T2 T3 g _).2 ?_, fun a => ⟨?_, .inl rfl⟩⟩
  · rcases hl with h | ⟨h, hne⟩
    · exact .inl h
    · have h' : p.val + 1 < (cfgA T0 T1 T2 T3 g).N := by omega
      have hi' : itm T0 T1 T2 T3 g ⟨p.val + 1, h'⟩ = ⟨p.val + 1, h⟩ := Fin.ext (crd_val T0 T1 T2 T3 g ⟨p.val + 1, h'⟩)
      refine .inr ⟨h', ?_⟩
      rw [hi]
      show T0 (ix (itm T0 T1 T2 T3 g ⟨p.val + 1, h'⟩)) ≠ _
      rw [hi']
      exact hne
  · rw [index5, hi, hp, hn]
    fin_cases a
    · show 512 * (β 0).val / 512 = (β 0).val
      omega
    · show 0 = (β 1).val
      omega

/-- The launch leaves that array. -/
theorem final : (dats T0 T1 T2 T3 g m ρ 0 c).arrAt (5 : Fin 6) (cfgA T0 T1 T2 T3 g).N = KOUT T0 T1 T2 T3 g m c := by
  refine (dats T0 T1 T2 T3 g m ρ 0 c).arrAt_eq_of_covers (5 : Fin 6) _ (covers5 T0 T1 T2 T3 g) fun t hf y => ?_
  have hfull : (T3 (ix (itm T0 T1 T2 T3 g t))).toNat = 512 * (T0 (ix (itm T0 T1 T2 T3 g t))).toNat + 512 := by
    refine full g _ ?_
    rcases (flush_iff T0 T1 T2 T3 g t).1 hf with h | ⟨h, hne⟩
    · exact .inl (by rw [crd_val]; exact h)
    · have hN := N_eq T0 T1 T2 T3 g
      refine .inr ⟨by rw [crd_val]; omega, fun h' => hne (Eq.trans ?_ h')⟩
      congr 2
      exact Fin.ext (by rw [crd_val]; simp only; rw [crd_val])
  have hu := traj_upto T0 T1 T2 T3 g m ρ c t.val t.isLt (y 0) (y 1)
  have hy : (((cfgA T0 T1 T2 T3 g).win (5 : Fin 6)).blk t).view.emb y = ix2 (n0 := 131072) (n1 := 1024) ⟨(T0 (ix (itm T0 T1 T2 T3 g t))).toNat * 512 + (y 0).val, tl_lt T0 T1 T2 T3 g _ (y 0)⟩ (y 1) := by
    blk_ext [index5 T0 T1 T2 T3 g t]
  rw [hy]
  have h0 : (y 0).val < 512 := (y 0).isLt
  have ho := own_holds T0 T1 T2 T3 g ⟨(T0 (ix (itm T0 T1 T2 T3 g t))).toNat * 512 + (y 0).val, tl_lt T0 T1 T2 T3 g _ (y 0)⟩
  refine Eq.trans (b := traj T0 T1 T2 T3 g m ρ c t.val t.isLt (ix2 (n0 := 512) (n1 := 1024) (y 0) (y 1))) ?_ (hu.1 _ ?_ ?_)
  · show traj T0 T1 T2 T3 g m ρ c t.val t.isLt _ = _
    congr 1
    funext a; fin_cases a <;> rfl
  · rw [mul_comm 512]; exact ho
  · refine lt_of_lt_of_eq ?_ hfull.symm
    show 512 * (T0 (ix (itm T0 T1 T2 T3 g t))).toNat + (y 0).val < _
    omega

end Cert.Kernel3Ideal.Moe

end
-- ==== Proof.MoeIFrame.lean ====
module

public import proofs.«01_k».proof.Proof.MoeIDat
public import Idealize.ShloMosaic.Lib.Claim
public import Idealize.ShloMosaic.Lib.Pipeline.Frame

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Moe (ix Good)

variable {F : FTy → Type} [FloatOps F]

local notation "𝕄" => MT nD τ sig Unit (Elt F) ℕ (UR sig nD τ) ℕ

variable (T0 T1 T2 T3 : S287.Idx → Elt F .i32) (g : Good T0 T1 T2 T3)
variable (m : (ℓ : Loc nD τ sig) → Buf (Elt F) ℓ) (ρ : Dev nD → PrngReg)

/-- The body at point `t`, as the pipeline calls it. -/
abbrev bodyAt (t : Fin (cfgA T0 T1 T2 T3 g).N) : Prog (TpuEff nD τ sig (Elt F) Λ₀ .tc) PUnit :=
  cc0_moe_ffn (crd T0 T1 T2 T3 g t) (Memref.whole main_arg1) (Memref.isWhole_whole _) (Memref.whole main_arg2) (Memref.isWhole_whole _) (Memref.whole main_arg3) (Memref.isWhole_whole _) (Memref.whole main_arg4) (Memref.isWhole_whole _) (ms0 T0 T1 T2 T3 g t) (hs0 T0 T1 T2 T3 g t) (ms1 T0 T1 T2 T3 g t) (hs1 T0 T1 T2 T3 g t) (ms2 T0 T1 T2 T3 g t) (hs2 T0 T1 T2 T3 g t) (ms3 T0 T1 T2 T3 g t) (hs3 T0 T1 T2 T3 g t) (ms4 T0 T1 T2 T3 g t) (hs4 T0 T1 T2 T3 g t) (ms5 T0 T1 T2 T3 g t) (hs5 T0 T1 T2 T3 g t) (Memref.whole cc0_scratch0) (Memref.isWhole_whole _) (Memref.whole cc0_scratch1) (Memref.isWhole_whole _)

/-- The scratch weights after the item, from what they held before it. -/
theorem w0_eq (c : Dev nD) (t : Fin (cfgA T0 T1 T2 T3 g).N) (s : S1024x2048.Idx → Elt F .bf16) (h : ∀ u : Fin (cfgA T0 T1 T2 T3 g).N, u.val + 1 = t.val → s = w0 T0 T1 T2 T3 g m ρ c u) :
    w0 T0 T1 T2 T3 g m ρ c t = if c1 (crd T0 T1 T2 T3 g t) T1 then k0_pay1 (iblk T0 T1 T2 T3 g m ρ c (1 : Fin 6) t) else s := by
  by_cases hc : c1 (crd T0 T1 T2 T3 g t) T1
  · rw [if_pos hc]; rfl
  · rw [if_neg hc]
    obtain ⟨h0, h1⟩ := not_c1 _ _ hc
    have hv := crd_val T0 T1 T2 T3 g t
    have hv' : (crd T0 T1 T2 T3 g t 0).val = t.val := hv
    have hlt : t.val - 1 < (cfgA T0 T1 T2 T3 g).N := lt_of_le_of_lt (Nat.sub_le _ _) t.isLt
    rw [h ⟨t.val - 1, hlt⟩ (by simp only; omega)]
    refine w0_congr T0 T1 T2 T3 g m ρ c _ _ (h1.trans ?_)
    congr 2
    apply Fin.ext
    rw [crd_val]
    show (crd T0 T1 T2 T3 g t 0).val - 1 = t.val - 1
    rw [hv']
theorem w1_eq (c : Dev nD) (t : Fin (cfgA T0 T1 T2 T3 g).N) (s : S1024x1024.Idx → Elt F .bf16) (h : ∀ u : Fin (cfgA T0 T1 T2 T3 g).N, u.val + 1 = t.val → s = w1 T0 T1 T2 T3 g m ρ c u) :
    w1 T0 T1 T2 T3 g m ρ c t = if c1 (crd T0 T1 T2 T3 g t) T1 then k0_pay2 (iblk T0 T1 T2 T3 g m ρ c (3 : Fin 6) t) else s := by
  by_cases hc : c1 (crd T0 T1 T2 T3 g t) T1
  · rw [if_pos hc]; rfl
  · rw [if_neg hc]
    obtain ⟨h0, h1⟩ := not_c1 _ _ hc
    have hv := crd_val T0 T1 T2 T3 g t
    have hv' : (crd T0 T1 T2 T3 g t 0).val = t.val := hv
    have hlt : t.val - 1 < (cfgA T0 T1 T2 T3 g).N := lt_of_le_of_lt (Nat.sub_le _ _) t.isLt
    rw [h ⟨t.val - 1, hlt⟩ (by simp only; omega)]
    refine w1_congr T0 T1 T2 T3 g m ρ c _ _ (h1.trans ?_)
    congr 2
    apply Fin.ext
    rw [crd_val]
    show (crd T0 T1 T2 T3 g t 0).val - 1 = t.val - 1
    rw [hv']

/-- The body's run at point `t` from any output block and any scratch weights the invariant allows. -/
theorem run_at (c : Dev nD) (t : Fin (cfgA T0 T1 T2 T3 g).N) (d) (s0 : S1024x2048.Idx → Elt F .bf16) (s1 : S1024x1024.Idx → Elt F .bf16)
    (h0 : ∀ u : Fin (cfgA T0 T1 T2 T3 g).N, u.val + 1 = t.val → s0 = w0 T0 T1 T2 T3 g m ρ c u) (h1 : ∀ u : Fin (cfgA T0 T1 T2 T3 g).N, u.val + 1 = t.val → s1 = w1 T0 T1 T2 T3 g m ρ c u) :
    Runs c (crd T0 T1 T2 T3 g t) (ms0 T0 T1 T2 T3 g t) (hs0 T0 T1 T2 T3 g t) (ms1 T0 T1 T2 T3 g t) (hs1 T0 T1 T2 T3 g t) (ms2 T0 T1 T2 T3 g t) (hs2 T0 T1 T2 T3 g t) (ms3 T0 T1 T2 T3 g t) (hs3 T0 T1 T2 T3 g t) (ms4 T0 T1 T2 T3 g t) (hs4 T0 T1 T2 T3 g t) (ms5 T0 T1 T2 T3 g t) (hs5 T0 T1 T2 T3 g t) (Memref.whole cc0_scratch0) (Memref.isWhole_whole _) (Memref.whole cc0_scratch1) (Memref.isWhole_whole _) T0 T1 T2 T3
      (iblk T0 T1 T2 T3 g m ρ c (0 : Fin 6) t) (iblk T0 T1 T2 T3 g m ρ c (1 : Fin 6) t) (iblk T0 T1 T2 T3 g m ρ c (2 : Fin 6) t) (iblk T0 T1 T2 T3 g m ρ c (3 : Fin 6) t) (iblk T0 T1 T2 T3 g m ρ c (4 : Fin 6) t)
      ((dats T0 T1 T2 T3 g m ρ 0 c).before (5 : Fin 6) t d) s0 s1 (step T0 T1 T2 T3 g m ρ c t ((dats T0 T1 T2 T3 g m ρ 0 c).before (5 : Fin 6) t d)) (w0 T0 T1 T2 T3 g m ρ c t) (w1 T0 T1 T2 T3 g m ρ c t) := by
  have h := runs c (crd T0 T1 T2 T3 g t) (ms0 T0 T1 T2 T3 g t) (hs0 T0 T1 T2 T3 g t) (ms1 T0 T1 T2 T3 g t) (hs1 T0 T1 T2 T3 g t) (ms2 T0 T1 T2 T3 g t) (hs2 T0 T1 T2 T3 g t) (ms3 T0 T1 T2 T3 g t) (hs3 T0 T1 T2 T3 g t) (ms4 T0 T1 T2 T3 g t) (hs4 T0 T1 T2 T3 g t) (ms5 T0 T1 T2 T3 g t) (hs5 T0 T1 T2 T3 g t) (Memref.whole cc0_scratch0) (Memref.isWhole_whole _) (Memref.whole cc0_scratch1) (Memref.isWhole_whole _) T0 T1 T2 T3
      (iblk T0 T1 T2 T3 g m ρ c (0 : Fin 6) t) (iblk T0 T1 T2 T3 g m ρ c (1 : Fin 6) t) (iblk T0 T1 T2 T3 g m ρ c (2 : Fin 6) t) (iblk T0 T1 T2 T3 g m ρ c (3 : Fin 6) t) (iblk T0 T1 T2 T3 g m ρ c (4 : Fin 6) t)
      ((dats T0 T1 T2 T3 g m ρ 0 c).before (5 : Fin 6) t d) s0 s1 (w0 T0 T1 T2 T3 g m ρ c t) (w1 T0 T1 T2 T3 g m ρ c t) (w0_eq T0 T1 T2 T3 g m ρ c t s0 h0) (w1_eq T0 T1 T2 T3 g m ρ c t s1 h1)
  rw [wd0, wd2, wd3] at h
  exact h

/-- What the body leaves of the output window. -/
abbrev post5 (c : Dev nD) (t : Fin (cfgA T0 T1 T2 T3 g).N) : sProp 𝕄 :=
  match (cfgA T0 T1 T2 T3 g).idle (5 : Fin 6) ((cfgA T0 T1 T2 T3 g).grid.coords t) with
  | true =>
    match ((cfgA T0 T1 T2 T3 g).win (5 : Fin 6)).flush t with
    | false => iprop(∃ d, owns (c : Thread nD τ) (((cfgA T0 T1 T2 T3 g).win (5 : Fin 6)).stage ((cfgA T0 T1 T2 T3 g).slots t (5 : Fin 6))) fullShare ((dats T0 T1 T2 T3 g m ρ 0 c).before (5 : Fin 6) t d))
    | true => owns (c : Thread nD τ) (((cfgA T0 T1 T2 T3 g).win (5 : Fin 6)).stage ((cfgA T0 T1 T2 T3 g).slots t (5 : Fin 6))) fullShare ((dats T0 T1 T2 T3 g m ρ 0 c).after (5 : Fin 6) t)
  | false => owns (c : Thread nD τ) (((cfgA T0 T1 T2 T3 g).win (5 : Fin 6)).stage ((cfgA T0 T1 T2 T3 g).slots t (5 : Fin 6))) fullShare ((dats T0 T1 T2 T3 g m ρ 0 c).after (5 : Fin 6) t)

theorem post5_intro (c : Dev nD) (t : Fin (cfgA T0 T1 T2 T3 g).N) (d) :
    owns (c : Thread nD τ) (ms5 T0 T1 T2 T3 g t) fullShare (step T0 T1 T2 T3 g m ρ c t ((dats T0 T1 T2 T3 g m ρ 0 c).before (5 : Fin 6) t d)) ⊢ post5 T0 T1 T2 T3 g m ρ c t := by
  have ha : step T0 T1 T2 T3 g m ρ c t ((dats T0 T1 T2 T3 g m ρ 0 c).before (5 : Fin 6) t d) = (dats T0 T1 T2 T3 g m ρ 0 c).after (5 : Fin 6) t := step_before T0 T1 T2 T3 g m ρ c t d
  unfold post5
  cases hi : (cfgA T0 T1 T2 T3 g).idle (5 : Fin 6) ((cfgA T0 T1 T2 T3 g).grid.coords t)
  · simp only; rw [ha]
  · cases hf : ((cfgA T0 T1 T2 T3 g).win (5 : Fin 6)).flush t
    · simp only
      rw [step_idle T0 T1 T2 T3 g m ρ c t hi]
      iintro H
      iexists d; iexact H
    · simp only; rw [ha]

set_option maxHeartbeats 4000000 in
/-- The body obligation at a point. -/
theorem sound_body (c : Dev nD) (t : Fin (cfgA T0 T1 T2 T3 g).N) :
    iprop((dats T0 T1 T2 T3 g m ρ 0 c).Φ t.castSucc ∗ (dats T0 T1 T2 T3 g m ρ 0 c).owesAt () t.castSucc
        ∗ (∃ d, owns (c : Thread nD τ) (ms0 T0 T1 T2 T3 g t) fullShare ((dats T0 T1 T2 T3 g m ρ 0 c).before (0 : Fin 6) t d))
        ∗ (∃ d, owns (c : Thread nD τ) (ms1 T0 T1 T2 T3 g t) fullShare ((dats T0 T1 T2 T3 g m ρ 0 c).before (1 : Fin 6) t d))
        ∗ (∃ d, owns (c : Thread nD τ) (ms2 T0 T1 T2 T3 g t) fullShare ((dats T0 T1 T2 T3 g m ρ 0 c).before (2 : Fin 6) t d))
        ∗ (∃ d, owns (c : Thread nD τ) (ms3 T0 T1 T2 T3 g t) fullShare ((dats T0 T1 T2 T3 g m ρ 0 c).before (3 : Fin 6) t d))
        ∗ (∃ d, owns (c : Thread nD τ) (ms4 T0 T1 T2 T3 g t) fullShare ((dats T0 T1 T2 T3 g m ρ 0 c).before (4 : Fin 6) t d))
        ∗ (∃ d, owns (c : Thread nD τ) (ms5 T0 T1 T2 T3 g t) fullShare ((dats T0 T1 T2 T3 g m ρ 0 c).before (5 : Fin 6) t d)))
      ⊢ wp frame (wpE (defs₀ (F := F)) Variants.none c none) Set.univ (bodyAt T0 T1 T2 T3 g t) fun _ =>
          iprop((dats T0 T1 T2 T3 g m ρ 0 c).Φ t.succ ∗ (dats T0 T1 T2 T3 g m ρ 0 c).owesAt () t.succ
            ∗ bigSep Finset.univ fun w : Fin (cfgA T0 T1 T2 T3 g).W =>
                match (cfgA T0 T1 T2 T3 g).idle w ((cfgA T0 T1 T2 T3 g).grid.coords t) with
                | true =>
                  match ((cfgA T0 T1 T2 T3 g).win w).flush t with
                  | false => iprop(∃ d, owns (c : Thread nD τ) (((cfgA T0 T1 T2 T3 g).win w).stage ((cfgA T0 T1 T2 T3 g).slots t w)) fullShare ((dats T0 T1 T2 T3 g m ρ 0 c).before w t d))
                  | true => owns (c : Thread nD τ) (((cfgA T0 T1 T2 T3 g).win w).stage ((cfgA T0 T1 T2 T3 g).slots t w)) fullShare ((dats T0 T1 T2 T3 g m ρ 0 c).after w t)
                | false => owns (c : Thread nD τ) (((cfgA T0 T1 T2 T3 g).win w).stage ((cfgA T0 T1 T2 T3 g).slots t w)) fullShare ((dats T0 T1 T2 T3 g m ρ 0 c).after w t)) := by
  rw [bigSep_W0]
  rewrite [show (dats T0 T1 T2 T3 g m ρ 0 c).Φ t.succ = Phi T0 T1 T2 T3 g m ρ c t.succ from rfl, show (dats T0 T1 T2 T3 g m ρ 0 c).Φ t.castSucc = Phi T0 T1 T2 T3 g m ρ c t.castSucc from rfl,
    show (dats T0 T1 T2 T3 g m ρ 0 c).owesAt () t.succ = (dats T0 T1 T2 T3 g m ρ 0 c).owesAt () t.castSucc from rfl]
  simp only [before0, before1, before2, before3, before4, after0, after1, after2, after3, after4]
  unfold Phi; simp only [Fin.val_castSucc, Fin.val_succ]
  iintro ⟨⟨⟨%a0, %ha0, HS0⟩, ⟨%a1, %ha1, HS1⟩, HT0, HT1, HT2, HT3⟩, Ho, ⟨%d0, H0⟩, ⟨%d1, H1⟩, ⟨%d2, H2⟩, ⟨%d3, H3⟩, ⟨%d4, H4⟩, ⟨%d5, H5⟩⟩
  iapply (run_at T0 T1 T2 T3 g m ρ c t d5 a0 a1 ha0 ha1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HT2]; · iexact HT2
  isplitl [HT3]; · iexact HT3
  isplitl [H5]; · iapply rep_of_owns; iexact H5
  isplitl [HS0]; · iapply rep_of_owns; iexact HS0
  isplitl [HS1]; · iapply rep_of_owns; iexact HS1
  iintro ⟨H0, H1, H2, H3, H4, HT0, HT1, HT2, HT3, H5, HS0, HS1⟩
  isplitl [HS0 HS1 HT0 HT1 HT2 HT3]
  · isplitl [HS0]
    · iexists _; isplitr; swap
      · iexact HS0
      · ipureintro; intro u hu
        rw [show u = t from Fin.ext (Nat.succ.inj hu)]
    isplitl [HS1]
    · iexists _; isplitr; swap
      · iexact HS1
      · ipureintro; intro u hu
        rw [show u = t from Fin.ext (Nat.succ.inj hu)]
    isplitl [HT0]
    · iexact HT0
    isplitl [HT1]
    · iexact HT1
    isplitl [HT2]
    · iexact HT2
    iexact HT3
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iapply (post5_intro T0 T1 T2 T3 g m ρ c t d5)
  iexact H5

/-- The body obligation. -/
theorem body_obligation (c : Dev nD) : BodyObligation (dats T0 T1 T2 T3 g m ρ 0 c) (defs₀ (F := F)) Variants.none () Set.univ := fun t => by
  rw [bigSep_W0]
  exact sound_body T0 T1 T2 T3 g m ρ c t

/-- The launch's resource. -/
def u₀ : UR sig nD τ :=
  initOf (Pipeline.cells (pcs T0 T1 T2 T3 g) ((launch0 (F := F)).cellOf_inj fun _ => adm T0 T1 T2 T3 g))
    (Pipeline.launchToks (pcs T0 T1 T2 T3 g) ((launch0 (F := F)).cellOf_inj fun _ => adm T0 T1 T2 T3 g))

theorem share_eq (c : Dev nD) (w : Fin (cfgA T0 T1 T2 T3 g).W) : (dats T0 T1 T2 T3 g m ρ 0 c).share w = fullShare := by unfold Dat.share; split <;> rfl

theorem prefHeld_eq (c : Dev nD) (q : Fin 4 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem phi0_intro (c : Dev nD) :
    iprop(BI.emp ∗ Pipeline.prefHeld pre0 c (fun _ => fullShare.right) (adm T0 T1 T2 T3 g).1 ∗ Pipeline.scopedRest spec0 c) ⊢ (dats T0 T1 T2 T3 g m ρ 0 c).Φ 0 := by
  rw [prefHeld_eq, scopedRest0_eq, show (dats T0 T1 T2 T3 g m ρ 0 c).Φ 0 = Phi T0 T1 T2 T3 g m ρ c 0 from rfl]
  unfold Phi
  simp only [owns_whole]
  iintro ⟨-, ⟨HT0, HT1, HT2, HT3⟩, ⟨%a0, HS0⟩, ⟨%a1, HS1⟩⟩
  isplitl [HS0]
  · iexists a0; isplitr; swap
    · iexact HS0
    · ipureintro; intro u hu; exact absurd hu (Nat.succ_ne_zero _)
  isplitl [HS1]
  · iexists a1; isplitr; swap
    · iexact HS1
    · ipureintro; intro u hu; exact absurd hu (Nat.succ_ne_zero _)
  isplitl [HT0]
  · iexact HT0
  isplitl [HT1]
  · iexact HT1
  isplitl [HT2]
  · iexact HT2
  iexact HT3

theorem phiN_exit (c : Dev nD) : (dats T0 T1 T2 T3 g m ρ 0 c).Φ (Fin.last (cfgA T0 T1 T2 T3 g).N) ⊢ iprop(BI.emp ∗ Pipeline.scopedRest spec0 c) := by
  rw [scopedRest0_eq, show (dats T0 T1 T2 T3 g m ρ 0 c).Φ (Fin.last (cfgA T0 T1 T2 T3 g).N) = Phi T0 T1 T2 T3 g m ρ c (Fin.last _) from rfl]
  unfold Phi
  simp only [owns_whole]
  iintro ⟨⟨%a0, -, HS0⟩, ⟨%a1, -, HS1⟩, -, -, -, -⟩
  isplitr; · iempintro
  isplitl [HS0]
  · iexists a0; iexact HS0
  iexists a1; iexact HS1

/-- Core `c`'s buffers when the launch begins: after the two reshapes of the biases. -/
abbrev V (c : Dev nD) (b : Ref sig .tc) : Buf (Elt F) ((c : Thread nD τ).loc b) := StableHlo.after hostOps0 (fun b => m (c, b)) b

/-- The memory when the launch begins. -/
def M : (ℓ : Loc nD τ sig) → Buf (Elt F) ℓ := fun ℓ => StableHlo.after hostOps0 (fun b => m (ℓ.1, b)) ℓ.2

theorem fresh : (hostOps0 : List (HloOp τ sig (Elt F))).Forall fun op => op.fresh = ∅ := by
  simp only [List.Forall]; repeat' constructor

/-- A buffer that neither reshape writes is as it was. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- Every array as the pipeline leaves it, the tables as they were, and so the buffers that the launch does not touch. -/
def QC : PUnit × MemSt nD τ sig (Elt F) → Prop := fun r =>
  ∀ c : Dev nD, (∀ w : Fin (cfgA T0 T1 T2 T3 g).W, r.2.mem (((cfgA T0 T1 T2 T3 g).win w).arr.view.loc (c : Thread nD τ)) = (dats T0 T1 T2 T3 g (M m) ρ 0 c).arrAt w (cfgA T0 T1 T2 T3 g).N)
    ∧ (∀ j, r.2.mem ((c : Thread nD τ).loc (pre0.ref j)) = (adm T0 T1 T2 T3 g).1 j)
    ∧ ∀ b ∈ Pipeline.restRefsP sig pre0 spec0, r.2.mem ((c : Thread nD τ).loc b) = V m c b

/-- The launch memory holds the tables. -/
def Tabs : Prop := ∀ c : Dev nD, m ((c : Thread nD τ).loc main_arg1) = T0 ∧ m ((c : Thread nD τ).loc main_arg2) = T1
  ∧ m ((c : Thread nD τ).loc main_arg3) = T2 ∧ m ((c : Thread nD τ).loc main_arg4) = T3

theorem m_pre (hp : Tabs T0 T1 T2 T3 m) (c : Dev nD) (j : Fin 4) : m ((c : Thread nD τ).loc (pre0.ref j)) = (adm T0 T1 T2 T3 g).1 j := by
  fin_cases j
  · exact (hp c).1
  · exact (hp c).2.1
  · exact (hp c).2.2.1
  · exact (hp c).2.2.2

theorem V_pre (hp : Tabs T0 T1 T2 T3 m) (c : Dev nD) (j : Fin 4) : V m c (pre0.ref j) = (adm T0 T1 T2 T3 g).1 j :=
  (V_of_ne m c (pre0.ref j) (by fin_cases j <;> decide) (by fin_cases j <;> decide)).trans (m_pre T0 T1 T2 T3 g m hp c j)

include g in
theorem run_main_quiescent (hp : Tabs T0 T1 T2 T3 m) : θ_run (defs (F := F)) (onTc (τ := τ) (main (F := F))) ⟨m, fun _ => 0, ρ⟩ (fun r => QC T0 T1 T2 T3 g m ρ r ∧ r.2.sem = fun _ => 0) :=
  Pipeline.θ_run_region_noSem_pf_quiescent pcfgs (fun _ => adm T0 T1 T2 T3 g) (dats T0 T1 T2 T3 g (M m) ρ) () ((launch0 (F := F)).cellOf_inj fun _ => adm T0 T1 T2 T3 g) (0 : Fin 1)
    (launch0 (F := F)).win.to₀ (launch0 (F := F)).pre EP defs₀ Variants.none m ρ main
    (hbody := fun c => (body_obligation T0 T1 T2 T3 g (M m) ρ c).loose) (hne := (launch0 (F := F)).block_pos)
    (harr := (launch0 (F := F)).arr_whole) (hstage := (launch0 (F := F)).stage_whole) (howed := fun _ _ => rfl)
    (u₀ := u₀ T0 T1 T2 T3 g) (hu₀ := .rfl)
    (V := V m)
    (hmain := Pipeline.hmainP_prefix pcfgs 0 defs₀ Variants.none m main hostOps0 hostOps0_sub fresh main_chain)
    (hsplit := fun c => Pipeline.arrays_split (pcs T0 T1 T2 T3 g) (dats T0 T1 T2 T3 g (M m) ρ) 0 (launch0 (F := F)).win.arr_inj c (launch0 (F := F)).arr_whole
      (share_eq T0 T1 T2 T3 g (M m) ρ c) _ _ fun _ => rfl)
    (hpf := V_pre T0 T1 T2 T3 g m hp)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro H
      isplitr; · iempintro
      iexact H)
    (hin := phi0_intro T0 T1 T2 T3 g (M m) ρ)
    (hout := phiN_exit T0 T1 T2 T3 g (M m) ρ)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun _ h hz => ⟨fun c => ⟨(h c).1, (h c).2.1, (h c).2.2⟩, hz⟩)

include g in
/-- The arguments end unchanged. -/
theorem unchanged (hp : Tabs T0 T1 T2 T3 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).1 (0 : Fin 6)).trans ((dats T0 T1 T2 T3 g (M m) ρ 0 c).arrAt_in (0 : Fin 6) rfl _)).trans (V_of_ne m c main_arg0 (by decide) (by decide)),
    ((h c).2.1 0).trans (m_pre T0 T1 T2 T3 g m hp c 0).symm,
    ((h c).2.1 1).trans (m_pre T0 T1 T2 T3 g m hp c 1).symm,
    ((h c).2.1 2).trans (m_pre T0 T1 T2 T3 g m hp c 2).symm,
    ((h c).2.1 3).trans (m_pre T0 T1 T2 T3 g m hp c 3).symm,
    (((h c).1 (1 : Fin 6)).trans ((dats T0 T1 T2 T3 g (M m) ρ 0 c).arrAt_in (1 : Fin 6) rfl _)).trans (V_of_ne m c main_arg5 (by decide) (by decide)),
    ((h c).2.2 main_arg6 (by decide)).trans (V_of_ne m c main_arg6 (by decide) (by decide)),
    (((h c).1 (3 : Fin 6)).trans ((dats T0 T1 T2 T3 g (M m) ρ 0 c).arrAt_in (3 : Fin 6) rfl _)).trans (V_of_ne m c main_arg7 (by decide) (by decide)),
    ((h c).2.2 main_arg8 (by decide)).trans (V_of_ne m c main_arg8 (by decide) (by decide))⟩)
    ((θ_run defs _ _).mono (fun _ h => h.1) (run_main_quiescent T0 T1 T2 T3 g m ρ hp))

include g in
/-- The frame: every execution ends, the arguments unchanged, every semaphore counter at zero. -/
theorem frame_at (hp : Tabs T0 T1 T2 T3 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged T0 T1 T2 T3 g m ρ hp) ((θ_run defs _ _).mono (fun _ h => h.2) (run_main_quiescent T0 T1 T2 T3 g m ρ hp))

end Cert.Kernel3Ideal.Moe

end
-- ==== Proof.MoeValue.lean ====
/- The experts' claims, from the precondition: the frames, and that the launch's array is the reference's. -/
module

public import proofs.«01_k».proof.Defs
public import proofs.«01_k».proof.Proof.MoeRef
public import proofs.«01_k».proof.Proof.MoeIKernel
public import proofs.«01_k».proof.Proof.MoeIFrame
public import proofs.«01_k».proof.Proof.MoePFrame
public import proofs.«01_k».proof.Proof.Gen.Kernel3
public import proofs.«01_k».proof.Proof.Gen.Kernel3Ideal
public import proofs.«01_k».proof.Proof.Gen.Pre_items_cover
public import Idealize.ShloMosaic.Lib.Claim

@[expose] public section

set_option maxRecDepth 16384

noncomputable section

namespace Cert.Moe

open Idealize.ShloMosaic Idealize.SL.Sem

section Kernel

open Cert.Kernel3

/-- The frame of the kernel over bits. -/
theorem frame3 : Cert.quiescent_Kernel3 (hKernel3 := Cert.Kernel3.Gen.facts) (hPre_items_cover := Cert.Pre_items_cover.Gen.facts) := fun m ρ hp =>
  Cert.Kernel3.Moe.frame_at _ _ _ _ (good_of_pre _ _ _ _ _ _ _ _ _ (hp (0 : Dev nD))) m ρ
    fun c => by rw [Subsingleton.elim c 0]; exact ⟨rfl, rfl, rfl, rfl⟩

end Kernel

section KernelIdeal

open Cert.Kernel3Ideal

/-- The frame of the kernel over the extended reals. -/
theorem frame3I : Cert.quiescent_Kernel3Ideal (hKernel3Ideal := Cert.Kernel3Ideal.Gen.facts) (hPre_items_cover := Cert.Pre_items_cover.Gen.facts) := fun m ρ hp =>
  Cert.Kernel3Ideal.Moe.frame_at _ _ _ _ (good_of_pre _ _ _ _ _ _ _ _ _ (hp (0 : Dev nD))) m ρ
    fun c => by rw [Subsingleton.elim c 0]; exact ⟨rfl, rfl, rfl, rfl⟩

open Cert.Kernel3Ideal.Moe Cert.Kernel3Ideal.Gen

variable {T0 T1 T2 T3 : S287.Idx → Elt Ideal .i32} (g : Good T0 T1 T2 T3)
variable (m : (ℓ : Loc nD τ sig) → Buf (Elt Ideal) ℓ) (ρ : Dev nD → PrngReg)

/-- What a run of the kernel leaves. -/
theorem run3 (hp : Tabs T0 T1 T2 T3 m) :
    θ_run (defs (F := Ideal)) (onTc (τ := τ) (main (F := Ideal))) ⟨m, fun _ => 0, ρ⟩ (fun r => ∀ c : Dev nD,
      r.2.mem ((c.tc : Thread nD τ).loc main_v2) = KOUT T0 T1 T2 T3 g (M m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono
    (fun _ h c => ⟨((h.1.1 c).1 (5 : Fin 6)).trans (final T0 T1 T2 T3 g (M m) ρ c), h.2 c⟩)
    (θ_run_and (run_main_quiescent T0 T1 T2 T3 g m ρ hp) (unchanged T0 T1 T2 T3 g m ρ hp))

/-- The first biases as the launch finds them. -/
theorem biasB (c : Dev nD) (e : Fin 32) (f : Fin 2048) : aB (M m) c (ix4 1 e 0 f) = (m ((c.tc : Thread nD τ).loc main_arg6) : FVec Ideal S2x32x2048 .f32) (ix3 1 e f) := by
  have h : aB (M m) c = shapeCast S2x32x1x2048 (m ((c.tc : Thread nD τ).loc main_arg6) : FVec Ideal S2x32x2048 .f32) shapeCasts_S2x32x2048_S2x32x1x2048 := by
    show V m c main_v0 = _
    unfold V
    after_results_simp <;> rfl
  rw [h]
  pointwise []

/-- The second biases as the launch finds them. -/
theorem biasD (c : Dev nD) (e : Fin 32) (f : Fin 1024) : aD (M m) c (ix4 1 e 0 f) = (m ((c.tc : Thread nD τ).loc main_arg8) : FVec Ideal S2x32x1024 .f32) (ix3 1 e f) := by
  have h : aD (M m) c = shapeCast S2x32x1x1024 (m ((c.tc : Thread nD τ).loc main_arg8) : FVec Ideal S2x32x1024 .f32) shapeCasts_S2x32x1024_S2x32x1x1024 := by
    show V m c main_v1 = _
    unfold V
    after_results_simp <;> rfl
  rw [h]
  pointwise []

/-- The kernel's array is the reference's, of the same rows, tables and weights. -/
theorem value3 (c : Dev nD) : KOUT T0 T1 T2 T3 g (M m) c = SUMS (HELD T1 T2 T3)
    (YS (ACT (PRE (LANES (m ((c.tc : Thread nD τ).loc main_arg0))) (m ((c.tc : Thread nD τ).loc main_arg5)) (m ((c.tc : Thread nD τ).loc main_arg6))))
      (m ((c.tc : Thread nD τ).loc main_arg7)) (m ((c.tc : Thread nD τ).loc main_arg8))) := by
  funext i
  idx_vars i
  refine Eq.trans ?_ (sums_held g _ i0 i1 (own T0 T1 T2 T3 g i0) (own_holds T0 T1 T2 T3 g i0)).symm
  refine Eq.trans ?_ (exp_apply _ _ _ _ _ _ i0 i1).symm
  have e0 : aX (M m) c = m ((c.tc : Thread nD τ).loc main_arg0) := V_of_ne m c main_arg0 (by decide) (by decide)
  have e5 : aW (M m) c = m ((c.tc : Thread nD τ).loc main_arg5) := V_of_ne m c main_arg5 (by decide) (by decide)
  have e7 : aV (M m) c = m ((c.tc : Thread nD τ).loc main_arg7) := V_of_ne m c main_arg7 (by decide) (by decide)
  show thru (M m) c _ i0 i1 = _
  unfold thru
  rw [e0, e5, e7]
  simp only [biasB, biasD]
  rfl

end KernelIdeal

/-- Kernel and reference leave the same array. -/
theorem experts : Cert.algebraic_Kernel3Ideal_Reference3Ideal (hKernel3Ideal := Cert.Kernel3Ideal.Gen.facts) (hReference3Ideal := Cert.Reference3Ideal.Gen.facts)
    (hPre_items_cover := Cert.Pre_items_cover.Gen.facts) := fun m ρ m' ρ' hpre hargs =>
  have g := good_of_pre _ _ _ _ _ _ _ _ _ (hpre (0 : Dev Cert.Kernel3Ideal.nD))
  have hp : Cert.Kernel3Ideal.Moe.Tabs _ _ _ _ m := fun c => by rw [Subsingleton.elim c 0]; exact ⟨rfl, rfl, rfl, rfl⟩
  ⟨fun c => Cert.Kernel3Ideal.Moe.KOUT _ _ _ _ g (Cert.Kernel3Ideal.Moe.M m) c, run3 g m ρ hp,
   (θ_run Cert.Reference3Ideal.defs _ _).mono (fun _ h c => ⟨(h c).1.trans (by
      refine Eq.trans ?_ (value3 g m c).symm
      refine (ref_eq m' c).trans ?_
      obtain ⟨e0, e1, e2, e3, e4, e5, e6, e7, e8⟩ := hargs c
      obtain rfl : c = 0 := Subsingleton.elim c 0
      rw [e0, e2, e3, e4, e5, e6, e7, e8]), (h c).2⟩)
    (Cert.Reference3Ideal.Value.run m' ρ')⟩

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.AttValue
public import proofs.«01_k».proof.Proof.AttPre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.MrgValue
public import proofs.«01_k».proof.Proof.MrgPre
public import proofs.«01_k».proof.Proof.Gen.Kernel3
public import proofs.«01_k».proof.Proof.Gen.Kernel3.Skeleton
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Reference3Ideal.Run
public import proofs.«01_k».proof.Proof.Gen.Pre_items_cover
public import proofs.«01_k».proof.Proof.MoeValue
public import Idealize.ShloMosaic.Lib.Claim
public import Idealize.ShloMosaic.Adequacy
public import Idealize.ShloMosaic.Init

@[expose] public section

noncomputable section

namespace Cert.Proof

open Idealize.ShloMosaic Idealize.SL.Sem

/-- The reference runs, keeps its arguments and ends quiescent. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- From the same finite queries and keys, and the same values, the attention kernel and the reference end with equal arrays. -/
theorem attention : Cert.algebraic_KernelIdeal_ReferenceIdeal_pre_finite_scores (hKernelIdeal := Cert.KernelIdeal.Gen.facts)
    (hReferenceIdeal := Cert.ReferenceIdeal.Gen.facts) (hPre_finite_scores := Cert.Att.preFacts) := fun m g m' g' hpre hargs =>
  ⟨fun c => Cert.Att.KOUT (Cert.Att.q0 m c) (Cert.Att.k0 m c) (Cert.Att.v0 m c),
    (θ_run Cert.KernelIdeal.defs _ _).mono (fun _ h c => ⟨(h c).1.trans (Cert.Att.final m c), (h c).2⟩) (Cert.KernelIdeal.Value.run_blocks m g),
    (θ_run Cert.ReferenceIdeal.defs _ _).mono (fun _ h c => ⟨(h c).1.trans (by
      rw [(hargs c).1, (hargs c).2.1, (hargs c).2.2]
      exact (Cert.Att.ref_eq _ _ _).trans (Cert.Att.value _ (@Cert.Att.pre_q Cert.Att.preFacts _ _ _ (hpre c)) (@Cert.Att.pre_k Cert.Att.preFacts _ _ _ (hpre c))).symm), (h c).2⟩)
      (Cert.ReferenceIdeal.Value.run m' g')⟩

/-- The merge's reference runs, keeps its arguments and ends quiescent. -/
theorem frame_reference2 : Cert.quiescent_Reference2Ideal (hReference2Ideal := Cert.Reference2Ideal.Gen.facts) := fun m g _ =>
  (θ_run Cert.Reference2Ideal.defs _ _).mono (fun r h => ⟨fun c => (h c).2.2.2, sem_eq_zero_of_no_sems (by decide) r.2⟩) (Cert.Reference2Ideal.Value.run m g)

/-- From the same arguments, finite but for the router's bias, the merge kernel and the reference end with equal streams, rows for
    the channel mixer and logits. -/
theorem merge : Cert.algebraic_Kernel2Ideal_Reference2Ideal_pre_finite_arguments (hKernel2Ideal := Cert.Kernel2Ideal.Gen.facts)
    (hReference2Ideal := Cert.Reference2Ideal.Gen.facts) (hPre_finite_arguments := Cert.Mrg.preFacts) := fun m g m' g' hpre hargs => by
  have hA : ∀ c, Cert.Mrg.argsR m' c = Cert.Mrg.argsK m c := fun c => by
    obtain ⟨h0, h1, h2, h3, h4, h5, h6, h7, h8, h9, h10, h11, h12, h13, h14, h15, h16, h17, h18⟩ := hargs c
    unfold Cert.Mrg.argsR Cert.Mrg.argsK
    rw [h0, h1, h2, h3, h4, h5, h6, h7, h8, h9, h10, h11, h12, h13, h14, h15, h16, h17, h18]
  have hF : ∀ c, (Cert.Mrg.argsK m c).Finite := fun c => @Cert.Mrg.pre_args Cert.Mrg.preFacts (Cert.Mrg.argsK m c) (hpre c)
  exact ⟨fun c => Cert.Mrg.K1 (Cert.Mrg.argsK m c), fun c => Cert.Mrg.K2 (Cert.Mrg.argsK m c), fun c => Cert.Mrg.K3 (Cert.Mrg.argsK m c),
    (θ_run Cert.Kernel2Ideal.defs _ _).mono (fun _ h c => ⟨(h c).1.trans (Cert.Mrg.final17 m c), (h c).2.1.trans (Cert.Mrg.final18 m c),
      (h c).2.2.1.trans (Cert.Mrg.final19 m c), (h c).2.2.2⟩) (Cert.Kernel2Ideal.Value.run_blocks m g),
    (θ_run Cert.Reference2Ideal.defs _ _).mono (fun _ h c => ⟨(h c).1.trans ((Cert.Mrg.res_x1 m' c).trans ((congrArg Cert.Mrg.Args.X1 (hA c)).trans (Cert.Mrg.k1_eq _).symm)),
      (h c).2.1.trans ((Cert.Mrg.res_h2 m' c).trans ((congrArg (fun A : Cert.Mrg.Args => truncf .bf16 A.H2 Cert.Reference2Ideal.Gen.bitsLt_bf16_f32) (hA c)).trans
        (Cert.Mrg.k2_eq _).symm)),
      (h c).2.2.1.trans ((Cert.Mrg.res_lg m' c).trans ((congrArg (fun A : Cert.Mrg.Args => Cert.Mrg.LG A.H2 A.rw A.rb) (hA c)).trans
        (Cert.Mrg.k3_eq (hF c)).symm)), (h c).2.2.2⟩)
      (Cert.Reference2Ideal.Value.run m' g')⟩

/-- The experts' reference runs, keeps its arguments and ends quiescent. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩) (Cert.Reference3Ideal.Value.run m g)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Att.preFacts, Cert.Mrg.preFacts, Cert.Pre_items_cover.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    Cert.Moe.frame3, Cert.Moe.frame3I, frame_reference3, fun m ρ _ => frame_reference3 m ρ trivial,
    trivial, attention, trivial, merge, trivial, Cert.Moe.experts⟩

end Cert.Proof

end
